-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![8, 512, 1024]⟩ ⟨3, ![32, 512, 1024]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S2048x512 : Shape := ⟨2, ![2048, 512]⟩
abbrev S512x32 : Shape := ⟨2, ![512, 32]⟩
abbrev S2048x2 : Shape := ⟨2, ![2048, 2]⟩
abbrev S8x512x1024 : Shape := ⟨3, ![8, 512, 1024]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S512x32 : S_.BroadcastsInDim S512x32 (![] : Fin 0 → Fin S512x32.rank)
  reducesTo_S512x32_S_d0_1 : S512x32.ReducesTo [0, 1] S_
  bcast_S_S2048x2 : S_.BroadcastsInDim S2048x2 (![] : Fin 0 → Fin S2048x2.rank)
  reducesTo_S2048x2_S_d0_1 : S2048x2.ReducesTo [0, 1] S_

variable [Facts]

def fn {F : FTy → Type} [FloatOps F] (main_arg0 : FVec F S2048x512 .bf16) (main_arg1 : FVec F S512x32 .bf16) (main_arg2 : IVec S2048x2 32) (main_arg3 : FVec F S8x512x1024 .bf16) : IVec S_ 1 :=
  let main_v0 : FVec F S2048x512 .bf16 := Host.absf main_arg0
  let main_cst : FVec F S_ .bf16 := constant S_ .bf16 0x7F80#16
  let main_v1 : FVec F S2048x512 .bf16 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S512x32 .bf16 := Host.absf main_arg1
  let main_cst_0 : FVec F S_ .bf16 := constant S_ .bf16 0x7F80#16
  let main_v5 : FVec F S512x32 .bf16 := broadcastInDim S512x32 ![] bcast_S_S512x32 main_cst_0
  let main_v6 : IVec S512x32 1 := cmpf .olt main_v4 main_v5
  let main_c_1 : IVec S_ 1 := constantI S_ 1 1#1
  let main_v7 : IVec S_ 1 := (fun x v => Host.reduce IntOp.andi x v reducesTo_S512x32_S_d0_1 h_S_) main_v6 main_c_1
  let main_v8 : IVec S_ 1 := andi main_v3 main_v7
  let main_c_2 : IVec S_ 32 := constantI S_ 32 0#32
  let main_v9 : IVec S2048x2 32 := broadcastInDim S2048x2 ![] bcast_S_S2048x2 main_c_2
  let main_v10 : IVec S2048x2 1 := cmpi .sge main_arg2 main_v9
  let main_c_3 : IVec S_ 32 := constantI S_ 32 32#32
  let main_v11 : IVec S2048x2 32 := broadcastInDim S2048x2 ![] bcast_S_S2048x2 main_c_3
  let main_v12 : IVec S2048x2 1 := cmpi .slt main_arg2 main_v11
  let main_v13 : IVec S2048x2 1 := andi main_v10 main_v12
  let main_c_4 : IVec S_ 1 := constantI S_ 1 1#1
  let main_v14 : IVec S_ 1 := (fun x v => Host.reduce IntOp.andi x v reducesTo_S2048x2_S_d0_1 h_S_) main_v13 main_c_4
  let main_v15 : IVec S_ 1 := andi main_v8 main_v14
  main_v15
-- ==== Pre_routed_ReferenceIdeal.lean ====
abbrev S2048x512 : Shape := ⟨2, ![2048, 512]⟩
abbrev S512x32 : Shape := ⟨2, ![512, 32]⟩
abbrev S2048x2 : Shape := ⟨2, ![2048, 2]⟩
abbrev S32x512x1024 : Shape := ⟨3, ![32, 512, 1024]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S512x32 : S_.BroadcastsInDim S512x32 (![] : Fin 0 → Fin S512x32.rank)
  reducesTo_S512x32_S_d0_1 : S512x32.ReducesTo [0, 1] S_
  bcast_S_S2048x2 : S_.BroadcastsInDim S2048x2 (![] : Fin 0 → Fin S2048x2.rank)
  reducesTo_S2048x2_S_d0_1 : S2048x2.ReducesTo [0, 1] S_

variable [Facts]

def fn {F : FTy → Type} [FloatOps F] (main_arg0 : FVec F S2048x512 .bf16) (main_arg1 : FVec F S512x32 .bf16) (main_arg2 : IVec S2048x2 32) (main_arg3 : FVec F S32x512x1024 .bf16) : IVec S_ 1 :=
  let main_v0 : FVec F S2048x512 .bf16 := Host.absf main_arg0
  let main_cst : FVec F S_ .bf16 := constant S_ .bf16 0x7F80#16
  let main_v1 : FVec F S2048x512 .bf16 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S512x32 .bf16 := Host.absf main_arg1
  let main_cst_0 : FVec F S_ .bf16 := constant S_ .bf16 0x7F80#16
  let main_v5 : FVec F S512x32 .bf16 := broadcastInDim S512x32 ![] bcast_S_S512x32 main_cst_0
  let main_v6 : IVec S512x32 1 := cmpf .olt main_v4 main_v5
  let main_c_1 : IVec S_ 1 := constantI S_ 1 1#1
  let main_v7 : IVec S_ 1 := (fun x v => Host.reduce IntOp.andi x v reducesTo_S512x32_S_d0_1 h_S_) main_v6 main_c_1
  let main_v8 : IVec S_ 1 := andi main_v3 main_v7
  let main_c_2 : IVec S_ 32 := constantI S_ 32 0#32
  let main_v9 : IVec S2048x2 32 := broadcastInDim S2048x2 ![] bcast_S_S2048x2 main_c_2
  let main_v10 : IVec S2048x2 1 := cmpi .sge main_arg2 main_v9
  let main_c_3 : IVec S_ 32 := constantI S_ 32 32#32
  let main_v11 : IVec S2048x2 32 := broadcastInDim S2048x2 ![] bcast_S_S2048x2 main_c_3
  let main_v12 : IVec S2048x2 1 := cmpi .slt main_arg2 main_v11
  let main_v13 : IVec S2048x2 1 := andi main_v10 main_v12
  let main_c_4 : IVec S_ 1 := constantI S_ 1 1#1
  let main_v14 : IVec S_ 1 := (fun x v => Host.reduce IntOp.andi x v reducesTo_S2048x2_S_d0_1 h_S_) main_v13 main_c_4
  let main_v15 : IVec S_ 1 := andi main_v8 main_v14
  main_v15
-- ==== Kernel.lean ====
abbrev S2048x512 : Shape := ⟨2, ![2048, 512]⟩
abbrev S512x32 : Shape := ⟨2, ![512, 32]⟩
abbrev S2048x2 : Shape := ⟨2, ![2048, 2]⟩
abbrev S8x512x1024 : Shape := ⟨3, ![8, 512, 1024]⟩
abbrev S2048x1024 : Shape := ⟨2, ![2048, 1024]⟩
abbrev S2048x4096 : Shape := ⟨2, ![2048, 4096]⟩
abbrev S2x3x512x512 : Shape := ⟨4, ![2, 3, 512, 512]⟩
abbrev S2x9 : Shape := ⟨2, ![2, 9]⟩
abbrev S4096x1024 : Shape := ⟨2, ![4096, 1024]⟩
abbrev S512x512 : Shape := ⟨2, ![512, 512]⟩
abbrev S512 : Shape := ⟨1, ![512]⟩
abbrev S512x1 : Shape := ⟨2, ![512, 1]⟩
abbrev S512x2 : Shape := ⟨2, ![512, 2]⟩
abbrev S1x8 : Shape := ⟨2, ![1, 8]⟩
abbrev S512x8 : Shape := ⟨2, ![512, 8]⟩
abbrev S512x4096 : Shape := ⟨2, ![512, 4096]⟩
abbrev S4096x512 : Shape := ⟨2, ![4096, 512]⟩
abbrev S_ : Shape := ⟨0, ![]⟩
abbrev S1x1 : Shape := ⟨2, ![1, 1]⟩
abbrev S1x1x512x512 : Shape := ⟨4, ![1, 1, 512, 512]⟩
abbrev S256x512 : Shape := ⟨2, ![256, 512]⟩

abbrev nBuf : Space → Nat
  | .hbm => 5
  | .vmem => 7
  | .smem => 0
  | _ => 0

abbrev bufTy : (tb : Table) → Fin (tcTables nBuf tb) → BufTy
  | .hbm, ⟨0, _⟩ => ⟨S2048x512, .bf16⟩
  | .hbm, ⟨1, _⟩ => ⟨S512x32, .bf16⟩
  | .hbm, ⟨2, _⟩ => ⟨S2048x2, .i32⟩
  | .hbm, ⟨3, _⟩ => ⟨S8x512x1024, .bf16⟩
  | .hbm, ⟨4, _⟩ => ⟨S2048x1024, .bf16⟩
  | .local _ .vmem, ⟨0, _⟩ => ⟨S2048x512, .bf16⟩
  | .local _ .vmem, ⟨1, _⟩ => ⟨S512x32, .bf16⟩
  | .local _ .vmem, ⟨2, _⟩ => ⟨S2048x2, .i32⟩
  | .local _ .vmem, ⟨3, _⟩ => ⟨S8x512x1024, .bf16⟩
  | .local _ .vmem, ⟨4, _⟩ => ⟨S2048x1024, .bf16⟩
  | .local _ .vmem, ⟨5, _⟩ => ⟨S2048x4096, .bf16⟩
  | .local _ .vmem, ⟨6, _⟩ => ⟨S2x3x512x512, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 2 → Bool
  | ⟨0, _⟩ => false
  | ⟨1, _⟩ => true
  | _ => false

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  (ofTc nBuf bufTy 2 41 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_7 : BitVec 32 := 4#32
  let v11 : BitVec 32 := Scalar.remsi v2 c4_i32_7
  let c512_i32 : BitVec 32 := 512#32
  let v12 : BitVec 32 := Scalar.muli v11 c512_i32
  let v13 : Index := Scalar.indexCast v12
  let c0_8 : Index := 0#32
  ![v13.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_7 : BitVec 32 := 4#32
  let v11 : BitVec 32 := Scalar.remsi v2 c4_i32_7
  let c512_i32 : BitVec 32 := 512#32
  let v12 : BitVec 32 := Scalar.muli v11 c512_i32
  let v28 : Index := Scalar.indexCast v12
  let c0_13 : Index := 0#32
  ![v28.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_7 : BitVec 32 := 4#32
  let v11 : BitVec 32 := Scalar.remsi v2 c4_i32_7
  let c512_i32 : BitVec 32 := 512#32
  let v12 : BitVec 32 := Scalar.muli v11 c512_i32
  let v94 : Index := Scalar.indexCast v12
  let c0_20 : Index := 0#32
  ![v94.toNat, 0]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_21 : BitVec 32 := 4#32
  let v98 : BitVec 32 := Scalar.remsi v2 c4_i32_21
  let c512_i32_22 : BitVec 32 := 512#32
  let v99 : BitVec 32 := Scalar.muli v98 c512_i32_22
  let v105 : Index := Scalar.indexCast v99
  let c0_25 : Index := 0#32
  ![v105.toNat, 0]
def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_27 : BitVec 32 := 1#32
  let v108 : BitVec 32 := Scalar.muli v5 c1_i32_27
  let v109 : BitVec 32 := Scalar.addi c0_i32 v108
  v109.toNat
def k0_dev2 (d0 : Dev nD) : Nat :=
  let c0_i32_30 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_29 : BitVec 32 := 1#32
  let v110 : BitVec 32 := Scalar.muli v7 c1_i32_29
  let v111 : BitVec 32 := Scalar.addi c0_i32_30 v110
  v111.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_31 : BitVec 32 := 4#32
  let v112 : BitVec 32 := Scalar.remsi v2 c4_i32_31
  let c512_i32_32 : BitVec 32 := 512#32
  let v113 : BitVec 32 := Scalar.muli v112 c512_i32_32
  let c0_i32_43 : BitVec 32 := 0#32
  ![v113.toNat, 0]
def k0_dev3 (d0 : Dev nD) : Nat :=
  let c0_i32_40 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_39 : BitVec 32 := 1#32
  let v114 : BitVec 32 := Scalar.muli v7 c1_i32_39
  let v115 : BitVec 32 := Scalar.addi c0_i32_40 v114
  v115.toNat
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_44 : BitVec 32 := 4#32
  let v123 : BitVec 32 := Scalar.remsi v2 c4_i32_44
  let c512_i32_45 : BitVec 32 := 512#32
  let v124 : BitVec 32 := Scalar.muli v123 c512_i32_45
  let v130 : Index := Scalar.indexCast v124
  let c512 : Index := 512#32
  ![v130.toNat, 512]
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_48 : BitVec 32 := 4#32
  let v132 : BitVec 32 := Scalar.remsi v2 c4_i32_48
  let c512_i32_49 : BitVec 32 := 512#32
  let v133 : BitVec 32 := Scalar.muli v132 c512_i32_49
  let c512_i32_60 : BitVec 32 := 512#32
  ![v133.toNat, 512]
def k0_dev4 (d0 : Dev nD) : Nat :=
  let c0_i32_57 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_56 : BitVec 32 := 1#32
  let v134 : BitVec 32 := Scalar.muli v5 c1_i32_56
  let v135 : BitVec 32 := Scalar.addi c0_i32_57 v134
  v135.toNat
def k0_off8 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_61 : BitVec 32 := 4#32
  let v143 : BitVec 32 := Scalar.addi v2 c4_i32_61
  let c1_i32_62 : BitVec 32 := 1#32
  let v144 : BitVec 32 := Scalar.subi v143 c1_i32_62
  let c4_i32_63 : BitVec 32 := 4#32
  let v145 : BitVec 32 := Scalar.remsi v144 c4_i32_63
  let c512_i32_64 : BitVec 32 := 512#32
  let v146 : BitVec 32 := Scalar.muli v145 c512_i32_64
  let v147 : Index := Scalar.indexCast v146
  let c0_65 : Index := 0#32
  ![v147.toNat, 0]
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_61 : BitVec 32 := 4#32
  let v143 : BitVec 32 := Scalar.addi v2 c4_i32_61
  let c1_i32_62 : BitVec 32 := 1#32
  let v144 : BitVec 32 := Scalar.subi v143 c1_i32_62
  let c4_i32_63 : BitVec 32 := 4#32
  let v145 : BitVec 32 := Scalar.remsi v144 c4_i32_63
  let c512_i32_64 : BitVec 32 := 512#32
  let v146 : BitVec 32 := Scalar.muli v145 c512_i32_64
  let v162 : Index := Scalar.indexCast v146
  let c0_71 : Index := 0#32
  ![v162.toNat, 0]
def k0_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_61 : BitVec 32 := 4#32
  let v143 : BitVec 32 := Scalar.addi v2 c4_i32_61
  let c1_i32_62 : BitVec 32 := 1#32
  let v144 : BitVec 32 := Scalar.subi v143 c1_i32_62
  let c4_i32_63 : BitVec 32 := 4#32
  let v145 : BitVec 32 := Scalar.remsi v144 c4_i32_63
  let c512_i32_64 : BitVec 32 := 512#32
  let v146 : BitVec 32 := Scalar.muli v145 c512_i32_64
  let v228 : Index := Scalar.indexCast v146
  let c0_79 : Index := 0#32
  ![v228.toNat, 0]
def k0_off11 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_80 : BitVec 32 := 4#32
  let v232 : BitVec 32 := Scalar.addi v2 c4_i32_80
  let c1_i32_81 : BitVec 32 := 1#32
  let v233 : BitVec 32 := Scalar.subi v232 c1_i32_81
  let c4_i32_82 : BitVec 32 := 4#32
  let v234 : BitVec 32 := Scalar.remsi v233 c4_i32_82
  let c512_i32_83 : BitVec 32 := 512#32
  let v235 : BitVec 32 := Scalar.muli v234 c512_i32_83
  let v241 : Index := Scalar.indexCast v235
  let c0_86 : Index := 0#32
  ![v241.toNat, 0]
def k0_off12 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_118 : BitVec 32 := 4#32
  let v267 : BitVec 32 := Scalar.addi v2 c4_i32_118
  let c1_i32_119 : BitVec 32 := 1#32
  let v268 : BitVec 32 := Scalar.subi v267 c1_i32_119
  let c4_i32_120 : BitVec 32 := 4#32
  let v269 : BitVec 32 := Scalar.remsi v268 c4_i32_120
  let c512_i32_121 : BitVec 32 := 512#32
  let v270 : BitVec 32 := Scalar.muli v269 c512_i32_121
  let c0_i32_132 : BitVec 32 := 0#32
  ![v270.toNat, 0]
def k0_dev5 (d0 : Dev nD) : Nat :=
  let c0_i32_129 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_128 : BitVec 32 := 1#32
  let v271 : BitVec 32 := Scalar.muli v7 c1_i32_128
  let v272 : BitVec 32 := Scalar.addi c0_i32_129 v271
  v272.toNat
def k0_off13 (d0 : Dev nD) (c1_i32_133 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v280 : BitVec 32 := Scalar.addi v2 c1_i32_133
  let c4_i32_134 : BitVec 32 := 4#32
  let v281 : BitVec 32 := Scalar.remsi v280 c4_i32_134
  let c512_i32_135 : BitVec 32 := 512#32
  let v282 : BitVec 32 := Scalar.muli v281 c512_i32_135
  let v283 : Index := Scalar.indexCast v282
  let c0_136 : Index := 0#32
  ![v283.toNat, 0]
def k0_off14 (d0 : Dev nD) (c1_i32_133 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v280 : BitVec 32 := Scalar.addi v2 c1_i32_133
  let c4_i32_134 : BitVec 32 := 4#32
  let v281 : BitVec 32 := Scalar.remsi v280 c4_i32_134
  let c512_i32_135 : BitVec 32 := 512#32
  let v282 : BitVec 32 := Scalar.muli v281 c512_i32_135
  let v298 : Index := Scalar.indexCast v282
  let c0_142 : Index := 0#32
  ![v298.toNat, 0]
def k0_off15 (d0 : Dev nD) (c1_i32_133 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v280 : BitVec 32 := Scalar.addi v2 c1_i32_133
  let c4_i32_134 : BitVec 32 := 4#32
  let v281 : BitVec 32 := Scalar.remsi v280 c4_i32_134
  let c512_i32_135 : BitVec 32 := 512#32
  let v282 : BitVec 32 := Scalar.muli v281 c512_i32_135
  let v364 : Index := Scalar.indexCast v282
  let c0_150 : Index := 0#32
  ![v364.toNat, 0]
def k0_off16 (d0 : Dev nD) (c1_i32_151 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v368 : BitVec 32 := Scalar.addi v2 c1_i32_151
  let c4_i32_152 : BitVec 32 := 4#32
  let v369 : BitVec 32 := Scalar.remsi v368 c4_i32_152
  let c512_i32_153 : BitVec 32 := 512#32
  let v370 : BitVec 32 := Scalar.muli v369 c512_i32_153
  let v376 : Index := Scalar.indexCast v370
  let c512_156 : Index := 512#32
  ![v376.toNat, 512]
def k0_off17 (d0 : Dev nD) (c1_i32_186 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v401 : BitVec 32 := Scalar.addi v2 c1_i32_186
  let c4_i32_187 : BitVec 32 := 4#32
  let v402 : BitVec 32 := Scalar.remsi v401 c4_i32_187
  let c512_i32_188 : BitVec 32 := 512#32
  let v403 : BitVec 32 := Scalar.muli v402 c512_i32_188
  let c512_i32_199 : BitVec 32 := 512#32
  ![v403.toNat, 512]
def k0_dev6 (d0 : Dev nD) : Nat :=
  let c0_i32_196 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_195 : BitVec 32 := 1#32
  let v404 : BitVec 32 := Scalar.muli v5 c1_i32_195
  let v405 : BitVec 32 := Scalar.addi c0_i32_196 v404
  v405.toNat
def k0_off18 (d0 : Dev nD) (c2_i32_218 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v501 : BitVec 32 := Scalar.addi v2 c2_i32_218
  let c4_i32_219 : BitVec 32 := 4#32
  let v502 : BitVec 32 := Scalar.remsi v501 c4_i32_219
  let c512_i32_220 : BitVec 32 := 512#32
  let v503 : BitVec 32 := Scalar.muli v502 c512_i32_220
  let v509 : Index := Scalar.indexCast v503
  let c0_223 : Index := 0#32
  ![v509.toNat, 0]
def k0_off19 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_254 : BitVec 32 := 2#32
  let v534 : BitVec 32 := Scalar.addi v2 c2_i32_254
  let c4_i32_255 : BitVec 32 := 4#32
  let v535 : BitVec 32 := Scalar.remsi v534 c4_i32_255
  let c512_i32_256 : BitVec 32 := 512#32
  let v536 : BitVec 32 := Scalar.muli v535 c512_i32_256
  let c0_i32_267 : BitVec 32 := 0#32
  ![v536.toNat, 0]
def k0_dev7 (d0 : Dev nD) : Nat :=
  let c0_i32_264 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_263 : BitVec 32 := 1#32
  let v537 : BitVec 32 := Scalar.muli v7 c1_i32_263
  let v538 : BitVec 32 := Scalar.addi c0_i32_264 v537
  v538.toNat
def k0_dev8 (d0 : Dev nD) : Nat :=
  let c0_i32_314 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_313 : BitVec 32 := 1#32
  let v582 : BitVec 32 := Scalar.muli v5 c1_i32_313
  let v583 : BitVec 32 := Scalar.addi c0_i32_314 v582
  v583.toNat
def k0_off20 (d0 : Dev nD) (c0_i32_357 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_353 : BitVec 32 := 4#32
  let v624 : BitVec 32 := Scalar.addi v2 c4_i32_353
  let c1_i32_354 : BitVec 32 := 1#32
  let v625 : BitVec 32 := Scalar.addi v624 c1_i32_354
  let c4_i32_355 : BitVec 32 := 4#32
  let v626 : BitVec 32 := Scalar.remsi v625 c4_i32_355
  let c512_i32_356 : BitVec 32 := 512#32
  let v627 : BitVec 32 := Scalar.muli v626 c512_i32_356
  let v628 : BitVec 32 := Scalar.addi v627 c0_i32_357
  let c0_i32_363 : BitVec 32 := 0#32
  ![v628.toNat, 0]
def k0_dev9 (d0 : Dev nD) : Nat :=
  let c0_i32_362 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_361 : BitVec 32 := 1#32
  let v629 : BitVec 32 := Scalar.muli v7 c1_i32_361
  let v630 : BitVec 32 := Scalar.addi c0_i32_362 v629
  v630.toNat
def k0_dev10 (d0 : Dev nD) : Nat :=
  let c0_i32_374 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_373 : BitVec 32 := 1#32
  let v642 : BitVec 32 := Scalar.muli v7 c1_i32_373
  let v643 : BitVec 32 := Scalar.addi c0_i32_374 v642
  v643.toNat
def k0_off21 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_377 : BitVec 32 := 4#32
  let v650 : BitVec 32 := Scalar.addi v2 c4_i32_377
  let c1_i32_378 : BitVec 32 := 1#32
  let v651 : BitVec 32 := Scalar.subi v650 c1_i32_378
  let c4_i32_379 : BitVec 32 := 4#32
  let v652 : BitVec 32 := Scalar.remsi v651 c4_i32_379
  let c512_i32_380 : BitVec 32 := 512#32
  let v653 : BitVec 32 := Scalar.muli v652 c512_i32_380
  let v659 : Index := Scalar.indexCast v653
  let c512_383 : Index := 512#32
  ![v659.toNat, 512]
def k0_off22 (d0 : Dev nD) (c0_i32_419 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_415 : BitVec 32 := 4#32
  let v685 : BitVec 32 := Scalar.addi v2 c4_i32_415
  let c1_i32_416 : BitVec 32 := 1#32
  let v686 : BitVec 32 := Scalar.subi v685 c1_i32_416
  let c4_i32_417 : BitVec 32 := 4#32
  let v687 : BitVec 32 := Scalar.remsi v686 c4_i32_417
  let c512_i32_418 : BitVec 32 := 512#32
  let v688 : BitVec 32 := Scalar.muli v687 c512_i32_418
  let v689 : BitVec 32 := Scalar.addi v688 c0_i32_419
  let c512_i32_426 : BitVec 32 := 512#32
  ![v689.toNat, 512]
def k0_dev11 (d0 : Dev nD) : Nat :=
  let c0_i32_425 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_424 : BitVec 32 := 1#32
  let v690 : BitVec 32 := Scalar.muli v5 c1_i32_424
  let v691 : BitVec 32 := Scalar.addi c0_i32_425 v690
  v691.toNat
def k0_dev12 (d0 : Dev nD) : Nat :=
  let c0_i32_438 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_437 : BitVec 32 := 1#32
  let v703 : BitVec 32 := Scalar.muli v5 c1_i32_437
  let v704 : BitVec 32 := Scalar.addi c0_i32_438 v703
  v704.toNat
def k0_off23 (d0 : Dev nD) (c0_i32_442 : BitVec 32) (c0_i32_445 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_441 : BitVec 32 := 4#32
  let v711 : BitVec 32 := Scalar.addi v2 c4_i32_441
  let v712 : BitVec 32 := Scalar.subi v711 c0_i32_442
  let c4_i32_443 : BitVec 32 := 4#32
  let v713 : BitVec 32 := Scalar.remsi v712 c4_i32_443
  let c512_i32_444 : BitVec 32 := 512#32
  let v714 : BitVec 32 := Scalar.muli v713 c512_i32_444
  let v715 : BitVec 32 := Scalar.addi v714 c0_i32_445
  let c0_i32_452 : BitVec 32 := 0#32
  ![v715.toNat, 0]
def k0_off24 (d0 : Dev nD) (c1_i32_456 : BitVec 32) (c0_i32_459 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_454 : BitVec 32 := 4#32
  let v722 : BitVec 32 := Scalar.addi v2 c4_i32_454
  let c1_i32_455 : BitVec 32 := 1#32
  let v723 : BitVec 32 := Scalar.addi v722 c1_i32_455
  let v724 : BitVec 32 := Scalar.subi v723 c1_i32_456
  let c4_i32_457 : BitVec 32 := 4#32
  let v725 : BitVec 32 := Scalar.remsi v724 c4_i32_457
  let c512_i32_458 : BitVec 32 := 512#32
  let v726 : BitVec 32 := Scalar.muli v725 c512_i32_458
  let v727 : BitVec 32 := Scalar.addi v726 c0_i32_459
  let c0_i32_465 : BitVec 32 := 0#32
  ![v727.toNat, 0]
def k0_dev13 (d0 : Dev nD) : Nat :=
  let c0_i32_464 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_463 : BitVec 32 := 1#32
  let v728 : BitVec 32 := Scalar.muli v7 c1_i32_463
  let v729 : BitVec 32 := Scalar.addi c0_i32_464 v728
  v729.toNat
def k0_off25 (d0 : Dev nD) (c0_i32_467 : BitVec 32) (c0_i32_470 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v736 : BitVec 32 := Scalar.addi v2 c0_i32_467
  let c4_i32_468 : BitVec 32 := 4#32
  let v737 : BitVec 32 := Scalar.remsi v736 c4_i32_468
  let c512_i32_469 : BitVec 32 := 512#32
  let v738 : BitVec 32 := Scalar.muli v737 c512_i32_469
  let v739 : BitVec 32 := Scalar.addi v738 c0_i32_470
  let c512_i32_477 : BitVec 32 := 512#32
  ![v739.toNat, 512]
def k0_off26 (d0 : Dev nD) (c1_i32_481 : BitVec 32) (c0_i32_484 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_479 : BitVec 32 := 4#32
  let v746 : BitVec 32 := Scalar.addi v2 c4_i32_479
  let c1_i32_480 : BitVec 32 := 1#32
  let v747 : BitVec 32 := Scalar.subi v746 c1_i32_480
  let v748 : BitVec 32 := Scalar.addi v747 c1_i32_481
  let c4_i32_482 : BitVec 32 := 4#32
  let v749 : BitVec 32 := Scalar.remsi v748 c4_i32_482
  let c512_i32_483 : BitVec 32 := 512#32
  let v750 : BitVec 32 := Scalar.muli v749 c512_i32_483
  let v751 : BitVec 32 := Scalar.addi v750 c0_i32_484
  let c512_i32_491 : BitVec 32 := 512#32
  ![v751.toNat, 512]
def k0_dev14 (d0 : Dev nD) : Nat :=
  let c0_i32_490 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_489 : BitVec 32 := 1#32
  let v752 : BitVec 32 := Scalar.muli v5 c1_i32_489
  let v753 : BitVec 32 := Scalar.addi c0_i32_490 v752
  v753.toNat
def k0_dev15 (d0 : Dev nD) : Nat :=
  let c0_i32_516 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_515 : BitVec 32 := 1#32
  let v777 : BitVec 32 := Scalar.muli v7 c1_i32_515
  let v778 : BitVec 32 := Scalar.addi c0_i32_516 v777
  v778.toNat
def k0_dev16 (d0 : Dev nD) : Nat :=
  let c0_i32_542 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_541 : BitVec 32 := 1#32
  let v801 : BitVec 32 := Scalar.muli v5 c1_i32_541
  let v802 : BitVec 32 := Scalar.addi c0_i32_542 v801
  v802.toNat
def k0_dev17 (d0 : Dev nD) : Nat :=
  let c0_i32_568 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_567 : BitVec 32 := 1#32
  let v826 : BitVec 32 := Scalar.muli v7 c1_i32_567
  let v827 : BitVec 32 := Scalar.addi c0_i32_568 v826
  v827.toNat
def k0_dev18 (d0 : Dev nD) : Nat :=
  let c0_i32_594 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_593 : BitVec 32 := 1#32
  let v850 : BitVec 32 := Scalar.muli v5 c1_i32_593
  let v851 : BitVec 32 := Scalar.addi c0_i32_594 v850
  v851.toNat
def k0_dev19 (d0 : Dev nD) : Nat :=
  let c0_i32_621 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_620 : BitVec 32 := 1#32
  let v875 : BitVec 32 := Scalar.muli v7 c1_i32_620
  let v876 : BitVec 32 := Scalar.addi c0_i32_621 v875
  v876.toNat
def k0_dev20 (d0 : Dev nD) : Nat :=
  let c0_i32_647 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_646 : BitVec 32 := 1#32
  let v899 : BitVec 32 := Scalar.muli v5 c1_i32_646
  let v900 : BitVec 32 := Scalar.addi c0_i32_647 v899
  v900.toNat
def k0_dev21 (d0 : Dev nD) : Nat :=
  let c0_i32_786_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_785_r0 : BitVec 32 := 1#32
  let v998_r0 : BitVec 32 := Scalar.muli v5 c1_i32_785_r0
  let v999_r0 : BitVec 32 := Scalar.addi c0_i32_786_r0 v998_r0
  v999_r0.toNat
def k0_dev22 (d0 : Dev nD) : Nat :=
  let c0_i32_789_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_788_r0 : BitVec 32 := 1#32
  let v1000_r0 : BitVec 32 := Scalar.muli v7 c1_i32_788_r0
  let v1001_r0 : BitVec 32 := Scalar.addi c0_i32_789_r0 v1000_r0
  v1001_r0.toNat
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S2048x512 : Shape := ⟨2, ![2048, 512]⟩
abbrev S512x32 : Shape := ⟨2, ![512, 32]⟩
abbrev S2048x2 : Shape := ⟨2, ![2048, 2]⟩
abbrev S32x512x1024 : Shape := ⟨3, ![32, 512, 1024]⟩
abbrev S2048x32 : Shape := ⟨2, ![2048, 32]⟩
abbrev S_ : Shape := ⟨0, ![]⟩
abbrev S2048 : Shape := ⟨1, ![2048]⟩
abbrev S2048x1 : Shape := ⟨2, ![2048, 1]⟩
abbrev S2048x2x1 : Shape := ⟨3, ![2048, 2, 1]⟩
abbrev S2048x512x1024 : Shape := ⟨3, ![2048, 512, 1024]⟩
abbrev S2048x1024 : Shape := ⟨2, ![2048, 1024]⟩

abbrev nBuf : Space → Nat
  | .hbm => 63
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S512x32, .bf16⟩
  | .hbm, ⟨2, _⟩ => ⟨S2048x2, .i32⟩
  | .hbm, ⟨3, _⟩ => ⟨S32x512x1024, .bf16⟩
  | .hbm, ⟨4, _⟩ => ⟨S2048x512, .f32⟩
  | .hbm, ⟨5, _⟩ => ⟨S32x512x1024, .f32⟩
  | .hbm, ⟨6, _⟩ => ⟨S512x32, .f32⟩
  | .hbm, ⟨7, _⟩ => ⟨S2048x32, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S2048x32, .f32⟩
  | .hbm, ⟨12, _⟩ => ⟨S2048x32, .f32⟩
  | .hbm, ⟨13, _⟩ => ⟨S2048x32, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S2048x32, .f32⟩
  | .hbm, ⟨18, _⟩ => ⟨S2048x32, .f32⟩
  | .hbm, ⟨19, _⟩ => ⟨S2048x1, .i32⟩
  | .hbm, ⟨20, _⟩ => ⟨S2048, .i32⟩
  | .hbm, ⟨21, _⟩ => ⟨S2048x1, .i32⟩
  | .hbm, ⟨22, _⟩ => ⟨S2048, .i32⟩
  | .hbm, ⟨23, _⟩ => ⟨S_, .i32⟩
  | .hbm, ⟨24, _⟩ => ⟨S2048x2, .i32⟩
  | .hbm, ⟨25, _⟩ => ⟨S2048x2, .i1⟩
  | .hbm, ⟨26, _⟩ => ⟨S_, .i32⟩
  | .hbm, ⟨27, _⟩ => ⟨S2048x2, .i32⟩
  | .hbm, ⟨28, _⟩ => ⟨S2048x2, .i32⟩
  | .hbm, ⟨29, _⟩ => ⟨S2048x2, .i32⟩
  | .hbm, ⟨30, _⟩ => ⟨S2048x2x1, .i32⟩
  | .hbm, ⟨31, _⟩ => ⟨S2048x2, .f32⟩
  | .hbm, ⟨32, _⟩ => ⟨S2048x1, .f32⟩
  | .hbm, ⟨33, _⟩ => ⟨S2048x1, .f32⟩
  | .hbm, ⟨34, _⟩ => ⟨S2048x1, .f32⟩
  | .hbm, ⟨35, _⟩ => ⟨S_, .i32⟩
  | .hbm, ⟨36, _⟩ => ⟨S2048, .i32⟩
  | .hbm, ⟨37, _⟩ => ⟨S2048, .i1⟩
  | .hbm, ⟨38, _⟩ => ⟨S_, .i32⟩
  | .hbm, ⟨39, _⟩ => ⟨S2048, .i32⟩
  | .hbm, ⟨40, _⟩ => ⟨S2048, .i32⟩
  | .hbm, ⟨41, _⟩ => ⟨S2048, .i32⟩
  | .hbm, ⟨42, _⟩ => ⟨S2048x1, .i32⟩
  | .hbm, ⟨43, _⟩ => ⟨S2048x512x1024, .f32⟩
  | .hbm, ⟨44, _⟩ => ⟨S2048x1024, .f32⟩
  | .hbm, ⟨45, _⟩ => ⟨S_, .i32⟩
  | .hbm, ⟨46, _⟩ => ⟨S2048, .i32⟩
  | .hbm, ⟨47, _⟩ => ⟨S2048, .i1⟩
  | .hbm, ⟨48, _⟩ => ⟨S_, .i32⟩
  | .hbm, ⟨49, _⟩ => ⟨S2048, .i32⟩
  | .hbm, ⟨50, _⟩ => ⟨S2048, .i32⟩
  | .hbm, ⟨51, _⟩ => ⟨S2048, .i32⟩
  | .hbm, ⟨52, _⟩ => ⟨S2048x1, .i32⟩
  | .hbm, ⟨53, _⟩ => ⟨S2048x512x1024, .f32⟩
  | .hbm, ⟨54, _⟩ => ⟨S2048x1024, .f32⟩
  | .hbm, ⟨55, _⟩ => ⟨S2048x1, .f32⟩
  | .hbm, ⟨56, _⟩ => ⟨S2048x1024, .f32⟩
  | .hbm, ⟨57, _⟩ => ⟨S2048x1024, .f32⟩
  | .hbm, ⟨58, _⟩ => ⟨S2048x1, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S2048x1024, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c : Ref sig .tc := ⟨.hbm, 35, rfl⟩
abbrev main_v21 : Ref sig .tc := ⟨.hbm, 36, rfl⟩
abbrev main_v22 : Ref sig .tc := ⟨.hbm, 37, rfl⟩
abbrev main_c_1 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_2 : Ref sig .tc := ⟨.hbm, 45, rfl⟩
abbrev main_v29 : Ref sig .tc := ⟨.hbm, 46, rfl⟩
abbrev main_v30 : Ref sig .tc := ⟨.hbm, 47, rfl⟩
abbrev main_c_3 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩

abbrev nD : Nat := 1
abbrev τ : Topo := Topo.v7x

variable {F : FTy → Type} [FloatOps F]
-- ==== Proof.Geometry.lean ====
/-
# The ring, the regions and the contents

The four devices stand on a ring. Work is cut into 4 chunks of 512 rows by 2 rings of 512 columns; ring 0 travels
towards the next device, ring 1 towards the previous one. Chunk `k` of ring `h` starts at device `k`, visits
`fw h k 1`, `fw h k 2`, `fw h k 3` while it is summed, and is handed round in the same order once it is whole.

This file names the regions of the three buffers the kernel works on and the contents each of them takes.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Memref
public import Idealize.ShloMosaic.Lib.Pipeline.Launch
public import Idealize.ShloMosaic.Lib.Pipeline.Kit
public import Idealize.ShloMosaic.Lib.Tactic

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ring -/

/-- The device `n` places along ring `h` from device `c`: ring 0 goes up, ring 1 goes down. -/
def fw (h : Fin 2) (c : Dev nD) (n : ℕ) : Dev nD := ⟨(c.val + n * (2 * h.val + 1)) % 4, Nat.mod_lt _ (by decide)⟩
/-- The device `n` places back along ring `h` from device `c`. -/
def bw (h : Fin 2) (c : Dev nD) (n : ℕ) : Dev nD := ⟨(c.val + n * (3 - 2 * h.val)) % 4, Nat.mod_lt _ (by decide)⟩

theorem fw_val (h : Fin 2) (c : Dev nD) (n : ℕ) : (fw h c n).val = (c.val + n * (2 * h.val + 1)) % 4 := rfl
theorem bw_val (h : Fin 2) (c : Dev nD) (n : ℕ) : (bw h c n).val = (c.val + n * (3 - 2 * h.val)) % 4 := rfl

theorem fw_bw (h : Fin 2) (c : Dev nD) (n : ℕ) : fw h (bw h c n) n = c := by
  have := c.isLt; have hn : nD = 4 := rfl
  apply Fin.ext; rw [fw_val, bw_val]
  fin_cases h <;> simp <;> omega
theorem bw_fw (h : Fin 2) (c : Dev nD) (n : ℕ) : bw h (fw h c n) n = c := by
  have := c.isLt; have hn : nD = 4 := rfl
  apply Fin.ext; rw [bw_val, fw_val]
  fin_cases h <;> simp <;> omega
theorem fw_fw (h : Fin 2) (c : Dev nD) (a b : ℕ) : fw h (fw h c a) b = fw h c (a + b) := by
  apply Fin.ext; simp only [fw_val, Nat.add_mul]; omega
theorem fw_bw_succ (h : Fin 2) (c : Dev nD) (n : ℕ) : fw h (bw h c n) (n + 1) = fw h c 1 := by
  rw [← fw_fw, fw_bw]
theorem bw_succ (h : Fin 2) (c : Dev nD) (n : ℕ) : bw h (fw h c 1) (n + 1) = bw h c n := by
  have := c.isLt; have hn : nD = 4 := rfl
  apply Fin.ext; rw [bw_val, bw_val, fw_val]
  fin_cases h <;> simp <;> omega
theorem fw_zero (h : Fin 2) (c : Dev nD) : fw h c 0 = c := by
  have := c.isLt; have hn : nD = 4 := rfl
  apply Fin.ext; rw [fw_val]; omega

/-- Stepping along ring `h`, as a permutation of the devices. -/
def turn (h : Fin 2) : Dev nD ≃ Dev nD := ⟨fun c => fw h c 1, fun c => bw h c 1, fun c => bw_fw h c 1, fun c => fw_bw h c 1⟩

/-! ## The memrefs and their regions -/

abbrev xM : Memref sig .tc .vmem S2048x512 .bf16 := Memref.whole cc0_stg0_0
abbrev rM : Memref sig .tc .vmem S512x32 .bf16 := Memref.whole cc0_stg1_0
abbrev iM : Memref sig .tc .vmem S2048x2 .i32 := Memref.whole cc0_stg2_0
abbrev wM : Memref sig .tc .vmem S8x512x1024 .bf16 := Memref.whole cc0_stg3_0
abbrev oM : Memref sig .tc .vmem S2048x1024 .bf16 := Memref.whole cc0_stg4_0
abbrev cM : Memref sig .tc .vmem S2048x4096 .bf16 := Memref.whole cc0_scratch0
abbrev lM : Memref sig .tc .vmem S2x3x512x512 .bf16 := Memref.whole cc0_scratch1

theorem inb_x (k : Dev nD) : ∀ a, (![512 * k.val, 0] : Fin 2 → ℕ) a + S512x512.size a ≤ S2048x512.size a := by revert k; decide
theorem inb_i (k : Dev nD) : ∀ a, (![512 * k.val, 0] : Fin 2 → ℕ) a + S512x2.size a ≤ S2048x2.size a := by revert k; decide
theorem inb_c (k : Dev nD) : ∀ a, (![512 * k.val, 0] : Fin 2 → ℕ) a + S512x4096.size a ≤ S2048x4096.size a := by revert k; decide
theorem inb_o (h : Fin 2) (k : Dev nD) : ∀ a, (![512 * k.val, 512 * h.val] : Fin 2 → ℕ) a + S512x512.size a ≤ S2048x1024.size a := by
  revert h k; decide
theorem inb_s (h u : Fin 2) (k : Dev nD) :
    ∀ a, (![512 * k.val + 256 * u.val, 512 * h.val] : Fin 2 → ℕ) a + S256x512.size a ≤ S2048x1024.size a := by revert h u k; decide
theorem inb_l (h : Fin 2) (s : Fin 3) : ∀ a, (![h.val, s.val, 0, 0] : Fin 4 → ℕ) a + S1x1x512x512.size a ≤ S2x3x512x512.size a := by
  revert h s; decide

/-- Chunk `k`'s rows of `x`, of the indices, of the masked copies; its half `h` of the result; sub-block `u` of that
    half; the landing slot of hop `s` of ring `h`. -/
abbrev xR (k : Dev nD) : Rect S2048x512 := Rect.unit (s := S2048x512) ![512 * k.val, 0] S512x512.size (inb_x k)
abbrev iR (k : Dev nD) : Rect S2048x2 := Rect.unit (s := S2048x2) ![512 * k.val, 0] S512x2.size (inb_i k)
abbrev cR (k : Dev nD) : Rect S2048x4096 := Rect.unit (s := S2048x4096) ![512 * k.val, 0] S512x4096.size (inb_c k)
abbrev oR (h : Fin 2) (k : Dev nD) : Rect S2048x1024 := Rect.unit (s := S2048x1024) ![512 * k.val, 512 * h.val] S512x512.size (inb_o h k)
abbrev sR (h : Fin 2) (k : Dev nD) (u : Fin 2) : Rect S2048x1024 :=
  Rect.unit (s := S2048x1024) ![512 * k.val + 256 * u.val, 512 * h.val] S256x512.size (inb_s h u k)
abbrev lR (h : Fin 2) (s : Fin 3) : Rect S2x3x512x512 := Rect.unit (s := S2x3x512x512) ![h.val, s.val, 0, 0] S1x1x512x512.size (inb_l h s)

abbrev cB (k : Dev nD) : Memref sig .tc .vmem S512x4096 .bf16 := cM.slice (cR k) (fun _ => rfl)
abbrev oB (h : Fin 2) (k : Dev nD) : Memref sig .tc .vmem S512x512 .bf16 := oM.slice (oR h k) (fun _ => rfl)
abbrev sB (h : Fin 2) (k : Dev nD) (u : Fin 2) : Memref sig .tc .vmem S256x512 .bf16 := oM.slice (sR h k u) (fun _ => rfl)
abbrev lB (h : Fin 2) (s : Fin 3) : Memref sig .tc .vmem S512x512 .bf16 :=
  (lM.slice (lR h s) (fun _ => rfl)).squeeze S512x512 squeezes_S1x1x512x512_S512x512

/-! ## Contents -/

variable (m : (ℓ : Loc nD τ sig) → Buf (Elt F) ℓ)

/-- What the four operand windows hold on device `c`. -/
def inX (c : Dev nD) : (cc0_stg0_0 : Ref sig .tc).ty.Contents (Elt F) :=
  (win0_0.blk (0 : Fin 1)).view.read (Elt F) (m ((c : Thread nD τ).loc main_arg0))
def inR (c : Dev nD) : (cc0_stg1_0 : Ref sig .tc).ty.Contents (Elt F) :=
  (win0_1.blk (0 : Fin 1)).view.read (Elt F) (m ((c : Thread nD τ).loc main_arg1))
def inI (c : Dev nD) : (cc0_stg2_0 : Ref sig .tc).ty.Contents (Elt F) :=
  (win0_2.blk (0 : Fin 1)).view.read (Elt F) (m ((c : Thread nD τ).loc main_arg2))
def inW (c : Dev nD) : (cc0_stg3_0 : Ref sig .tc).ty.Contents (Elt F) :=
  (win0_3.blk (0 : Fin 1)).view.read (Elt F) (m ((c : Thread nD τ).loc main_arg3))

/-- Chunk `k`'s rows of `x` and of the indices on device `c`. -/
def rowX (c k : Dev nD) : Vec F S512x512 .bf16 := xM.view.readAt (Elt F) (xR k).toLoadRect (inX m c)
def rowI (c k : Dev nD) : Vec F S512x2 .i32 := iM.view.readAt (Elt F) (iR k).toLoadRect (inI m c)

/-- The device's number as the body computes it. -/
def devW (c : Dev nD) : BitVec 32 := Scalar.remsi (Scalar.divsi (Dev.word c) 1#32) 4#32

/-- The masked copies of the rows `x` side by side, from the rows, the router and the two indices of each row. -/
def catOf (v2 : BitVec 32) (x : Vec F S512x512 .bf16) (r : Vec F S512x32 .bf16) (ix : Vec F S512x2 .i32) : Vec F S512x4096 .bf16 :=
  k0_pay17 (k0_pay9 v2 (k0_pay2 x) (k0_pay3 x r) (k0_pay5 ix) (k0_pay6 ix) (iota .tc S512x32 32 [1] iota_S512x32_d1_w32) (k0_pay7 x r ix))
    (k0_pay10 v2 (k0_pay2 x) (k0_pay3 x r) (k0_pay5 ix) (k0_pay6 ix) (iota .tc S512x32 32 [1] iota_S512x32_d1_w32) (k0_pay7 x r ix))
    (k0_pay11 v2 (k0_pay2 x) (k0_pay3 x r) (k0_pay5 ix) (k0_pay6 ix) (iota .tc S512x32 32 [1] iota_S512x32_d1_w32) (k0_pay7 x r ix))
    (k0_pay12 v2 (k0_pay2 x) (k0_pay3 x r) (k0_pay5 ix) (k0_pay6 ix) (iota .tc S512x32 32 [1] iota_S512x32_d1_w32) (k0_pay7 x r ix))
    (k0_pay13 v2 (k0_pay2 x) (k0_pay3 x r) (k0_pay5 ix) (k0_pay6 ix) (iota .tc S512x32 32 [1] iota_S512x32_d1_w32) (k0_pay7 x r ix))
    (k0_pay14 v2 (k0_pay2 x) (k0_pay3 x r) (k0_pay5 ix) (k0_pay6 ix) (iota .tc S512x32 32 [1] iota_S512x32_d1_w32) (k0_pay7 x r ix))
    (k0_pay15 v2 (k0_pay2 x) (k0_pay3 x r) (k0_pay5 ix) (k0_pay6 ix) (iota .tc S512x32 32 [1] iota_S512x32_d1_w32) (k0_pay7 x r ix))
    (k0_pay16 v2 (k0_pay2 x) (k0_pay3 x r) (k0_pay5 ix) (k0_pay6 ix) (iota .tc S512x32 32 [1] iota_S512x32_d1_w32) (k0_pay7 x r ix))

/-- Device `c`'s masked copies of chunk `k`. -/
def cat (c k : Dev nD) : Vec F S512x4096 .bf16 := catOf (devW c) (rowX m c k) (inR m c) (rowI m c k)

/-- Device `c`'s own share of half `h` of chunk `k`. -/
def part (c : Dev nD) (h : Fin 2) (k : Dev nD) : Vec F S512x512 .bf16 :=
  if h = 0 then k0_pay18 (k0_pay1 (inW m c)) (cat m c k) else k0_pay19 (k0_pay1 (inW m c)) (cat m c k)

/-- A 512×512 block as the landing slot holds it, with its two leading axes of size one. -/
def wide (v : Vec F S512x512 .bf16) : Vec F S1x1x512x512 .bf16 := fun j => v (Shape.reshapeEquiv (by decide) j)

/-- The running sum of half `h` of chunk `k` when it leaves the `n`-th device it visits. -/
def run (h : Fin 2) (k : Dev nD) : ℕ → Vec F S512x512 .bf16
  | 0 => part m (fw h k 0) h k
  | n + 1 => k0_pay25 (part m (fw h k (n + 1)) h k) (wide (run h k n))

/-- The finished half `h` of chunk `k`, and sub-block `u` of it. -/
def fin (h : Fin 2) (k : Dev nD) : Vec F S512x512 .bf16 := run m h k 3

theorem inb_u (u : Fin 2) : ∀ a, (![256 * u.val, 0] : Fin 2 → ℕ) a + S256x512.size a ≤ S512x512.size a := by revert u; decide
def finS (h : Fin 2) (k : Dev nD) (u : Fin 2) : Vec F S256x512 .bf16 :=
  fun j => fin m h k ((Rect.unit (s := S512x512) ![256 * u.val, 0] S256x512.size (inb_u u)).emb j)

end Cert.KernelIdeal.Moe

end
-- ==== Proof.Protocol.lean ====
/-
# The protocol

Every semaphore of every core carries one round of payments.

* The entry semaphore of device `p` takes one unit from each neighbour. The neighbour `fw h p 1` hands over its three
  landing slots of ring `h`, which `p` is going to fill.
* While chunk `k` of ring `h` is summed, hop `s` brings to device `fw h k (s + 1)` the running sum in its slot, and with
  it every region of the result the sum has been computed in so far: those are free to be overwritten from then on.
* While the finished chunk is handed round, hop `t` writes sub-block `u` into device `fw h k t`, and passes on the regions
  of the later devices; the sender's source comes back at its send semaphore.
* The exit semaphore takes one unit from each neighbour and carries nothing.
-/
module

public import proofs.«01_k».proof.Proof.Geometry

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB := URounds (GSem nD τ sig) (Fin 2)
abbrev UU := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Semaphores and cells -/

abbrev barS : SemLoc sig := .reg (0 : Fin 2)
abbrev endS : SemLoc sig := .reg (1 : Fin 2)
def sN (h : Fin 2) (i : Fin 9) : DmaSem sig := ⟨5 + 9 * h.val + i.val, by have := h.isLt; have := i.isLt; show _ < 41; omega⟩
def vN (h : Fin 2) (i : Fin 9) : DmaSem sig := ⟨23 + 9 * h.val + i.val, by have := h.isLt; have := i.isLt; show _ < 41; omega⟩
abbrev sS (h : Fin 2) (i : Fin 9) : SemLoc sig := .dma (sN h i)
abbrev vS (h : Fin 2) (i : Fin 9) : SemLoc sig := .dma (vN h i)
abbrev cell (c : Dev nD) (sm : SemLoc sig) : GSem nD τ sig := ((c : Thread nD τ), sm)

/-- The bytes one 512×512 and one 256×512 block count for. -/
abbrev NR : ℕ := (lB 0 0).view.dmaCredit
abbrev NA : ℕ := (sB 0 0 0).view.dmaCredit
theorem NR_pos : 0 < NR := View.dmaCredit_pos _ (by decide)
theorem NA_pos : 0 < NA := View.dmaCredit_pos _ (by decide)

/-! ## What changes hands -/

/-- Device `c` owns a region whole, with these contents; with any contents. -/
abbrev own (c : Dev nD) {s : Shape} {e : EltTy} (r : Memref sig .tc .vmem s e) (X : s.Idx → Elt F e) : sProp 𝕄 :=
  owns (c : Thread nD τ) r fullShare X
abbrev any (c : Dev nD) {s : Shape} {e : EltTy} (r : Memref sig .tc .vmem s e) : sProp 𝕄 := iprop(∃ X : s.Idx → Elt F e, own c r X)

/-- Device `c`'s three landing slots of ring `h`. -/
def slots (c : Dev nD) (h : Fin 2) : sProp 𝕄 := iprop(any c (lB h 0) ∗ any c (lB h 1) ∗ any c (lB h 2))

/-- The regions chunk `k` of ring `h` has been summed in on the first `n` devices it visited. -/
def srcB (h : Fin 2) (k : Dev nD) : ℕ → sProp 𝕄
  | 0 => iprop(emp)
  | n + 1 => iprop(any (fw h k n) (oB h k) ∗ srcB h k n)

/-- The regions sub-block `u` of chunk `k` still has to be written to, when `n` devices are left. -/
def tgtB (h : Fin 2) (k : Dev nD) (u : Fin 2) : ℕ → sProp 𝕄
  | 0 => iprop(emp)
  | n + 1 => iprop(any (fw h k (2 - n)) (sB h k u) ∗ tgtB h k u n)

/-- Transfer `i` of a ring: the first three sum, then three hops of two sub-blocks each. -/
def sendPay (c : Dev nD) (h : Fin 2) (i : ℕ) : sProp 𝕄 :=
  if i < 3 then iprop(emp)
  else own c (sB h (bw h c (3 + (i - 3) / 2)) ⟨(i - 3) % 2, Nat.mod_lt _ (by decide)⟩)
    (finS m h (bw h c (3 + (i - 3) / 2)) ⟨(i - 3) % 2, Nat.mod_lt _ (by decide)⟩)
def recvPay (c : Dev nD) (h : Fin 2) (i : ℕ) : sProp 𝕄 :=
  if hi : i < 3 then iprop(own c (lB h ⟨i, hi⟩) (run m h (bw h c (i + 1)) i) ∗ srcB h (bw h c (i + 1)) (i + 1))
  else iprop(own c (sB h (bw h c ((i - 3) / 2)) ⟨(i - 3) % 2, Nat.mod_lt _ (by decide)⟩)
      (finS m h (bw h c ((i - 3) / 2)) ⟨(i - 3) % 2, Nat.mod_lt _ (by decide)⟩)
    ∗ tgtB h (bw h c ((i - 3) / 2)) ⟨(i - 3) % 2, Nat.mod_lt _ (by decide)⟩ (2 - (i - 3) / 2))

def payOf (c : Dev nD) (sm : SemLoc sig) (d : Fin 2) : sProp 𝕄 :=
  match sm with
  | .reg r => if r.val = 0 then slots (fw d c 1) d else iprop(emp)
  | .dma n =>
    if n.val < 5 then iprop(emp)
    else if n.val < 23 then sendPay m c ⟨(n.val - 5) / 9 % 2, Nat.mod_lt _ (by decide)⟩ ((n.val - 5) % 9)
    else recvPay m c ⟨(n.val - 23) / 9 % 2, Nat.mod_lt _ (by decide)⟩ ((n.val - 23) % 9)

omit [FloatOps F] in
instance slots_storable (c : Dev nD) (h : Fin 2) : BI.Storable (upEmb : UEmb _ 𝕄) (slots (F := F) c h) := by unfold slots; infer_instance
omit [FloatOps F] in
instance srcB_storable (h : Fin 2) (k : Dev nD) (n : ℕ) : BI.Storable (upEmb : UEmb _ 𝕄) (srcB (F := F) h k n) := by
  induction n with
  | zero => unfold srcB; infer_instance
  | succ n ih => unfold srcB; infer_instance
omit [FloatOps F] in
instance tgtB_storable (h : Fin 2) (k : Dev nD) (u : Fin 2) (n : ℕ) : BI.Storable (upEmb : UEmb _ 𝕄) (tgtB (F := F) h k u n) := by
  induction n with
  | zero => unfold tgtB; infer_instance
  | succ n ih => unfold tgtB; infer_instance
instance payOf_storable (c : Dev nD) (sm : SemLoc sig) (d : Fin 2) : BI.Storable (upEmb : UEmb _ 𝕄) (payOf (F := F) m c sm d) := by
  unfold payOf sendPay recvPay
  (repeat' split) <;> infer_instance

/-! ## The schedule -/

def duty (sm : SemLoc sig) : Finset (Fin 2) :=
  match sm with
  | .reg _ => Finset.univ
  | .dma n => if n.val < 5 then ∅ else {0}
def amt (sm : SemLoc sig) : ℕ :=
  match sm with
  | .reg _ => 1
  | .dma n => if (n.val - 5) % 9 < 3 then NR else NA

theorem amt_pos (sm : SemLoc sig) : 0 < amt sm := by
  unfold amt; split
  · exact Nat.one_pos
  · split
    · exact NR_pos
    · exact NA_pos

def moeRd : Rounds.Schedule (GSem nD τ sig) (Fin 2) 𝕄 where
  duties g r := if r = 0 ∧ g.1.2 = .tc then duty g.2 else ∅
  unitless _ := False
  amount g _ _ := amt g.2
  payload g _ d := payOf m g.1.1 g.2 d
  amount_pos g _ _ _ := amt_pos g.2

instance moeRd_payload_storable (g : GSem nD τ sig) (r : ℕ) (d : Fin 2) :
    BI.Storable (upEmb : UEmb _ 𝕄) ((moeRd (F := F) m).payload g r d) := payOf_storable m g.1.1 g.2 d

theorem duties_eq (c : Dev nD) (sm : SemLoc sig) : (moeRd (F := F) m).duties (cell c sm) 0 = duty sm := by
  dsimp only [moeRd]; exact if_pos ⟨rfl, rfl⟩
theorem duties_later (g : GSem nD τ sig) (r : ℕ) (hr : 1 ≤ r) : (moeRd (F := F) m).duties g r = ∅ := by
  dsimp only [moeRd]; exact if_neg fun h => by omega
theorem amount_eq (c : Dev nD) (sm : SemLoc sig) (r : ℕ) (d : Fin 2) : (moeRd (F := F) m).amount (cell c sm) r d = amt sm := rfl
theorem payload_eq (c : Dev nD) (sm : SemLoc sig) (r : ℕ) (d : Fin 2) : (moeRd (F := F) m).payload (cell c sm) r d = payOf m c sm d := rfl

theorem duty_s (h : Fin 2) (i : Fin 9) : duty (sS h i) = {0} := by revert h i; decide
theorem duty_v (h : Fin 2) (i : Fin 9) : duty (vS h i) = {0} := by revert h i; decide

theorem expect_reg (c : Dev nD) (s : Sem sig) : (moeRd (F := F) m).expect (cell c (.reg s)) 0 = 2 := by
  unfold Schedule.expect Schedule.amountOf
  rw [duties_eq]; rfl
theorem expect_dma (c : Dev nD) (sm : SemLoc sig) (h : duty sm = {0}) : (moeRd (F := F) m).expect (cell c sm) 0 = amt sm := by
  unfold Schedule.expect Schedule.amountOf
  rw [duties_eq, h, Finset.sum_singleton]; rfl

theorem amt_s (h : Fin 2) (i : Fin 9) : amt (sS h i) = if i.val < 3 then NR else NA := by
  have : (5 + 9 * h.val + i.val - 5) % 9 = i.val := by have := i.isLt; omega
  show (if (5 + 9 * h.val + i.val - 5) % 9 < 3 then NR else NA) = _
  rw [this]
theorem amt_v (h : Fin 2) (i : Fin 9) : amt (vS h i) = if i.val < 3 then NR else NA := by
  have : (23 + 9 * h.val + i.val - 5) % 9 = i.val := by have := i.isLt; omega
  show (if (23 + 9 * h.val + i.val - 5) % 9 < 3 then NR else NA) = _
  rw [this]

theorem payOf_bar (c : Dev nD) (d : Fin 2) : payOf (F := F) m c barS d = slots (fw d c 1) d := by
  unfold payOf; exact if_pos rfl
theorem payOf_end (c : Dev nD) (d : Fin 2) : payOf (F := F) m c endS d = iprop(emp) := by
  unfold payOf; exact if_neg (by decide)
theorem payOf_s (c : Dev nD) (h : Fin 2) (i : Fin 9) (d : Fin 2) : payOf (F := F) m c (sS h i) d = sendPay m c h i.val := by
  have hh := h.isLt; have hi := i.isLt
  show (if 5 + 9 * h.val + i.val < 5 then iprop(emp)
    else if 5 + 9 * h.val + i.val < 23 then sendPay m c ⟨(5 + 9 * h.val + i.val - 5) / 9 % 2, _⟩ ((5 + 9 * h.val + i.val - 5) % 9)
    else recvPay m c ⟨(5 + 9 * h.val + i.val - 23) / 9 % 2, _⟩ ((5 + 9 * h.val + i.val - 23) % 9)) = _
  rw [if_neg (by omega), if_pos (by omega)]
  congr 1
  · apply Fin.ext; show (5 + 9 * h.val + i.val - 5) / 9 % 2 = h.val; omega
  · omega
theorem payOf_v (c : Dev nD) (h : Fin 2) (i : Fin 9) (d : Fin 2) : payOf (F := F) m c (vS h i) d = recvPay m c h i.val := by
  have hh := h.isLt; have hi := i.isLt
  show (if 23 + 9 * h.val + i.val < 5 then iprop(emp)
    else if 23 + 9 * h.val + i.val < 23 then sendPay m c ⟨(23 + 9 * h.val + i.val - 5) / 9 % 2, _⟩ ((23 + 9 * h.val + i.val - 5) % 9)
    else recvPay m c ⟨(23 + 9 * h.val + i.val - 23) / 9 % 2, _⟩ ((23 + 9 * h.val + i.val - 23) % 9)) = _
  rw [if_neg (by omega), if_neg (by omega)]
  congr 1
  · apply Fin.ext; show (23 + 9 * h.val + i.val - 23) / 9 % 2 = h.val; omega
  · omega

theorem rest_dma (c : Dev nD) (sm : SemLoc sig) (h : duty sm = {0}) :
    bigSep ((moeRd (F := F) m).duties (cell c sm) 0 \ ∅) (fun d => (moeRd (F := F) m).payload (cell c sm) 0 d) = payOf m c sm 0 := by
  rw [Finset.sdiff_empty, duties_eq, h, bigSep_singleton]; rfl
theorem rest_reg (c : Dev nD) (s : Sem sig) :
    bigSep ((moeRd (F := F) m).duties (cell c (.reg s)) 0 \ ∅) (fun d => (moeRd (F := F) m).payload (cell c (.reg s)) 0 d)
      = iprop(payOf m c (.reg s) 0 ∗ payOf m c (.reg s) 1) := by
  rw [Finset.sdiff_empty, duties_eq, show duty (.reg s) = Finset.univ from rfl,
    bigSep_univ_eq_bigSepL [0, 1] (by decide) (by decide), bigSepL_cons_cons, bigSepL_singleton]
  rfl

/-! ## What each core pays, in order; the levels -/

/-- A core's payments in program order: the ring along which the paid device is the next one, the semaphore. -/
def pays : List (Fin 2 × SemLoc sig) :=
  [(1, barS), (0, barS),
   (0, vS 0 0), (1, vS 1 0), (0, vS 0 1), (1, vS 1 1), (0, vS 0 2), (1, vS 1 2),
   (0, vS 0 3), (0, vS 0 4), (1, vS 1 3), (1, vS 1 4),
   (0, vS 0 5), (1, vS 1 5), (0, vS 0 6), (1, vS 1 6),
   (0, vS 0 7), (1, vS 1 7), (0, vS 0 8), (1, vS 1 8),
   (1, endS), (0, endS)]

/-- What device `c` owes for a list of payments. -/
def due (c : Dev nD) : List (Fin 2 × SemLoc sig) → CellTallies nD τ sig Unit
  | [] => 0
  | p :: l => due c l + tallyAt (cell (fw p.1 c 1) p.2) () (amt p.2)

/-- What device `c` still owes once the first `n` payments are made. -/
abbrev O (c : Dev nD) (n : ℕ) : CellTallies nD τ sig Unit := due c (pays.drop n)

def L (g : GSem nD τ sig) : Finset Unit := if g.1.2 = .tc then {()} else ∅
/-- A semaphore's level: a core waits at a level below everything it owes. -/
def lvS (sm : SemLoc sig) : ℕ :=
  match sm with
  | .reg r => if r.val = 0 then 1 else 100
  | .dma n => if n.val < 23 then 0 else 2 * ((n.val - 23) % 9) + 2 + (n.val - 23) / 9
def lv (g : GSem nD τ sig) (_ : Unit) : ℕ := lvS g.2

theorem L_of_ne (g : GSem nD τ sig) (h : g.1.2 ≠ .tc) : L g = ∅ := if_neg h
theorem L_tc (c : Dev nD) (sm : SemLoc sig) : L (cell c sm) = {()} := if_pos rfl

theorem due_pos {c : Dev nD} {l : List (Fin 2 × SemLoc sig)} {g : GSem nD τ sig} {u : Unit} (h : 0 < due c l g u) :
    ∃ p ∈ l, g = cell (fw p.1 c 1) p.2 := by
  induction l with
  | nil => exact absurd h (Nat.lt_irrefl 0)
  | cons p l ih =>
    unfold due at h
    rw [Pi.add_apply, Finsupp.add_apply, tallyAt_apply] at h
    by_cases hg : g = cell (fw p.1 c 1) p.2
    · exact ⟨p, List.mem_cons_self, hg⟩
    · rw [if_neg (fun h' => hg h'.1), Nat.add_zero] at h
      obtain ⟨q, hq, e⟩ := ih h
      exact ⟨q, List.mem_cons_of_mem _ hq, e⟩

omit [FloatOps F] in
theorem mayWait_of (c : Dev nD) (sm : SemLoc sig) (l : List (Fin 2 × SemLoc sig)) (h : ∀ p ∈ l, lvS sm < lvS p.2) :
    (levAts L lv : sProp 𝕄) ⊢ MayWait (c : Thread nD τ) sm () (due c l) :=
  MayOwe.of_cut (L := L) (lev := lv) (lvS sm) (fun p hp => by rw [Finset.mem_singleton.mp hp, L_tc]; exact Finset.mem_singleton_self _)
    (fun g u hg => by obtain ⟨p, -, rfl⟩ := due_pos hg; exact Finset.mem_singleton_self _)
    (fun p hp => by rw [Finset.mem_singleton.mp hp]; exact Nat.le_refl _)
    (fun g u hg => by obtain ⟨p, hp, rfl⟩ := due_pos hg; exact h p hp)

/-- A staging or send semaphore may be waited on at any time. -/
theorem lv_low (n : DmaSem sig) (hn : n.val < 23) : ∀ k ≤ 22, ∀ p ∈ pays.drop k, lvS (.dma n) < lvS p.2 := by
  have h0 : lvS (.dma n) = 0 := if_pos hn
  rw [h0]; decide

end Cert.KernelIdeal.Moe

end
-- ==== Proof.Regions.lean ====
/-
# Regions: how the buffers are cut

The result buffer is its eight 512×512 blocks, each of those its two 256×512 sub-blocks; the landing buffer is its six
slots; the buffer of masked copies is its four chunks.
-/
module

public import proofs.«01_k».proof.Proof.Protocol

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## A block of the result and its two sub-blocks -/

abbrev uR (u : Fin 2) : Rect S512x512 := Rect.unit (s := S512x512) ![256 * u.val, 0] S256x512.size (inb_u u)

theorem uR_emb (h u : Fin 2) (k : Dev nD) (j : S256x512.Idx) : (oR h k).emb ((uR u).emb j) = (sR h k u).emb j := by
  funext a
  apply Fin.ext
  fin_cases a
  · show 512 * k.val + 1 * (256 * u.val + 1 * (j 0).val) = 512 * k.val + 256 * u.val + 1 * (j 0).val; omega
  · show 512 * h.val + 1 * (0 + 1 * (j 1).val) = 512 * h.val + 1 * (j 1).val; omega

theorem uR_disjoint (u u' : Fin 2) (hne : u ≠ u') : Disjoint (uR u).set (uR u').set := by
  refine Rect.unit_disjoint 0 ?_
  have : u.val ≠ u'.val := fun e => hne (Fin.ext e)
  show 256 * u.val + 256 ≤ 256 * u'.val ∨ 256 * u'.val + 256 ≤ 256 * u.val
  omega
theorem uR_cover : (Finset.univ : Finset (Fin 2)).biUnion (fun u => (uR u).set) = Finset.univ := by
  ext x
  simp only [Finset.mem_biUnion, Finset.mem_univ, true_and, iff_true]
  have h0 : (x 0).val < 512 := (x 0).isLt
  have h1 : (x 1).val < 512 := (x 1).isLt
  refine ⟨⟨(x 0).val / 256, by omega⟩, Rect.mem_set_unit.mpr fun a => ?_⟩
  fin_cases a
  · show 256 * ((x 0).val / 256) ≤ (x 0).val ∧ (x 0).val < 256 * ((x 0).val / 256) + 256; omega
  · show 0 ≤ (x 1).val ∧ (x 1).val < 0 + 512; omega

/-- A sub-block cut out of the block is the sub-block cut out of the buffer. -/
theorem own_sub (c : Dev nD) (h : Fin 2) (k : Dev nD) (u : Fin 2) (X : S256x512.Idx → Elt F .bf16) :
    (own c ((oB h k).slice (uR u) (fun _ => rfl)) X : sProp 𝕄) = own c (sB h k u) X := by
  have hset : ((oB h k).slice (uR u) (fun _ => rfl)).view.set = (sB h k u).view.set := by
    show ((oM.view.slice (oR h k)).slice (uR u)).set = (oM.view.slice (sR h k u)).set
    rw [View.set, View.set]
    have : ((oM.view.slice (oR h k)).slice (uR u)).emb = (oM.view.slice (sR h k u)).emb := by
      refine DFunLike.ext _ _ fun j => ?_
      exact congrArg oM.view.emb (uR_emb h u k j)
    rw [this]
  have hread (f) : ((oB h k).slice (uR u) (fun _ => rfl)).view.read (Elt F) f = (sB h k u).view.read (Elt F) f := by
    funext j
    exact congrArg (oM.view.read (Elt F) f) (uR_emb h u k j)
  unfold own owns
  rw [hset]
  simp only [hread]

/-- A block with contents `X` is its two sub-blocks with `X`'s parts. -/
theorem own_halves (c : Dev nD) (h : Fin 2) (k : Dev nD) (X : S512x512.Idx → Elt F .bf16) :
    (own c (oB h k) X : sProp 𝕄) ⊢ iprop(own c (sB h k 0) (fun j => X ((uR 0).emb j)) ∗ own c (sB h k 1) (fun j => X ((uR 1).emb j))) := by
  refine (owns_rects (c : Thread nD τ) (oB h k) fullShare uR (fun _ _ => rfl) uR_disjoint uR_cover X).trans ?_
  rw [bigSep_univ_two]
  exact Entails.of_eq (congrArg₂ _ (own_sub c h k 0 _) (own_sub c h k 1 _))

theorem any_halves (c : Dev nD) (h : Fin 2) (k : Dev nD) : (any c (oB h k) : sProp 𝕄) ⊢ iprop(any c (sB h k 0) ∗ any c (sB h k 1)) := by
  iintro ⟨%X, H⟩
  ihave H := (own_halves c h k X) $$ H
  icases H with ⟨H0, H1⟩
  isplitl [H0]
  · iexists _; iexact H0
  · iexists _; iexact H1

/-- What is free after the sum of chunk `k` has been completed is what the finished chunk is handed to. -/
theorem src_to_tgt (h : Fin 2) (k : Dev nD) : (srcB h k 3 : sProp 𝕄) ⊢ iprop(tgtB h k 0 3 ∗ tgtB h k 1 3) := by
  unfold srcB srcB srcB srcB tgtB tgtB tgtB tgtB
  iintro ⟨H2, H1, H0, -⟩
  ihave H2 := (any_halves (fw h k 2) h k) $$ H2
  ihave H1 := (any_halves (fw h k 1) h k) $$ H1
  ihave H0 := (any_halves (fw h k 0) h k) $$ H0
  icases H2 with ⟨H20, H21⟩
  icases H1 with ⟨H10, H11⟩
  icases H0 with ⟨H00, H01⟩
  isplitl [H20 H10 H00]
  · isplitl [H00]; · iexact H00
    isplitl [H10]; · iexact H10
    isplitl [H20]; · iexact H20
    iempintro
  · isplitl [H01]; · iexact H01
    isplitl [H11]; · iexact H11
    isplitl [H21]; · iexact H21
    iempintro

/-! ## The result buffer -/

theorem oR_disjoint (t t' : Fin 2 × Dev nD) (hne : t ≠ t') : Disjoint (oR t.1 t.2).set (oR t'.1 t'.2).set := by
  obtain ⟨h, k⟩ := t; obtain ⟨h', k'⟩ := t'
  by_cases hk : k = k'
  · subst hk
    have : h.val ≠ h'.val := fun e => hne (by rw [Fin.ext e])
    refine Rect.unit_disjoint 1 ?_
    show 512 * h.val + 512 ≤ 512 * h'.val ∨ 512 * h'.val + 512 ≤ 512 * h.val
    omega
  · have : k.val ≠ k'.val := fun e => hk (Fin.ext e)
    refine Rect.unit_disjoint 0 ?_
    show 512 * k.val + 512 ≤ 512 * k'.val ∨ 512 * k'.val + 512 ≤ 512 * k.val
    omega
theorem oR_cover : (Finset.univ : Finset (Fin 2 × Dev nD)).biUnion (fun t => (oR t.1 t.2).set) = Finset.univ := by
  ext x
  simp only [Finset.mem_biUnion, Finset.mem_univ, true_and, iff_true]
  have h0 : (x 0).val < 2048 := (x 0).isLt
  have h1 : (x 1).val < 1024 := (x 1).isLt
  refine ⟨(⟨(x 1).val / 512, by omega⟩, ⟨(x 0).val / 512, by show _ < 4; omega⟩), Rect.mem_set_unit.mpr fun a => ?_⟩
  fin_cases a
  · show 512 * ((x 0).val / 512) ≤ (x 0).val ∧ (x 0).val < 512 * ((x 0).val / 512) + 512; omega
  · show 512 * ((x 1).val / 512) ≤ (x 1).val ∧ (x 1).val < 512 * ((x 1).val / 512) + 512; omega

theorem sR_disjoint (t t' : Fin 2 × Dev nD × Fin 2) (hne : t ≠ t') : Disjoint (sR t.1 t.2.1 t.2.2).set (sR t'.1 t'.2.1 t'.2.2).set := by
  obtain ⟨h, k, u⟩ := t; obtain ⟨h', k', u'⟩ := t'
  by_cases hh : h = h'
  · subst hh
    have : 2 * k.val + u.val ≠ 2 * k'.val + u'.val := fun e => hne (by
      have h1 := u.isLt; have h2 := u'.isLt
      rw [show k = k' from Fin.ext (by omega), show u = u' from Fin.ext (by omega)])
    refine Rect.unit_disjoint 0 ?_
    show 512 * k.val + 256 * u.val + 256 ≤ 512 * k'.val + 256 * u'.val ∨ 512 * k'.val + 256 * u'.val + 256 ≤ 512 * k.val + 256 * u.val
    omega
  · have : h.val ≠ h'.val := fun e => hh (Fin.ext e)
    refine Rect.unit_disjoint 1 ?_
    show 512 * h.val + 512 ≤ 512 * h'.val ∨ 512 * h'.val + 512 ≤ 512 * h.val
    omega
theorem sR_cover : (Finset.univ : Finset (Fin 2 × Dev nD × Fin 2)).biUnion (fun t => (sR t.1 t.2.1 t.2.2).set) = Finset.univ := by
  ext x
  simp only [Finset.mem_biUnion, Finset.mem_univ, true_and, iff_true]
  have h0 : (x 0).val < 2048 := (x 0).isLt
  have h1 : (x 1).val < 1024 := (x 1).isLt
  refine ⟨(⟨(x 1).val / 512, by omega⟩, ⟨(x 0).val / 512, by show _ < 4; omega⟩, ⟨(x 0).val % 512 / 256, by omega⟩), Rect.mem_set_unit.mpr fun a => ?_⟩
  fin_cases a
  · show 512 * ((x 0).val / 512) + 256 * ((x 0).val % 512 / 256) ≤ (x 0).val ∧ (x 0).val < 512 * ((x 0).val / 512) + 256 * ((x 0).val % 512 / 256) + 256
    omega
  · show 512 * ((x 1).val / 512) ≤ (x 1).val ∧ (x 1).val < 512 * ((x 1).val / 512) + 512; omega

/-- Element `(i, j)` of a 512×512 block. -/
def ix (i j : ℕ) (hi : i < 512) (hj : j < 512) : S512x512.Idx := fun a => match a with | 0 => ⟨i, hi⟩ | 1 => ⟨j, hj⟩

/-- The finished result: each block the sum over the ring. -/
def outV : S2048x1024.Idx → Elt F .bf16 := fun x =>
  fin m ⟨(x 1).val / 512, by have : (x 1).val < 1024 := (x 1).isLt; omega⟩
    ⟨(x 0).val / 512, by have : (x 0).val < 2048 := (x 0).isLt; show _ < 4; omega⟩
    (ix ((x 0).val % 512) ((x 1).val % 512) (Nat.mod_lt _ (by decide)) (Nat.mod_lt _ (by decide)))

theorem outV_emb (h : Fin 2) (k : Dev nD) (u : Fin 2) (j : S256x512.Idx) : outV m ((sR h k u).emb j) = finS m h k u j := by
  have hj0 : (j 0).val < 256 := (j 0).isLt
  have hj1 : (j 1).val < 512 := (j 1).isLt
  have hu := u.isLt
  have e0 : ((sR h k u).emb j 0).val = 512 * k.val + 256 * u.val + 1 * (j 0).val := rfl
  have e1 : ((sR h k u).emb j 1).val = 512 * h.val + 1 * (j 1).val := rfl
  unfold outV finS
  have a1 : (⟨((sR h k u).emb j 1).val / 512, by rw [e1]; have := h.isLt; omega⟩ : Fin 2) = h := Fin.ext (by show _ / 512 = _; rw [e1]; omega)
  have a2 : (⟨((sR h k u).emb j 0).val / 512, by rw [e0]; have := k.isLt; show _ < 4; have : nD = 4 := rfl; omega⟩ : Dev nD) = k :=
    Fin.ext (by show _ / 512 = _; rw [e0]; omega)
  rw [a1, a2]
  congr 1
  funext a
  apply Fin.ext
  fin_cases a
  · show ((sR h k u).emb j 0).val % 512 = 256 * u.val + 1 * (j 0).val; rw [e0]; omega
  · show ((sR h k u).emb j 1).val % 512 = 0 + 1 * (j 1).val; rw [e1]; omega

/-- The result buffer is its eight blocks; -/
theorem out_split (c : Dev nD) (X : S2048x1024.Idx → Elt F .bf16) :
    (own c oM X : sProp 𝕄) ⊢ bigSep Finset.univ fun t : Fin 2 × Dev nD => any c (oB t.1 t.2) :=
  (owns_rects (c : Thread nD τ) oM fullShare (fun t : Fin 2 × Dev nD => oR t.1 t.2) (fun _ _ => rfl) oR_disjoint oR_cover X).trans
    (bigSep_mono fun t _ => by
      show (own c (oB t.1 t.2) _ : sProp 𝕄) ⊢ any c (oB t.1 t.2)
      iintro H; iexists _; iexact H)

/-- all its sub-blocks finished, it holds the finished result. -/
theorem out_join (c : Dev nD) :
    (bigSep Finset.univ fun t : Fin 2 × Dev nD × Fin 2 => own c (sB t.1 t.2.1 t.2.2) (finS m t.1 t.2.1 t.2.2)) ⊢ (own c oM (outV m) : sProp 𝕄) := by
  have h := owns_of_rects (Name := ℕ) (U := UU) (Lvl := ℕ) (Ix := Unit) (Val := Elt F) (c : Thread nD τ) oM fullShare
    (fun t : Fin 2 × Dev nD × Fin 2 => sR t.1 t.2.1 t.2.2) (fun _ _ => rfl) sR_disjoint sR_cover (outV m)
  refine (BIBase.Entails.of_eq (bigSep_congr fun t _ => ?_)).trans h
  have e : finS m t.1 t.2.1 t.2.2 = fun j => outV m ((sR t.1 t.2.1 t.2.2).emb j) := funext fun j => (outV_emb m t.1 t.2.1 t.2.2 j).symm
  rw [e]

/-! ## The landing buffer and the masked copies -/

theorem lR_disjoint (t t' : Fin 2 × Fin 3) (hne : t ≠ t') : Disjoint (lR t.1 t.2).set (lR t'.1 t'.2).set := by
  obtain ⟨h, s⟩ := t; obtain ⟨h', s'⟩ := t'
  by_cases hh : h = h'
  · subst hh
    have : s.val ≠ s'.val := fun e => hne (by rw [Fin.ext e])
    refine Rect.unit_disjoint 1 ?_
    show s.val + 1 ≤ s'.val ∨ s'.val + 1 ≤ s.val
    omega
  · have : h.val ≠ h'.val := fun e => hh (Fin.ext e)
    refine Rect.unit_disjoint 0 ?_
    show h.val + 1 ≤ h'.val ∨ h'.val + 1 ≤ h.val
    omega
theorem lR_cover : (Finset.univ : Finset (Fin 2 × Fin 3)).biUnion (fun t => (lR t.1 t.2).set) = Finset.univ := by
  ext x
  simp only [Finset.mem_biUnion, Finset.mem_univ, true_and, iff_true]
  have h0 : (x 0).val < 2 := (x 0).isLt
  have h1 : (x 1).val < 3 := (x 1).isLt
  have h2 : (x 2).val < 512 := (x 2).isLt
  have h3 : (x 3).val < 512 := (x 3).isLt
  refine ⟨(⟨(x 0).val, h0⟩, ⟨(x 1).val, h1⟩), Rect.mem_set_unit.mpr fun a => ?_⟩
  fin_cases a
  · show (x 0).val ≤ (x 0).val ∧ (x 0).val < (x 0).val + 1; omega
  · show (x 1).val ≤ (x 1).val ∧ (x 1).val < (x 1).val + 1; omega
  · show 0 ≤ (x 2).val ∧ (x 2).val < 0 + 512; omega
  · show 0 ≤ (x 3).val ∧ (x 3).val < 0 + 512; omega

theorem cR_disjoint (t t' : Dev nD) (hne : t ≠ t') : Disjoint (cR t).set (cR t').set := by
  have : t.val ≠ t'.val := fun e => hne (Fin.ext e)
  refine Rect.unit_disjoint 0 ?_
  show 512 * t.val + 512 ≤ 512 * t'.val ∨ 512 * t'.val + 512 ≤ 512 * t.val
  omega
theorem cR_cover : (Finset.univ : Finset (Dev nD)).biUnion (fun t => (cR t).set) = Finset.univ := by
  ext x
  simp only [Finset.mem_biUnion, Finset.mem_univ, true_and, iff_true]
  have h0 : (x 0).val < 2048 := (x 0).isLt
  have h1 : (x 1).val < 4096 := (x 1).isLt
  refine ⟨⟨(x 0).val / 512, by show _ < 4; omega⟩, Rect.mem_set_unit.mpr fun a => ?_⟩
  fin_cases a
  · show 512 * ((x 0).val / 512) ≤ (x 0).val ∧ (x 0).val < 512 * ((x 0).val / 512) + 512; omega
  · show 0 ≤ (x 1).val ∧ (x 1).val < 0 + 4096; omega

/-- A buffer owned piece by piece, with any contents, is owned whole with some contents. -/
theorem any_join {s : Shape} {e : EltTy} (c : Dev nD) (M : Memref sig .tc .vmem s e) {T : Type} [Fintype T] [DecidableEq T]
    (r : T → Rect s) (hr : ∀ t a, (r t).stride a = 1) (hd : ∀ t t', t ≠ t' → Disjoint (r t).set (r t').set)
    (hcov : (Finset.univ : Finset T).biUnion (fun t => (r t).set) = Finset.univ) :
    (bigSep Finset.univ fun t => any c (M.slice (r t) (hr t)) : sProp 𝕄) ⊢ any c M := by
  refine (bigSep_exists_pi Finset.univ (fun (t : T) (X : (r t).shape.Idx → Elt F e) => own c (M.slice (r t) (hr t)) X)).trans ?_
  refine BI.Laws.exists_elim fun G => ?_
  have e : (fun t => own c (M.slice (r t) (hr t)) (G t) : T → sProp 𝕄) = fun t => own c (M.slice (r t) (hr t)) (fun j => Rect.glue r hcov G ((r t).emb j)) :=
    funext fun t => by rw [show G t = fun j => Rect.glue r hcov G ((r t).emb j) from funext fun j => (Rect.glue_emb r hcov hd G t j).symm]
  rw [e]
  refine (owns_of_rects (Val := Elt F) (c : Thread nD τ) M fullShare r hr hd hcov (Rect.glue r hcov G)).trans ?_
  iintro H
  iexists _
  iexact H

theorem any_split {s : Shape} {e : EltTy} (c : Dev nD) (M : Memref sig .tc .vmem s e) {T : Type} [Fintype T] [DecidableEq T]
    (r : T → Rect s) (hr : ∀ t a, (r t).stride a = 1) (hd : ∀ t t', t ≠ t' → Disjoint (r t).set (r t').set)
    (hcov : (Finset.univ : Finset T).biUnion (fun t => (r t).set) = Finset.univ) :
    (any c M : sProp 𝕄) ⊢ bigSep Finset.univ fun t => any c (M.slice (r t) (hr t)) := by
  refine BI.Laws.exists_elim fun X => ?_
  refine (owns_rects (c : Thread nD τ) M fullShare r hr hd hcov X).trans (bigSep_mono fun t _ => ?_)
  change BIBase.Entails (PROP := sProp 𝕄) _ _
  iintro H
  iexists _
  iexact H

/-! ## A landing slot with and without its leading axes -/

/-- Ownership, its buffer contents named. -/
theorem own_open (c : Dev nD) {s : Shape} {e : EltTy} (r : Memref sig .tc .vmem s e) (X : s.Idx → Elt F e) :
    (own c r X : sProp 𝕄) ⊢ iprop(∃ f, ⌜r.view.read (Elt F) f = X⌝ ∗ (r.view.loc (c : Thread nD τ) ↦[r.view.set]{fullShare} f)) := BI.Entails.refl _
theorem own_close (c : Dev nD) {s : Shape} {e : EltTy} (r : Memref sig .tc .vmem s e) (X : s.Idx → Elt F e) :
    iprop(∃ f, ⌜r.view.read (Elt F) f = X⌝ ∗ (r.view.loc (c : Thread nD τ) ↦[r.view.set]{fullShare} f)) ⊢ (own c r X : sProp 𝕄) := BI.Entails.refl _

theorem widen (j : S1x1x512x512.Idx) :
    Shape.reshapeEquiv squeezes_S1x1x512x512_S512x512.numel_eq (Shape.reshapeEquiv squeezes_S1x1x512x512_S512x512.numel_eq.symm j) = j :=
  (Shape.reshapeEquiv_reshapeEquiv _ _ _).trans (Shape.reshapeEquiv_self _ _)
theorem wide_apply (v : Vec F S512x512 .bf16) (j : S1x1x512x512.Idx) :
    wide v j = v (Shape.reshapeEquiv squeezes_S1x1x512x512_S512x512.numel_eq.symm j) := rfl
theorem slot_read_at (h : Fin 2) (s : Fin 3) (f : (lB h s).view.ty.Contents (Elt F)) (i) : (lB h s).view.read (Elt F) f i
    = (lM.slice (lR h s) (fun _ => rfl)).view.read (Elt F) f (Shape.reshapeEquiv squeezes_S1x1x512x512_S512x512.numel_eq i) := rfl

theorem slot_read (h : Fin 2) (s : Fin 3) (f : (lB h s).view.ty.Contents (Elt F)) (X : S512x512.Idx → Elt F .bf16)
    (hX : (lB h s).view.read (Elt F) f = X) : (lM.slice (lR h s) (fun _ => rfl)).view.read (Elt F) f = wide X := by
  subst hX
  funext j
  exact ((wide_apply _ j).trans ((slot_read_at h s f _).trans (congrArg ((lM.slice (lR h s) (fun _ => rfl)).view.read (Elt F) f) (widen j)))).symm

/-- A filled slot, read with its leading axes. -/
theorem slot_own (c : Dev nD) (h : Fin 2) (s : Fin 3) (X : S512x512.Idx → Elt F .bf16) :
    (own c (lB h s) X : sProp 𝕄) ⊢ own c (lM.slice (lR h s) (fun _ => rfl)) (wide X) := by
  refine (own_open c _ _).trans (BIBase.Entails.trans ?_ (own_close c _ _))
  iintro ⟨%f, %hf, H⟩
  iexists f
  isplitr; · ipureintro; exact slot_read h s f X hf
  have e : (lB h s).view.set = (lM.slice (lR h s) (fun _ => rfl)).view.set := View.set_reshape _ _
  rw [← e]
  iexact H

theorem any_slot' (c : Dev nD) (h : Fin 2) (s : Fin 3) : (any c (lB h s) : sProp 𝕄) ⊢ any c (lM.slice (lR h s) (fun _ => rfl)) := by
  iintro ⟨%X, H⟩
  iexists _
  iapply (slot_own c h s X)
  iexact H

theorem own_slot (c : Dev nD) (h : Fin 2) (s : Fin 3) (X) :
    (own c (lM.slice (lR h s) (fun _ => rfl)) X : sProp 𝕄) ⊢ any c (lB h s) := by
  refine (own_open c _ _).trans ?_
  iintro ⟨%f, %hf, H⟩
  iexists _
  iapply (own_close c (lB h s) _)
  iexists f
  isplitr; · ipureintro; rfl
  have e : (lB h s).view.set = (lM.slice (lR h s) (fun _ => rfl)).view.set := View.set_reshape _ _
  rw [e]
  iexact H

theorem six (Φ : Fin 2 × Fin 3 → sProp 𝕄) : bigSep Finset.univ Φ = iprop(Φ (0, 0) ∗ Φ (0, 1) ∗ Φ (0, 2) ∗ Φ (1, 0) ∗ Φ (1, 1) ∗ Φ (1, 2)) :=
  bigSep_univ_eq_bigSepL [((0 : Fin 2), (0 : Fin 3)), (0, 1), (0, 2), (1, 0), (1, 1), (1, 2)] (by decide) (by decide) Φ

theorem land_split (c : Dev nD) (X) : (own c lM X : sProp 𝕄) ⊢ iprop(slots c 0 ∗ slots c 1) := by
  have h1 : (own c lM X : sProp 𝕄) ⊢ any c lM := by iintro H; iexists _; iexact H
  refine h1.trans ((any_split (F := F) c lM (fun t : Fin 2 × Fin 3 => lR t.1 t.2) (fun _ _ => rfl) lR_disjoint lR_cover).trans ?_)
  refine (bigSep_mono (Ψ := fun t : Fin 2 × Fin 3 => any c (lB t.1 t.2)) fun t _ => BI.Laws.exists_elim fun X => own_slot c t.1 t.2 X).trans ?_
  rw [six]
  unfold slots
  change BIBase.Entails (PROP := sProp 𝕄) _ _
  iintro ⟨A, B, C, D, E, G⟩
  isplitl [A B C]
  · isplitl [A]; · iexact A
    isplitl [B]; · iexact B
    iexact C
  · isplitl [D]; · iexact D
    isplitl [E]; · iexact E
    iexact G

theorem land_join (c : Dev nD) : (iprop(slots c 0 ∗ slots c 1) : sProp 𝕄) ⊢ any c lM := by
  refine BIBase.Entails.trans ?_ ((bigSep_mono (Φ := fun t : Fin 2 × Fin 3 => any c (lB t.1 t.2)) fun t _ => any_slot' c t.1 t.2).trans
    (any_join (F := F) c lM (fun t : Fin 2 × Fin 3 => lR t.1 t.2) (fun _ _ => rfl) lR_disjoint lR_cover))
  · rw [six]
    unfold slots
    iintro ⟨⟨A, B, C⟩, D, E, G⟩
    isplitl [A]; · iexact A
    isplitl [B]; · iexact B
    isplitl [C]; · iexact C
    isplitl [D]; · iexact D
    isplitl [E]; · iexact E
    iexact G

/-! ## Blocks listed in the order a ring visits them -/

/-- A family over the devices, listed from device `c` backward along a ring. -/
theorem along (h : Fin 2) (c : Dev nD) (Φ : Dev nD → sProp 𝕄) :
    bigSep Finset.univ Φ = iprop(Φ (bw h c 0) ∗ Φ (bw h c 1) ∗ Φ (bw h c 2) ∗ Φ (bw h c 3)) := by
  rw [bigSep_univ_eq_bigSepL [bw h c 0, bw h c 1, bw h c 2, bw h c 3] (by revert h c; decide) (by revert h c; decide)]
  rfl

theorem cat_split (c : Dev nD) (X) : (own c cM X : sProp 𝕄) ⊢ iprop(any c (cB (bw 1 c 0)) ∗ any c (cB (bw 1 c 1)) ∗ any c (cB (bw 1 c 2)) ∗ any c (cB (bw 1 c 3))) := by
  have h1 : (own c cM X : sProp 𝕄) ⊢ any c cM := by iintro H; iexists _; iexact H
  refine h1.trans ((any_split (F := F) c cM cR (fun _ _ => rfl) cR_disjoint cR_cover).trans ?_)
  rw [along 1 c]
  iintro ⟨A, B, C, D⟩
  isplitl [A]; · iexact A
  isplitl [B]; · iexact B
  isplitl [C]; · iexact C
  iexact D

theorem cat_join (c : Dev nD) : (iprop(any c (cB (bw 1 c 0)) ∗ any c (cB (bw 1 c 1)) ∗ any c (cB (bw 1 c 2)) ∗ any c (cB (bw 1 c 3))) : sProp 𝕄) ⊢ any c cM := by
  refine BIBase.Entails.trans ?_ (any_join (F := F) c cM cR (fun _ _ => rfl) cR_disjoint cR_cover)
  rw [along 1 c]
  iintro ⟨A, B, C, D⟩
  isplitl [A]; · iexact A
  isplitl [B]; · iexact B
  isplitl [C]; · iexact C
  iexact D

/-- The result buffer in the order the two rings use it. -/
theorem out_start (c : Dev nD) (X) : (own c oM X : sProp 𝕄) ⊢ iprop(
    (any c (oB 0 (bw 0 c 0)) ∗ any c (oB 0 (bw 0 c 1)) ∗ any c (oB 0 (bw 0 c 2)) ∗ any c (oB 0 (bw 0 c 3)))
    ∗ (any c (oB 1 (bw 1 c 0)) ∗ any c (oB 1 (bw 1 c 1)) ∗ any c (oB 1 (bw 1 c 2)) ∗ any c (oB 1 (bw 1 c 3)))) := by
  refine (out_split c X).trans ?_
  rw [bigSep_univ_prod, bigSep_univ_two, along 0 c, along 1 c]

/-- A finished sub-block of device `c`. -/
abbrev don (c : Dev nD) (h : Fin 2) (k : Dev nD) (u : Fin 2) : sProp 𝕄 := own c (sB h k u) (finS m h k u)
/-- Both sub-blocks of a chunk finished. -/
def dones (c : Dev nD) (h : Fin 2) (k : Dev nD) : sProp 𝕄 := iprop(don m c h k 0 ∗ don m c h k 1)

theorem out_end (c : Dev nD) : iprop(
    (dones m c 0 (bw 0 c 0) ∗ dones m c 0 (bw 0 c 1) ∗ dones m c 0 (bw 0 c 2) ∗ dones m c 0 (bw 0 c 3))
    ∗ (dones m c 1 (bw 1 c 0) ∗ dones m c 1 (bw 1 c 1) ∗ dones m c 1 (bw 1 c 2) ∗ dones m c 1 (bw 1 c 3))) ⊢ (own c oM (outV m) : sProp 𝕄) := by
  refine BIBase.Entails.trans ?_ (out_join m c)
  rw [bigSep_univ_prod, bigSep_univ_two, bigSep_univ_prod, bigSep_univ_prod, along 0 c, along 1 c]
  simp only [bigSep_univ_two]
  unfold dones
  iintro ⟨⟨A, B, C, D⟩, A', B', C', D'⟩
  isplitl [A B C D]
  · isplitl [A]; · iexact A
    isplitl [B]; · iexact B
    isplitl [C]; · iexact C
    iexact D
  · isplitl [A']; · iexact A'
    isplitl [B']; · iexact B'
    isplitl [C']; · iexact C'
    iexact D'

end Cert.KernelIdeal.Moe

end
-- ==== Proof.Steps.lean ====
/-
# Steps: one lemma for each kind of effect of the body

Loads and stores of a region owned whole, the two kinds of transfer, the waits, the signals. Every lemma is stated at a
symbolic device and at any float values.
-/
module

public import proofs.«01_k».proof.Proof.Regions

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- The weakest precondition of a program of device `c`'s core. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (c : Dev nD)

/-! ## Loads and stores -/

/-- A load of a region owned whole reads its contents. -/
theorem load_own {α : Type} {Q : α → sProp 𝕄} {s : Shape} {e : EltTy} (M : Memref sig .tc .vmem s e) {off off' sz : Fin s.rank → ℕ} (hoff : off = off')
    {inb : ∀ a, off a + sz a ≤ s.size a} {inb' : ∀ a, off' a + sz a ≤ s.size a}
    {hl : M.view.LoadsAt (Rect.unit off sz inb).toLoadRect}
    {k : ((Rect.unit off sz inb).shape.Idx → Elt F e) → Prog (TpuEff nD τ sig (Elt F) Λ₀ .tc) α}
    (X : (Rect.unit off' sz inb').shape.Idx → Elt F e) :
    (own c (M.slice (Rect.unit off' sz inb') (fun _ => rfl)) X : sProp 𝕄)
      ⊢ iprop((own c (M.slice (Rect.unit off' sz inb') (fun _ => rfl)) X -∗ WP c (k X) Q)
          -∗ WP c (.op (.load M (Rect.unit off sz inb).toLoadRect hl) k) Q) := by
  subst hoff
  refine (own_open c _ X).trans ?_
  iintro ⟨%f, %hf, H⟩ Hk
  iapply (wp_load_rect 𝒱₀ (c : Thread nD τ) none Set.univ (m := M) (r := Rect.unit off sz inb) (Finset.Subset.refl _)) $$ H
  iintro H
  rw [show (M.access (Rect.unit off sz inb)).read (Elt F) f = X from hf]
  iapply Hk
  iapply (own_close c _ X)
  iexists f
  isplitr; · ipureintro; exact hf
  iexact H

/-- A store to a region owned whole replaces its contents. -/
theorem store_own {α : Type} {Q : α → sProp 𝕄} {s : Shape} {e : EltTy} (M : Memref sig .tc .vmem s e) {off off' sz : Fin s.rank → ℕ} (hoff : off = off')
    {inb : ∀ a, off a + sz a ≤ s.size a} {inb' : ∀ a, off' a + sz a ≤ s.size a}
    {w : (Rect.unit off sz inb).shape.Idx → Elt F e}
    {hx : (M.access (Rect.unit off sz inb)).Stores Finset.univ} {hm}
    {k : PUnit → Prog (TpuEff nD τ sig (Elt F) Λ₀ .tc) α}
    (X : (Rect.unit off' sz inb').shape.Idx → Elt F e) :
    (own c (M.slice (Rect.unit off' sz inb') (fun _ => rfl)) X : sProp 𝕄)
      ⊢ iprop((own c (M.slice (Rect.unit off' sz inb') (fun _ => rfl)) w -∗ WP c (k ⟨⟩) Q)
          -∗ WP c (.op (.store M (Rect.unit off sz inb) w Finset.univ hx hm) k) Q) := by
  subst hoff
  refine (own_open c _ X).trans ?_
  iintro ⟨%f, %hf, H⟩ Hk
  iapply (wp_store 𝒱₀ (c : Thread nD τ) none Set.univ (m := M) (r := Rect.unit off sz inb) (Mk := Finset.univ)
    (S := (M.slice (Rect.unit off sz inb) (fun _ => rfl)).view.set) (Finset.Subset.refl _)) $$ H
  iintro H
  iapply Hk
  iapply (own_close c _ w)
  iexists _
  isplitr
  rotate_left
  · iexact H
  · ipureintro; exact View.read_write_univ _ _

/-- A load of an operand window, owned as a whole buffer. -/
theorem load_in {α : Type} {Q : α → sProp 𝕄} {s : Shape} {e : EltTy} (M : Memref sig .tc .vmem s e) {off off' sz : Fin s.rank → ℕ} (hoff : off = off')
    {inb : ∀ a, off a + sz a ≤ s.size a} (inb' : ∀ a, off' a + sz a ≤ s.size a)
    {hl : M.view.LoadsAt (Rect.unit off sz inb).toLoadRect}
    {k : ((Rect.unit off sz inb).shape.Idx → Elt F e) → Prog (TpuEff nD τ sig (Elt F) Λ₀ .tc) α}
    (f : Buf (Elt F) (M.view.loc (c : Thread nD τ))) :
    ((M.view.loc (c : Thread nD τ)) ↦{fullShare} f : sProp 𝕄)
      ⊢ iprop((((M.view.loc (c : Thread nD τ)) ↦{fullShare} f)
            -∗ WP c (k (M.view.readAt (Elt F) (Rect.unit off' sz inb').toLoadRect f)) Q)
          -∗ WP c (.op (.load M (Rect.unit off sz inb).toLoadRect hl) k) Q) := by
  subst hoff
  exact wp_load 𝒱₀ (c : Thread nD τ) none Set.univ (m := M) (Finset.subset_univ _)

/-! ## The records of the cells, and what a device holds for each transfer -/

/-- The semaphores a device is paid at: the two regular ones, a send and a receive semaphore for every transfer. -/
abbrev Ci := Fin 2 ⊕ (Fin 2 × Fin 2 × Fin 9)
def ksem : Ci → SemLoc sig
  | .inl b => .reg b
  | .inr (d, h, i) => if d = 0 then sS h i else vS h i

variable (K : Dev nD × Ci → ℕ)

/-- Every cell's invariant, and that its round 0 is reached. -/
def recs : sProp 𝕄 :=
  iprop(levAts L lv ∗ bigSep Finset.univ fun p : Dev nD × Ci =>
    iprop(cellInv ER (moeRd (F := F) m) (K p) (cell p.1 (ksem p.2)) ∗ reached ER (cell p.1 (ksem p.2)) 0))
instance recs_persistent : BI.Persistent (recs (F := F) m K) := by unfold recs; infer_instance

theorem recs_lev : recs (F := F) m K ⊢ levAts L lv := by
  unfold recs; iintro ⟨H, -⟩; iexact H
theorem recs_at (c : Dev nD) (i : Ci) : recs (F := F) m K
    ⊢ iprop(cellInv ER (moeRd (F := F) m) (K (c, i)) (cell c (ksem i)) ∗ reached ER (cell c (ksem i)) 0) := by
  unfold recs
  rw [bigSep_univ_at _ (c, i)]
  iintro ⟨-, H, -⟩
  iexact H
theorem recs_s (c : Dev nD) (h : Fin 2) (i : Fin 9) : recs (F := F) m K
    ⊢ iprop(cellInv ER (moeRd (F := F) m) (K (c, .inr (0, h, i))) (cell c (sS h i)) ∗ reached ER (cell c (sS h i)) 0) :=
  recs_at m K c (.inr (0, h, i))
theorem recs_v (c : Dev nD) (h : Fin 2) (i : Fin 9) : recs (F := F) m K
    ⊢ iprop(cellInv ER (moeRd (F := F) m) (K (c, .inr (1, h, i))) (cell c (vS h i)) ∗ reached ER (cell c (vS h i)) 0) :=
  recs_at m K c (.inr (1, h, i))
theorem recs_r (c : Dev nD) (b : Fin 2) : recs (F := F) m K
    ⊢ iprop(cellInv ER (moeRd (F := F) m) (K (c, .inl b)) (cell c (.reg b)) ∗ reached ER (cell c (.reg b)) 0) :=
  recs_at m K c (.inl b)

/-- What device `c` owes once `n` payments are made, whatever it has waited for. -/
def Ow (n : ℕ) : sProp 𝕄 := iprop(∃ W : Waits sig Unit, owes (c : Thread nD τ) (O c n) W)

/-- The right to make transfer `i` of ring `h`; to wait for it to have left; to wait for the one that comes in. -/
def sendR (h : Fin 2) (i : Fin 9) : sProp 𝕄 :=
  iprop(dutyTok ER (cell c (sS h i)) 0 (0 : Fin 2) ∗ dutyTok ER (cell (fw h c 1) (vS h i)) 0 (0 : Fin 2) ∗ atPos ER (cell c (sS h i)) 0 ∅ 0)
def sentR (h : Fin 2) (i : Fin 9) : sProp 𝕄 :=
  iprop(atPos ER (cell c (sS h i)) 0 ∅ 0 ∗ cred (tallyAt (cell c (sS h i)) () (amt (sS h i))))
def recvR (h : Fin 2) (i : Fin 9) : sProp 𝕄 :=
  iprop(atPos ER (cell c (vS h i)) 0 ∅ 0 ∗ cred (tallyAt (cell c (vS h i)) () (amt (vS h i))))
/-- The right to signal the two neighbours on a regular semaphore; to wait for both. -/
def sigR (b : Fin 2) : sProp 𝕄 :=
  iprop(dutyTok ER (cell (fw 1 c 1) (.reg b)) 0 (0 : Fin 2) ∗ dutyTok ER (cell (fw 0 c 1) (.reg b)) 0 (1 : Fin 2))
def barR (b : Fin 2) : sProp 𝕄 := iprop(atPos ER (cell c (.reg b)) 0 ∅ 0 ∗ cred (tallyAt (cell c (.reg b)) () 2))

/-! ## Waits -/

theorem wait_dma {α : Type} {Q : α → sProp 𝕄} (κ : ℕ) (q : DmaSem sig) (hq : duty (.dma q) = {0}) (n : ℕ)
    (hm : ∀ p ∈ pays.drop n, lvS (.dma q) < lvS p.2)
    {s s' : Shape} {src : Memref sig .tc .vmem s .bf16} {dst : Memref sig .tc .vmem s' .bf16} {hsrc : src.view.WordExact} {hdst : dst.view.WordExact}
    (hN : dst.view.dmaCredit = amt (.dma q)) {k : PUnit → Prog (TpuEff nD τ sig (Elt F) Λ₀ .tc) α} :
    iprop(levAts L lv ∗ cellInv ER (moeRd (F := F) m) κ (cell c (.dma q)) ∗ atPos ER (cell c (.dma q)) 0 ∅ 0
        ∗ cred (tallyAt (cell c (.dma q)) () (amt (.dma q))) ∗ Ow c n)
      ⊢ iprop(((semVal (cell c (.dma q)) 0 ∗ payOf m c (.dma q) 0 ∗ Ow c n) -∗ WP c (k ⟨⟩) Q)
          -∗ WP c (.op (.waitDma2 q src dst hsrc hdst) k) Q) := by
  unfold Ow
  iintro ⟨#HL, #HI, Hat, Hc, %W, HO⟩ Hk
  iapply (Rounds.wp_wait_rest_token 𝒱₀ ER (moeRd (F := F) m) (c : Thread nD τ) none (κ := κ)
      (wpE_waitDma2_eq 𝒱₀ (c : Thread nD τ) none Set.univ) (Set.mem_univ _) () (O := O c n) (W := W) (R := 0) (m := 0) (T := ∅)
      (by rw [Nat.zero_add, hN, expect_dma m c _ hq])) $$ [Hc HO Hat]
  · isplitr; · iexact HI
    isplitl [Hc]; · rw [hN]; iexact Hc
    isplitl [HO]; · iexact HO
    isplitr; · iapply (mayWait_of c (.dma q) (pays.drop n) hm); iexact HL
    iexact Hat
  iintro ⟨HO, Hat, -, Hpay⟩
  imod (Rounds.cell_close ER (moeRd (F := F) m) (Set.mem_univ κ) (fun h => h) (R := 0 + 1) (duties_later m (cell c (.dma q)))) $$ [Hat] with Hz
  · isplitr; · iexact HI
    iexact Hat
  iapply Hk
  isplitl [Hz]; · iexact Hz
  isplitl [Hpay]
  · iapply (BIBase.Entails.of_eq (rest_dma m c (.dma q) hq)); iexact Hpay
  iexists _; iexact HO

/-- Waiting until transfer `i` of ring `h` has left. -/
theorem wait_send {α : Type} {Q : α → sProp 𝕄} (h : Fin 2) (i : Fin 9) (n : ℕ) (hn : n ≤ 22)
    {s s' : Shape} {src : Memref sig .tc .vmem s .bf16} {dst : Memref sig .tc .vmem s' .bf16} {hsrc : src.view.WordExact} {hdst : dst.view.WordExact}
    (hN : dst.view.dmaCredit = if i.val < 3 then NR else NA) {k : PUnit → Prog (TpuEff nD τ sig (Elt F) Λ₀ .tc) α} :
    iprop(recs m K ∗ sentR c h i ∗ Ow c n)
      ⊢ iprop(((semVal (cell c (sS h i)) 0 ∗ sendPay m c h i ∗ Ow c n) -∗ WP c (k ⟨⟩) Q)
          -∗ WP c (.op (.waitDma2 (sN h i) src dst hsrc hdst) k) Q) := by
  unfold sentR
  iintro ⟨#HR, ⟨Hat, Hc⟩, HO⟩ Hk
  ihave #HL := (recs_lev m K) $$ HR
  ihave #HI := (recs_s m K c h i) $$ HR
  icases HI with ⟨#HI, -⟩
  have hi := i.isLt
  have hh := h.isLt
  iapply (wait_dma m c (K (c, .inr (0, h, i))) (sN h i) (duty_s h i) n
    (lv_low (sN h i) (show 5 + 9 * h.val + i.val < 23 by omega) n hn) (hN.trans (amt_s h i).symm)) $$ [Hat Hc HO]
  · isplitr; · iexact HL
    isplitr; · iexact HI
    isplitl [Hat]; · iexact Hat
    isplitl [Hc]; · iexact Hc
    iexact HO
  rw [payOf_s]
  iexact Hk

/-- Waiting for transfer `i` of ring `h` to come in. -/
theorem wait_recv {α : Type} {Q : α → sProp 𝕄} (h : Fin 2) (i : Fin 9) (n : ℕ) (hm : ∀ p ∈ pays.drop n, lvS (vS h i) < lvS p.2)
    {s s' : Shape} {src : Memref sig .tc .vmem s .bf16} {dst : Memref sig .tc .vmem s' .bf16} {hsrc : src.view.WordExact} {hdst : dst.view.WordExact}
    (hN : dst.view.dmaCredit = if i.val < 3 then NR else NA) {k : PUnit → Prog (TpuEff nD τ sig (Elt F) Λ₀ .tc) α} :
    iprop(recs m K ∗ recvR c h i ∗ Ow c n)
      ⊢ iprop(((semVal (cell c (vS h i)) 0 ∗ recvPay m c h i ∗ Ow c n) -∗ WP c (k ⟨⟩) Q)
          -∗ WP c (.op (.waitDma2 (vN h i) src dst hsrc hdst) k) Q) := by
  unfold recvR
  iintro ⟨#HR, ⟨Hat, Hc⟩, HO⟩ Hk
  ihave #HL := (recs_lev m K) $$ HR
  ihave #HI := (recs_v m K c h i) $$ HR
  icases HI with ⟨#HI, -⟩
  iapply (wait_dma m c (K (c, .inr (1, h, i))) (vN h i) (duty_v h i) n hm (hN.trans (amt_v h i).symm)) $$ [Hat Hc HO]
  · isplitr; · iexact HL
    isplitr; · iexact HI
    isplitl [Hat]; · iexact Hat
    isplitl [Hc]; · iexact Hc
    iexact HO
  rw [payOf_v]
  iexact Hk

/-- Waiting for both neighbours' signals on a regular semaphore. -/
theorem wait_reg {α : Type} {Q : α → sProp 𝕄} (b : Fin 2) (n : ℕ) (hm : ∀ p ∈ pays.drop n, lvS (.reg b) < lvS p.2)
    {k : PUnit → Prog (TpuEff nD τ sig (Elt F) Λ₀ .tc) α} :
    iprop(recs m K ∗ barR c b ∗ Ow c n)
      ⊢ iprop(((semVal (cell c (.reg b)) 0 ∗ (payOf m c (.reg b) 0 ∗ payOf m c (.reg b) 1) ∗ Ow c n) -∗ WP c (k ⟨⟩) Q)
          -∗ WP c (.op (.semWait (b : Sem sig) (2#32).toInt) k) Q) := by
  unfold barR Ow
  iintro ⟨#HR, ⟨Hat, Hc⟩, %W, HO⟩ Hk
  ihave #HL := (recs_lev m K) $$ HR
  ihave #HI := (recs_r m K c b) $$ HR
  icases HI with ⟨#HI, -⟩
  iapply (Rounds.wp_wait_rest_token 𝒱₀ ER (moeRd (F := F) m) (c : Thread nD τ) none (κ := K (c, .inl b))
      (wpE_semWait_eq 𝒱₀ (c : Thread nD τ) none Set.univ) (Set.mem_univ _) () (O := O c n) (W := W) (R := 0) (m := 0) (T := ∅)
      (by rw [expect_reg]; decide)) $$ [Hc HO Hat]
  · isplitr; · iexact HI
    isplitl [Hc]; · iexact Hc
    isplitl [HO]; · iexact HO
    isplitr; · iapply (mayWait_of c (.reg b) (pays.drop n) hm); iexact HL
    iexact Hat
  iintro ⟨HO, Hat, -, Hpay⟩
  imod (Rounds.cell_close ER (moeRd (F := F) m) (Set.mem_univ (K (c, .inl b))) (fun h => h) (R := 0 + 1) (duties_later m (cell c (.reg b)))) $$ [Hat] with Hz
  · isplitr; · iexact HI
    iexact Hat
  iapply Hk
  isplitl [Hz]; · iexact Hz
  isplitl [Hpay]
  · iapply (BIBase.Entails.of_eq (rest_reg m c b)); iexact Hpay
  iexists _; iexact HO

/-! ## Signals -/

/-- A signal to the neighbour `fw h c 1`, handing over payment `d` of its semaphore `b`. -/
theorem signal_reg {α : Type} {Q : α → sProp 𝕄} (h b d : Fin 2) (n : ℕ) (hO : pays.drop n = (h, .reg b) :: pays.drop (n + 1)) {dv : Dev nD} (hdv : dv = fw h c 1)
    {k : PUnit → Prog (TpuEff nD τ sig (Elt F) Λ₀ .tc) α} :
    iprop(recs m K ∗ dutyTok ER (cell (fw h c 1) (.reg b)) 0 d ∗ payOf m (fw h c 1) (.reg b) d ∗ Ow c n)
      ⊢ iprop((Ow c (n + 1) -∗ WP c (k ⟨⟩) Q)
          -∗ WP c (.op (.semSignal (dv, .tc) (b : Sem sig) (1#32).toInt) k) Q) := by
  subst hdv
  unfold Ow
  iintro ⟨#HR, Ht, Hp, %W, HO⟩ Hk
  ihave #HI := (recs_r m K (fw h c 1) b) $$ HR
  icases HI with ⟨#HI, #Hr⟩
  iapply (Rounds.wp_signal 𝒱₀ ER (moeRd (F := F) m) (c : Thread nD τ) none (dst := ((fw h c 1 : Dev nD) : Thread nD τ)) (κ := K (fw h c 1, .inl b))
      (d := d) (by rw [duties_eq]; exact Finset.mem_univ _) (k' := 1) (amount_eq m (fw h c 1) (.reg b) 0 d) () (O₀ := O c n) (O c (n + 1))
      (by unfold O; rw [hO]; rfl) (W := W)) $$ [HO Ht Hp]
  · isplitr; · iexact HI
    isplitl [HO]; · iexact HO
    isplitl [Ht]; · iexact Ht
    isplitl [Hp]; · rw [payload_eq]; iexact Hp
    iexact Hr
  iintro HO
  iapply Hk
  iexists _; iexact HO

/-! ## Transfers -/

/-- What a written region holds. -/
theorem own_written {s : Shape} {e : EltTy} (r : Memref sig .tc .vmem s e) (f : Buf (Elt F) (r.view.loc (c : Thread nD τ))) (X : s.Idx → Elt F e) :
    ((r.view.loc (c : Thread nD τ) ↦[r.view.set]{fullShare} (r.view.write (Elt F) f X Finset.univ)) : sProp 𝕄) ⊢ own c r X := by
  refine BIBase.Entails.trans ?_ (own_close c r X)
  iintro H
  iexists _
  isplitr
  rotate_left
  · iexact H
  · ipureintro; exact View.read_write_univ _ _

theorem srcB_succ (h : Fin 2) (k : Dev nD) (n : ℕ) : (srcB h k (n + 1) : sProp 𝕄) = iprop(any (fw h k n) (oB h k) ∗ srcB h k n) := rfl

/-- Hop `s` of the summing: the running sum into the next device's slot, every region it was summed in given up. -/
theorem send_rs {α : Type} {Q : α → sProp 𝕄} (h : Fin 2) (s : Fin 3) (i : Fin 9) (hi : i.val = s.val) (n : ℕ) (hO : pays.drop n = (h, vS h i) :: pays.drop (n + 1))
    {dv : Dev nD} (hdv : dv = fw h c 1) {off : Fin 2 → ℕ} (hoff : off = ![512 * (bw h c s.val).val, 512 * h.val])
    {inb : ∀ a, off a + S512x512.size a ≤ S2048x1024.size a}
    {hsc : (lB h s : Memref sig (Dev.tc dv : Thread nD τ).2.kind .vmem S512x512 .bf16).view.ref.isScScratch = false}
    {hsrc : (oM.slice (Rect.unit (s := S2048x1024) off S512x512.size inb) (fun _ => rfl)).view.WordExact} {hdst : (lB h s).view.WordExact}
    {hsem : DmaTarget.Typed .vmem (.dma (vN h i)) (.remote (Dev.tc dv : Thread nD τ) (lB h s) (.dma (sN h i)) hsc)}
    {k : PUnit → Prog (TpuEff nD τ sig (Elt F) Λ₀ .tc) α} :
    iprop(recs m K ∗ sendR c h i ∗ own c (oB h (bw h c s.val)) (run m h (bw h c s.val) s.val) ∗ any (fw h c 1) (lB h s)
        ∗ srcB h (bw h c s.val) s.val ∗ Ow c n)
      ⊢ iprop(((sentR c h i ∗ Ow c (n + 1)) -∗ WP c (k ⟨⟩) Q)
          -∗ WP c (.op (.enqueueDma (oM.slice (Rect.unit (s := S2048x1024) off S512x512.size inb) (fun _ => rfl))
            (.remote (Dev.tc dv : Thread nD τ) (lB h s) (.dma (sN h i)) hsc) (.dma (vN h i)) hsrc hdst hsem) k) Q) := by
  subst hdv hoff
  have his : i.val < 3 := by rw [hi]; exact s.isLt
  have hA1 : amt (sS h i) = NR := (amt_s h i).trans (if_pos his)
  have hA2 : amt (vS h i) = NR := (amt_v h i).trans (if_pos his)
  unfold Ow sendR sentR
  iintro ⟨#HR, ⟨Ht1, Ht2, Hat⟩, Hsrc, ⟨%Y, Hdst⟩, HF, %W, HO⟩ Hk
  ihave #HI1 := (recs_s m K c h i) $$ HR
  icases HI1 with ⟨#HI1, #Hr1⟩
  ihave #HI2 := (recs_v m K (fw h c 1) h i) $$ HR
  icases HI2 with ⟨#HI2, #Hr2⟩
  ihave Hsrc := (own_open c _ _) $$ Hsrc
  icases Hsrc with ⟨%fs, %hfs, Hsrc⟩
  ihave Hdst := (own_open (fw h c 1) _ _) $$ Hdst
  icases Hdst with ⟨%fd, -, Hdst⟩
  iapply (Rounds.wp_send_landing_pointsTo_with 𝒱₀ ER (moeRd (F := F) m) (c : Thread nD τ) none
      (c' := ((fw h c 1 : Dev nD) : Thread nD τ)) (src := oB h (bw h c s.val)) (dst := lB h s) (sS := sS h i) (sem := vS h i)
      (κ₁ := K (c, .inr (0, h, i))) (κ₂ := K (fw h c 1, .inr (1, h, i)))
      (r₁ := 0) (r₂ := 0) (d₁ := (0 : Fin 2)) (d₂ := (0 : Fin 2)) (fs := fs) (fd := fd) (F := srcB h (bw h c s.val) s.val) (q := fullShare)
      (by rw [duties_eq, duty_s]; exact Finset.mem_singleton_self _) (by rw [duties_eq, duty_v]; exact Finset.mem_singleton_self _)
      () () NR rfl hA1 hA2 (O₀ := O c n) (O c (n + 1)) (by unfold O; rw [hO, ← hA2]; rfl) (W := W)
      (by rw [payload_eq, payOf_s]; unfold sendPay; rw [if_pos his])
      (by
        rw [payload_eq, payOf_v, hi]; unfold recvPay
        rw [dif_pos s.isLt, bw_succ]
        show _ ⊢ iprop(own (fw h c 1) (lB h s) (run m h (bw h c s.val) s.val) ∗ srcB h (bw h c s.val) (s.val + 1))
        iintro ⟨⟨Hd, HF⟩, Hs⟩
        isplitl [Hd]
        · rw [show (oB h (bw h c s.val)).view.read (Elt F) fs = run m h (bw h c s.val) s.val from hfs]
          iapply (own_written (fw h c 1) (lB h s) fd _); iexact Hd
        · rw [srcB_succ]
          isplitl [Hs]
          · rw [fw_bw]
            iexists _
            iapply (own_close c _ _)
            iexists fs
            isplitr; · ipureintro; rfl
            iexact Hs
          · iexact HF)) $$ [Ht1 Ht2 Hsrc Hdst HF HO]
  · isplitr; · iexact HI1
    isplitr; · iexact HI2
    isplitl [Hsrc]; · iexact Hsrc
    isplitl [Hdst HF]
    · isplitl [Hdst]; · iexact Hdst
      iexact HF
    isplitl [HO]; · iexact HO
    isplitl [Ht1]; · iexact Ht1
    isplitr; · iexact Hr1
    isplitl [Ht2]; · iexact Ht2
    iexact Hr2
  iintro ⟨Hc, HO⟩
  iapply Hk
  isplitl [Hat Hc]
  · isplitl [Hat]; · iexact Hat
    rw [hA1]; iexact Hc
  iexists _; iexact HO

/-- Where sub-block `u` of hop `t` of the gathering comes from, and where it goes. -/
theorem sendPay_ag (h u : Fin 2) (t : Fin 3) : sendPay m c h (3 + 2 * t.val + u.val) = don m c h (bw h c (3 + t.val)) u := by
  have hu := u.isLt
  have e1 : (3 + 2 * t.val + u.val - 3) / 2 = t.val := by omega
  have e2 : (⟨(3 + 2 * t.val + u.val - 3) % 2, Nat.mod_lt _ (by decide)⟩ : Fin 2) = u := Fin.ext (by show _ % 2 = _; omega)
  unfold sendPay
  rw [if_neg (by omega), e1, e2]
theorem recvPay_ag (h u : Fin 2) (t : Fin 3) : recvPay m c h (3 + 2 * t.val + u.val)
    = iprop(don m c h (bw h c t.val) u ∗ tgtB h (bw h c t.val) u (2 - t.val)) := by
  have hu := u.isLt
  have e1 : (3 + 2 * t.val + u.val - 3) / 2 = t.val := by omega
  have e2 : (⟨(3 + 2 * t.val + u.val - 3) % 2, Nat.mod_lt _ (by decide)⟩ : Fin 2) = u := Fin.ext (by show _ % 2 = _; omega)
  unfold recvPay
  rw [dif_neg (by omega), e1, e2]
theorem recvPay_rs (h : Fin 2) (s : Fin 3) : recvPay m c h s.val
    = iprop(own c (lB h s) (run m h (bw h c (s.val + 1)) s.val) ∗ srcB h (bw h c (s.val + 1)) (s.val + 1)) := by
  unfold recvPay
  rw [dif_pos s.isLt]
theorem bw_wrap (h : Fin 2) (t : Fin 3) : bw h (fw h c 1) t.val = bw h c (3 + t.val) := by revert h t c; decide
theorem fw_wrap (h : Fin 2) (t : Fin 3) : fw h (bw h c (3 + t.val)) (2 - (2 - t.val)) = fw h c 1 := by revert h t c; decide
theorem tgtB_step (h u : Fin 2) (t : Fin 3) (k : Dev nD) : (tgtB h k u (3 - t.val) : sProp 𝕄)
    = iprop(any (fw h k (2 - (2 - t.val))) (sB h k u) ∗ tgtB h k u (2 - t.val)) := by
  have ht := t.isLt
  rw [show 3 - t.val = (2 - t.val) + 1 by omega]
  rfl

/-- Hop `t` of the gathering: a finished sub-block into the same rows of the next device. -/
theorem send_ag {α : Type} {Q : α → sProp 𝕄} (h u : Fin 2) (t : Fin 3) (i : Fin 9) (hi : i.val = 3 + 2 * t.val + u.val) (n : ℕ)
    (hO : pays.drop n = (h, vS h i) :: pays.drop (n + 1))
    {dv : Dev nD} (hdv : dv = fw h c 1) {off : Fin 2 → ℕ} (hoff : off = ![512 * (bw h c (3 + t.val)).val + 256 * u.val, 512 * h.val])
    {inb : ∀ a, off a + S256x512.size a ≤ S2048x1024.size a}
    {hsc : (oM.slice (Rect.unit (s := S2048x1024) off S256x512.size inb) (fun _ => rfl) :
      Memref sig (Dev.tc dv : Thread nD τ).2.kind .vmem S256x512 .bf16).view.ref.isScScratch = false}
    {hsrc : (oM.slice (Rect.unit (s := S2048x1024) off S256x512.size inb) (fun _ => rfl)).view.WordExact}
    {hdst : (oM.slice (Rect.unit (s := S2048x1024) off S256x512.size inb) (fun _ => rfl)).view.WordExact}
    {hsem : DmaTarget.Typed .vmem (.dma (vN h i)) (.remote (Dev.tc dv : Thread nD τ)
      (oM.slice (Rect.unit (s := S2048x1024) off S256x512.size inb) (fun _ => rfl)) (.dma (sN h i)) hsc)}
    {k : PUnit → Prog (TpuEff nD τ sig (Elt F) Λ₀ .tc) α} :
    iprop(recs m K ∗ sendR c h i ∗ don m c h (bw h c (3 + t.val)) u ∗ tgtB h (bw h c (3 + t.val)) u (3 - t.val) ∗ Ow c n)
      ⊢ iprop(((sentR c h i ∗ Ow c (n + 1)) -∗ WP c (k ⟨⟩) Q)
          -∗ WP c (.op (.enqueueDma (oM.slice (Rect.unit (s := S2048x1024) off S256x512.size inb) (fun _ => rfl))
            (.remote (Dev.tc dv : Thread nD τ) (oM.slice (Rect.unit (s := S2048x1024) off S256x512.size inb) (fun _ => rfl)) (.dma (sN h i)) hsc)
            (.dma (vN h i)) hsrc hdst hsem) k) Q) := by
  subst hdv hoff
  have his : ¬ i.val < 3 := by omega
  have hA1 : amt (sS h i) = NA := (amt_s h i).trans (if_neg his)
  have hA2 : amt (vS h i) = NA := (amt_v h i).trans (if_neg his)
  unfold Ow sendR sentR
  rw [tgtB_step, fw_wrap]
  iintro ⟨#HR, ⟨Ht1, Ht2, Hat⟩, Hsrc, ⟨⟨%Y, Hdst⟩, HF⟩, %W, HO⟩ Hk
  ihave #HI1 := (recs_s m K c h i) $$ HR
  icases HI1 with ⟨#HI1, #Hr1⟩
  ihave #HI2 := (recs_v m K (fw h c 1) h i) $$ HR
  icases HI2 with ⟨#HI2, #Hr2⟩
  ihave Hsrc := (own_open c _ _) $$ Hsrc
  icases Hsrc with ⟨%fs, %hfs, Hsrc⟩
  ihave Hdst := (own_open (fw h c 1) _ _) $$ Hdst
  icases Hdst with ⟨%fd, -, Hdst⟩
  iapply (Rounds.wp_send_pointsTo_with 𝒱₀ ER (moeRd (F := F) m) (c : Thread nD τ) none
      (c' := ((fw h c 1 : Dev nD) : Thread nD τ)) (src := sB h (bw h c (3 + t.val)) u) (dst := sB h (bw h c (3 + t.val)) u) (sS := sS h i) (sem := vS h i)
      (κ₁ := K (c, .inr (0, h, i))) (κ₂ := K (fw h c 1, .inr (1, h, i)))
      (r₁ := 0) (r₂ := 0) (d₁ := (0 : Fin 2)) (d₂ := (0 : Fin 2)) (fs := fs) (fd := (show Buf (Elt F) ((sB h (bw h c (3 + t.val)) u).view.loc ((fw h c 1 : Dev nD) : Thread nD τ)) from fd)) (F := tgtB h (bw h c (3 + t.val)) u (2 - t.val)) (q := fullShare)
      (by rw [duties_eq, duty_s]; exact Finset.mem_singleton_self _) (by rw [duties_eq, duty_v]; exact Finset.mem_singleton_self _)
      () () NA rfl hA1 hA2 (O₀ := O c n) (O c (n + 1)) (by unfold O; rw [hO, ← hA2]; rfl) (W := W)
      (by
        rw [payload_eq, payOf_s, hi, sendPay_ag]
        iintro H
        iapply (own_close c _ _)
        iexists fs
        isplitr; · ipureintro; exact hfs
        iexact H)
      (by
        rw [payload_eq, payOf_v, hi, recvPay_ag, bw_wrap]
        iintro ⟨Hd, HF⟩
        isplitl [Hd]
        · rw [show (sB h (bw h c (3 + t.val)) u).view.read (Elt F) fs = finS m h (bw h c (3 + t.val)) u from hfs]
          iapply (own_written (fw h c 1) (sB h (bw h c (3 + t.val)) u) fd _); iexact Hd
        · iexact HF)) $$ [Ht1 Ht2 Hsrc Hdst HF HO]
  · isplitr; · iexact HI1
    isplitr; · iexact HI2
    isplitl [Hsrc]; · iexact Hsrc
    isplitl [Hdst HF]
    · isplitl [Hdst]; · iexact Hdst
      iexact HF
    isplitl [HO]; · iexact HO
    isplitl [Ht1]; · iexact Ht1
    isplitr; · iexact Hr1
    isplitl [Ht2]; · iexact Ht2
    iexact Hr2
  iintro ⟨Hc, HO⟩
  iapply Hk
  isplitl [Hat Hc]
  · isplitl [Hat]; · iexact Hat
    rw [hA1]; iexact Hc
  iexists _; iexact HO

end Cert.KernelIdeal.Moe

end
-- ==== Proof.Moves.lean ====
/-
# Moves: the steps in the form the body takes them

The offsets, the devices and the semaphores the program computes, named by the ring; the values its stores write, named by
the contents; the waits and the loads in the form the body uses them.
-/
module

public import proofs.«01_k».proof.Proof.Steps

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (c : Dev nD) (K : Dev nD × Ci → ℕ)

/-! ## Offsets -/

theorem k0_off1_at : k0_off1 c = ![512 * (bw 1 c 0).val, 0] := ((k0_off1_eq c) : k0_off1 c = _).trans (by revert c; decide)
theorem k0_off2_at : k0_off2 c = ![512 * (bw 1 c 0).val, 0] := ((k0_off2_eq c) : k0_off2 c = _).trans (by revert c; decide)
theorem k0_off3_at : k0_off3 c = ![512 * (bw 1 c 0).val, 0] := ((k0_off3_eq c) : k0_off3 c = _).trans (by revert c; decide)
theorem k0_off8_at : k0_off8 c = ![512 * (bw 1 c 3).val, 0] := ((k0_off8_eq c) : k0_off8 c = _).trans (by revert c; decide)
theorem k0_off9_at : k0_off9 c = ![512 * (bw 1 c 3).val, 0] := ((k0_off9_eq c) : k0_off9 c = _).trans (by revert c; decide)
theorem k0_off10_at : k0_off10 c = ![512 * (bw 1 c 3).val, 0] := ((k0_off10_eq c) : k0_off10 c = _).trans (by revert c; decide)
theorem k0_off13_at_1 : k0_off13 c 1#32 = ![512 * (bw 1 c 1).val, 0] := ((k0_off13_eq c 0) : k0_off13 c 1#32 = _).trans (by revert c; decide)
theorem k0_off13_at_2 : k0_off13 c 2#32 = ![512 * (bw 1 c 2).val, 0] := ((k0_off13_eq c 1) : k0_off13 c 2#32 = _).trans (by revert c; decide)
theorem k0_off14_at_1 : k0_off14 c 1#32 = ![512 * (bw 1 c 1).val, 0] := ((k0_off14_eq c 0) : k0_off14 c 1#32 = _).trans (by revert c; decide)
theorem k0_off14_at_2 : k0_off14 c 2#32 = ![512 * (bw 1 c 2).val, 0] := ((k0_off14_eq c 1) : k0_off14 c 2#32 = _).trans (by revert c; decide)
theorem k0_off15_at_1 : k0_off15 c 1#32 = ![512 * (bw 1 c 1).val, 0] := ((k0_off15_eq c 0) : k0_off15 c 1#32 = _).trans (by revert c; decide)
theorem k0_off15_at_2 : k0_off15 c 2#32 = ![512 * (bw 1 c 2).val, 0] := ((k0_off15_eq c 1) : k0_off15 c 2#32 = _).trans (by revert c; decide)
theorem k0_off4_at : k0_off4 c = ![512 * (bw 0 c 0).val, 512 * (0 : Fin 2).val] := ((k0_off4_eq c) : k0_off4 c = _).trans (by revert c; decide)
theorem k0_off5_at : k0_off5 c = ![512 * (bw 0 c 0).val, 512 * (0 : Fin 2).val] := ((k0_off5_eq c) : k0_off5 c = _).trans (by revert c; decide)
theorem k0_off6_at : k0_off6 c = ![512 * (bw 1 c 0).val, 512 * (1 : Fin 2).val] := ((k0_off6_eq c) : k0_off6 c = _).trans (by revert c; decide)
theorem k0_off7_at : k0_off7 c = ![512 * (bw 1 c 0).val, 512 * (1 : Fin 2).val] := ((k0_off7_eq c) : k0_off7 c = _).trans (by revert c; decide)
theorem k0_off11_at : k0_off11 c = ![512 * (bw 0 c 1).val, 512 * (0 : Fin 2).val] := ((k0_off11_eq c) : k0_off11 c = _).trans (by revert c; decide)
theorem k0_off12_at : k0_off12 c = ![512 * (bw 0 c 1).val, 512 * (0 : Fin 2).val] := ((k0_off12_eq c) : k0_off12 c = _).trans (by revert c; decide)
theorem k0_off16_at_1 : k0_off16 c 1#32 = ![512 * (bw 1 c 1).val, 512 * (1 : Fin 2).val] := ((k0_off16_eq c 0) : k0_off16 c 1#32 = _).trans (by revert c; decide)
theorem k0_off17_at_1 : k0_off17 c 1#32 = ![512 * (bw 1 c 1).val, 512 * (1 : Fin 2).val] := ((k0_off17_eq c 0) : k0_off17 c 1#32 = _).trans (by revert c; decide)
theorem k0_off16_at_2 : k0_off16 c 2#32 = ![512 * (bw 1 c 2).val, 512 * (1 : Fin 2).val] := ((k0_off16_eq c 1) : k0_off16 c 2#32 = _).trans (by revert c; decide)
theorem k0_off17_at_2 : k0_off17 c 2#32 = ![512 * (bw 1 c 2).val, 512 * (1 : Fin 2).val] := ((k0_off17_eq c 1) : k0_off17 c 2#32 = _).trans (by revert c; decide)
theorem k0_off18_at_1 : k0_off18 c 1#32 = ![512 * (bw 0 c 3).val, 512 * (0 : Fin 2).val] := ((k0_off18_eq c 0) : k0_off18 c 1#32 = _).trans (by revert c; decide)
theorem k0_off18_at_2 : k0_off18 c 2#32 = ![512 * (bw 0 c 2).val, 512 * (0 : Fin 2).val] := ((k0_off18_eq c 1) : k0_off18 c 2#32 = _).trans (by revert c; decide)
theorem k0_off19_at : k0_off19 c = ![512 * (bw 0 c 2).val, 512 * (0 : Fin 2).val] := ((k0_off19_eq c) : k0_off19 c = _).trans (by revert c; decide)
theorem k0_off21_at : k0_off21 c = ![512 * (bw 1 c 3).val, 512 * (1 : Fin 2).val] := ((k0_off21_eq c) : k0_off21 c = _).trans (by revert c; decide)
theorem k0_off20_at_0 : k0_off20 c 0#32 = ![512 * (bw 0 c 3).val + 256 * (0 : Fin 2).val, 512 * (0 : Fin 2).val] := ((k0_off20_eq c 0) : k0_off20 c 0#32 = _).trans (by revert c; decide)
theorem k0_off22_at_0 : k0_off22 c 0#32 = ![512 * (bw 1 c 3).val + 256 * (0 : Fin 2).val, 512 * (1 : Fin 2).val] := ((k0_off22_eq c 0) : k0_off22 c 0#32 = _).trans (by revert c; decide)
theorem k0_off24_at_1_0 : k0_off24 c 1#32 0#32 = ![512 * (bw 0 c 0).val + 256 * (0 : Fin 2).val, 512 * (0 : Fin 2).val] := ((k0_off24_eq c 0 0) : k0_off24 c 1#32 0#32 = _).trans (by revert c; decide)
theorem k0_off26_at_1_0 : k0_off26 c 1#32 0#32 = ![512 * (bw 1 c 0).val + 256 * (0 : Fin 2).val, 512 * (1 : Fin 2).val] := ((k0_off26_eq c 0 0) : k0_off26 c 1#32 0#32 = _).trans (by revert c; decide)
theorem k0_off24_at_2_0 : k0_off24 c 2#32 0#32 = ![512 * (bw 0 c 1).val + 256 * (0 : Fin 2).val, 512 * (0 : Fin 2).val] := ((k0_off24_eq c 1 0) : k0_off24 c 2#32 0#32 = _).trans (by revert c; decide)
theorem k0_off26_at_2_0 : k0_off26 c 2#32 0#32 = ![512 * (bw 1 c 1).val + 256 * (0 : Fin 2).val, 512 * (1 : Fin 2).val] := ((k0_off26_eq c 1 0) : k0_off26 c 2#32 0#32 = _).trans (by revert c; decide)
theorem k0_off20_at_1 : k0_off20 c 256#32 = ![512 * (bw 0 c 3).val + 256 * (1 : Fin 2).val, 512 * (0 : Fin 2).val] := ((k0_off20_eq c 1) : k0_off20 c 256#32 = _).trans (by revert c; decide)
theorem k0_off22_at_1 : k0_off22 c 256#32 = ![512 * (bw 1 c 3).val + 256 * (1 : Fin 2).val, 512 * (1 : Fin 2).val] := ((k0_off22_eq c 1) : k0_off22 c 256#32 = _).trans (by revert c; decide)
theorem k0_off24_at_1_1 : k0_off24 c 1#32 256#32 = ![512 * (bw 0 c 0).val + 256 * (1 : Fin 2).val, 512 * (0 : Fin 2).val] := ((k0_off24_eq c 0 1) : k0_off24 c 1#32 256#32 = _).trans (by revert c; decide)
theorem k0_off26_at_1_1 : k0_off26 c 1#32 256#32 = ![512 * (bw 1 c 0).val + 256 * (1 : Fin 2).val, 512 * (1 : Fin 2).val] := ((k0_off26_eq c 0 1) : k0_off26 c 1#32 256#32 = _).trans (by revert c; decide)
theorem k0_off24_at_2_1 : k0_off24 c 2#32 256#32 = ![512 * (bw 0 c 1).val + 256 * (1 : Fin 2).val, 512 * (0 : Fin 2).val] := ((k0_off24_eq c 1 1) : k0_off24 c 2#32 256#32 = _).trans (by revert c; decide)
theorem k0_off26_at_2_1 : k0_off26 c 2#32 256#32 = ![512 * (bw 1 c 1).val + 256 * (1 : Fin 2).val, 512 * (1 : Fin 2).val] := ((k0_off26_eq c 1 1) : k0_off26 c 2#32 256#32 = _).trans (by revert c; decide)

/-! ## Devices -/

theorem dev1_at : (⟨k0_dev1 c, k0_dev1_lt c⟩ : Dev nD) = fw 1 c 1 := Fin.ext ((k0_dev1_eq c).trans (by revert c; decide))
theorem dev2_at : (⟨k0_dev2 c, k0_dev2_lt c⟩ : Dev nD) = fw 0 c 1 := Fin.ext ((k0_dev2_eq c).trans (by revert c; decide))
theorem dev3_at : (⟨k0_dev3 c, k0_dev3_lt c⟩ : Dev nD) = fw 0 c 1 := Fin.ext ((k0_dev3_eq c).trans (by revert c; decide))
theorem dev4_at : (⟨k0_dev4 c, k0_dev4_lt c⟩ : Dev nD) = fw 1 c 1 := Fin.ext ((k0_dev4_eq c).trans (by revert c; decide))
theorem dev5_at : (⟨k0_dev5 c, k0_dev5_lt c⟩ : Dev nD) = fw 0 c 1 := Fin.ext ((k0_dev5_eq c).trans (by revert c; decide))
theorem dev6_at : (⟨k0_dev6 c, k0_dev6_lt c⟩ : Dev nD) = fw 1 c 1 := Fin.ext ((k0_dev6_eq c).trans (by revert c; decide))
theorem dev7_at : (⟨k0_dev7 c, k0_dev7_lt c⟩ : Dev nD) = fw 0 c 1 := Fin.ext ((k0_dev7_eq c).trans (by revert c; decide))
theorem dev8_at : (⟨k0_dev8 c, k0_dev8_lt c⟩ : Dev nD) = fw 1 c 1 := Fin.ext ((k0_dev8_eq c).trans (by revert c; decide))
theorem dev9_at : (⟨k0_dev9 c, k0_dev9_lt c⟩ : Dev nD) = fw 0 c 1 := Fin.ext ((k0_dev9_eq c).trans (by revert c; decide))
theorem dev10_at : (⟨k0_dev10 c, k0_dev10_lt c⟩ : Dev nD) = fw 0 c 1 := Fin.ext ((k0_dev10_eq c).trans (by revert c; decide))
theorem dev11_at : (⟨k0_dev11 c, k0_dev11_lt c⟩ : Dev nD) = fw 1 c 1 := Fin.ext ((k0_dev11_eq c).trans (by revert c; decide))
theorem dev12_at : (⟨k0_dev12 c, k0_dev12_lt c⟩ : Dev nD) = fw 1 c 1 := Fin.ext ((k0_dev12_eq c).trans (by revert c; decide))
theorem dev13_at : (⟨k0_dev13 c, k0_dev13_lt c⟩ : Dev nD) = fw 0 c 1 := Fin.ext ((k0_dev13_eq c).trans (by revert c; decide))
theorem dev14_at : (⟨k0_dev14 c, k0_dev14_lt c⟩ : Dev nD) = fw 1 c 1 := Fin.ext ((k0_dev14_eq c).trans (by revert c; decide))
theorem dev15_at : (⟨k0_dev15 c, k0_dev15_lt c⟩ : Dev nD) = fw 0 c 1 := Fin.ext ((k0_dev15_eq c).trans (by revert c; decide))
theorem dev16_at : (⟨k0_dev16 c, k0_dev16_lt c⟩ : Dev nD) = fw 1 c 1 := Fin.ext ((k0_dev16_eq c).trans (by revert c; decide))
theorem dev17_at : (⟨k0_dev17 c, k0_dev17_lt c⟩ : Dev nD) = fw 0 c 1 := Fin.ext ((k0_dev17_eq c).trans (by revert c; decide))
theorem dev18_at : (⟨k0_dev18 c, k0_dev18_lt c⟩ : Dev nD) = fw 1 c 1 := Fin.ext ((k0_dev18_eq c).trans (by revert c; decide))
theorem dev19_at : (⟨k0_dev19 c, k0_dev19_lt c⟩ : Dev nD) = fw 0 c 1 := Fin.ext ((k0_dev19_eq c).trans (by revert c; decide))
theorem dev20_at : (⟨k0_dev20 c, k0_dev20_lt c⟩ : Dev nD) = fw 1 c 1 := Fin.ext ((k0_dev20_eq c).trans (by revert c; decide))
theorem dev21_at : (⟨k0_dev21 c, k0_dev21_lt c⟩ : Dev nD) = fw 1 c 1 := Fin.ext ((k0_dev21_eq c).trans (by revert c; decide))
theorem dev22_at : (⟨k0_dev22 c, k0_dev22_lt c⟩ : Dev nD) = fw 0 c 1 := Fin.ext ((k0_dev22_eq c).trans (by revert c; decide))

/-! ## Semaphores and slots -/

theorem sem_s_0_0 : ((cc0_scratch2.slice (Rect.unit (s := S2x9) ![0, 0] S1x1.size inb_S2x9_S1x1_0_0)).squeeze S_ squeezes_S1x1_S_).sem = sN 0 0 := rfl
theorem sem_v_0_0 : ((cc0_scratch3.slice (Rect.unit (s := S2x9) ![0, 0] S1x1.size inb_S2x9_S1x1_0_0)).squeeze S_ squeezes_S1x1_S_).sem = vN 0 0 := rfl
theorem sem_s_0_1 : ((cc0_scratch2.slice (Rect.unit (s := S2x9) ![0, 1] S1x1.size inb_S2x9_S1x1_0_1)).squeeze S_ squeezes_S1x1_S_).sem = sN 0 1 := rfl
theorem sem_v_0_1 : ((cc0_scratch3.slice (Rect.unit (s := S2x9) ![0, 1] S1x1.size inb_S2x9_S1x1_0_1)).squeeze S_ squeezes_S1x1_S_).sem = vN 0 1 := rfl
theorem sem_s_0_2 : ((cc0_scratch2.slice (Rect.unit (s := S2x9) ![0, 2] S1x1.size inb_S2x9_S1x1_0_2)).squeeze S_ squeezes_S1x1_S_).sem = sN 0 2 := rfl
theorem sem_v_0_2 : ((cc0_scratch3.slice (Rect.unit (s := S2x9) ![0, 2] S1x1.size inb_S2x9_S1x1_0_2)).squeeze S_ squeezes_S1x1_S_).sem = vN 0 2 := rfl
theorem sem_s_0_3 : ((cc0_scratch2.slice (Rect.unit (s := S2x9) ![0, 3] S1x1.size inb_S2x9_S1x1_0_3)).squeeze S_ squeezes_S1x1_S_).sem = sN 0 3 := rfl
theorem sem_v_0_3 : ((cc0_scratch3.slice (Rect.unit (s := S2x9) ![0, 3] S1x1.size inb_S2x9_S1x1_0_3)).squeeze S_ squeezes_S1x1_S_).sem = vN 0 3 := rfl
theorem sem_s_0_4 : ((cc0_scratch2.slice (Rect.unit (s := S2x9) ![0, 4] S1x1.size inb_S2x9_S1x1_0_4)).squeeze S_ squeezes_S1x1_S_).sem = sN 0 4 := rfl
theorem sem_v_0_4 : ((cc0_scratch3.slice (Rect.unit (s := S2x9) ![0, 4] S1x1.size inb_S2x9_S1x1_0_4)).squeeze S_ squeezes_S1x1_S_).sem = vN 0 4 := rfl
theorem sem_s_0_5 : ((cc0_scratch2.slice (Rect.unit (s := S2x9) ![0, 5] S1x1.size inb_S2x9_S1x1_0_5)).squeeze S_ squeezes_S1x1_S_).sem = sN 0 5 := rfl
theorem sem_v_0_5 : ((cc0_scratch3.slice (Rect.unit (s := S2x9) ![0, 5] S1x1.size inb_S2x9_S1x1_0_5)).squeeze S_ squeezes_S1x1_S_).sem = vN 0 5 := rfl
theorem sem_s_0_6 : ((cc0_scratch2.slice (Rect.unit (s := S2x9) ![0, 6] S1x1.size inb_S2x9_S1x1_0_6)).squeeze S_ squeezes_S1x1_S_).sem = sN 0 6 := rfl
theorem sem_v_0_6 : ((cc0_scratch3.slice (Rect.unit (s := S2x9) ![0, 6] S1x1.size inb_S2x9_S1x1_0_6)).squeeze S_ squeezes_S1x1_S_).sem = vN 0 6 := rfl
theorem sem_s_0_7 : ((cc0_scratch2.slice (Rect.unit (s := S2x9) ![0, 7] S1x1.size inb_S2x9_S1x1_0_7)).squeeze S_ squeezes_S1x1_S_).sem = sN 0 7 := rfl
theorem sem_v_0_7 : ((cc0_scratch3.slice (Rect.unit (s := S2x9) ![0, 7] S1x1.size inb_S2x9_S1x1_0_7)).squeeze S_ squeezes_S1x1_S_).sem = vN 0 7 := rfl
theorem sem_s_0_8 : ((cc0_scratch2.slice (Rect.unit (s := S2x9) ![0, 8] S1x1.size inb_S2x9_S1x1_0_8)).squeeze S_ squeezes_S1x1_S_).sem = sN 0 8 := rfl
theorem sem_v_0_8 : ((cc0_scratch3.slice (Rect.unit (s := S2x9) ![0, 8] S1x1.size inb_S2x9_S1x1_0_8)).squeeze S_ squeezes_S1x1_S_).sem = vN 0 8 := rfl
theorem sem_s_1_0 : ((cc0_scratch2.slice (Rect.unit (s := S2x9) ![1, 0] S1x1.size inb_S2x9_S1x1_1_0)).squeeze S_ squeezes_S1x1_S_).sem = sN 1 0 := rfl
theorem sem_v_1_0 : ((cc0_scratch3.slice (Rect.unit (s := S2x9) ![1, 0] S1x1.size inb_S2x9_S1x1_1_0)).squeeze S_ squeezes_S1x1_S_).sem = vN 1 0 := rfl
theorem sem_s_1_1 : ((cc0_scratch2.slice (Rect.unit (s := S2x9) ![1, 1] S1x1.size inb_S2x9_S1x1_1_1)).squeeze S_ squeezes_S1x1_S_).sem = sN 1 1 := rfl
theorem sem_v_1_1 : ((cc0_scratch3.slice (Rect.unit (s := S2x9) ![1, 1] S1x1.size inb_S2x9_S1x1_1_1)).squeeze S_ squeezes_S1x1_S_).sem = vN 1 1 := rfl
theorem sem_s_1_2 : ((cc0_scratch2.slice (Rect.unit (s := S2x9) ![1, 2] S1x1.size inb_S2x9_S1x1_1_2)).squeeze S_ squeezes_S1x1_S_).sem = sN 1 2 := rfl
theorem sem_v_1_2 : ((cc0_scratch3.slice (Rect.unit (s := S2x9) ![1, 2] S1x1.size inb_S2x9_S1x1_1_2)).squeeze S_ squeezes_S1x1_S_).sem = vN 1 2 := rfl
theorem sem_s_1_3 : ((cc0_scratch2.slice (Rect.unit (s := S2x9) ![1, 3] S1x1.size inb_S2x9_S1x1_1_3)).squeeze S_ squeezes_S1x1_S_).sem = sN 1 3 := rfl
theorem sem_v_1_3 : ((cc0_scratch3.slice (Rect.unit (s := S2x9) ![1, 3] S1x1.size inb_S2x9_S1x1_1_3)).squeeze S_ squeezes_S1x1_S_).sem = vN 1 3 := rfl
theorem sem_s_1_4 : ((cc0_scratch2.slice (Rect.unit (s := S2x9) ![1, 4] S1x1.size inb_S2x9_S1x1_1_4)).squeeze S_ squeezes_S1x1_S_).sem = sN 1 4 := rfl
theorem sem_v_1_4 : ((cc0_scratch3.slice (Rect.unit (s := S2x9) ![1, 4] S1x1.size inb_S2x9_S1x1_1_4)).squeeze S_ squeezes_S1x1_S_).sem = vN 1 4 := rfl
theorem sem_s_1_5 : ((cc0_scratch2.slice (Rect.unit (s := S2x9) ![1, 5] S1x1.size inb_S2x9_S1x1_1_5)).squeeze S_ squeezes_S1x1_S_).sem = sN 1 5 := rfl
theorem sem_v_1_5 : ((cc0_scratch3.slice (Rect.unit (s := S2x9) ![1, 5] S1x1.size inb_S2x9_S1x1_1_5)).squeeze S_ squeezes_S1x1_S_).sem = vN 1 5 := rfl
theorem sem_s_1_6 : ((cc0_scratch2.slice (Rect.unit (s := S2x9) ![1, 6] S1x1.size inb_S2x9_S1x1_1_6)).squeeze S_ squeezes_S1x1_S_).sem = sN 1 6 := rfl
theorem sem_v_1_6 : ((cc0_scratch3.slice (Rect.unit (s := S2x9) ![1, 6] S1x1.size inb_S2x9_S1x1_1_6)).squeeze S_ squeezes_S1x1_S_).sem = vN 1 6 := rfl
theorem sem_s_1_7 : ((cc0_scratch2.slice (Rect.unit (s := S2x9) ![1, 7] S1x1.size inb_S2x9_S1x1_1_7)).squeeze S_ squeezes_S1x1_S_).sem = sN 1 7 := rfl
theorem sem_v_1_7 : ((cc0_scratch3.slice (Rect.unit (s := S2x9) ![1, 7] S1x1.size inb_S2x9_S1x1_1_7)).squeeze S_ squeezes_S1x1_S_).sem = vN 1 7 := rfl
theorem sem_s_1_8 : ((cc0_scratch2.slice (Rect.unit (s := S2x9) ![1, 8] S1x1.size inb_S2x9_S1x1_1_8)).squeeze S_ squeezes_S1x1_S_).sem = sN 1 8 := rfl
theorem sem_v_1_8 : ((cc0_scratch3.slice (Rect.unit (s := S2x9) ![1, 8] S1x1.size inb_S2x9_S1x1_1_8)).squeeze S_ squeezes_S1x1_S_).sem = vN 1 8 := rfl
theorem slot_0_0 : (lM.slice (Rect.unit (s := S2x3x512x512) ![0, 0, 0, 0] S1x1x512x512.size inb_S2x3x512x512_S1x1x512x512_0_0_0_0) (fun _ => rfl)).squeeze S512x512 squeezes_S1x1x512x512_S512x512 = lB 0 0 := rfl
theorem slot_0_1 : (lM.slice (Rect.unit (s := S2x3x512x512) ![0, 1, 0, 0] S1x1x512x512.size inb_S2x3x512x512_S1x1x512x512_0_1_0_0) (fun _ => rfl)).squeeze S512x512 squeezes_S1x1x512x512_S512x512 = lB 0 1 := rfl
theorem slot_0_2 : (lM.slice (Rect.unit (s := S2x3x512x512) ![0, 2, 0, 0] S1x1x512x512.size inb_S2x3x512x512_S1x1x512x512_0_2_0_0) (fun _ => rfl)).squeeze S512x512 squeezes_S1x1x512x512_S512x512 = lB 0 2 := rfl
theorem slot_1_0 : (lM.slice (Rect.unit (s := S2x3x512x512) ![1, 0, 0, 0] S1x1x512x512.size inb_S2x3x512x512_S1x1x512x512_1_0_0_0) (fun _ => rfl)).squeeze S512x512 squeezes_S1x1x512x512_S512x512 = lB 1 0 := rfl
theorem slot_1_1 : (lM.slice (Rect.unit (s := S2x3x512x512) ![1, 1, 0, 0] S1x1x512x512.size inb_S2x3x512x512_S1x1x512x512_1_1_0_0) (fun _ => rfl)).squeeze S512x512 squeezes_S1x1x512x512_S512x512 = lB 1 1 := rfl
theorem slot_1_2 : (lM.slice (Rect.unit (s := S2x3x512x512) ![1, 2, 0, 0] S1x1x512x512.size inb_S2x3x512x512_S1x1x512x512_1_2_0_0) (fun _ => rfl)).squeeze S512x512 squeezes_S1x1x512x512_S512x512 = lB 1 2 := rfl
theorem sem_bar : (SemArray.scalar (sig.barrier 0 rfl) : Sems sig S_).sem = (0 : Fin 2) := rfl
theorem sem_end : cc0_scoped0.sem = (1 : Fin 2) := rfl

/-! ## Values -/

/-- The masked copies are the same wherever the program computes them. -/
theorem cat_first (v2 : BitVec 32) (x : Vec F S512x512 .bf16) (r : Vec F S512x32 .bf16) (ix : Vec F S512x2 .i32) :
    k0_pay23 (k0_pay20 x) (k0_pay22 v2 (k0_pay20 x) (k0_pay21 r) (constant S512x32 .f32 0x00000000#32) ix) = catOf v2 x r ix := rfl
theorem cat_second (v2 : BitVec 32) (x : Vec F S512x512 .bf16) (r : Vec F S512x32 .bf16) (ix : Vec F S512x2 .i32) :
    k0_pay33 (k0_pay32 v2 (k0_pay26 x) (k0_pay27 x r) (k0_pay29 ix) (k0_pay30 ix) (iota .tc S512x32 32 [1] iota_S512x32_d1_w32)
      (k0_pay31 x r ix)) = catOf v2 x r ix := rfl
theorem cat_third (v2 : BitVec 32) (x : Vec F S512x512 .bf16) (r : Vec F S512x32 .bf16) (ix : Vec F S512x2 .i32) :
    k0_pay39 (k0_pay36 x) (k0_pay38 v2 (k0_pay36 x) (k0_pay37 r) (constant S512x32 .f32 0x00000000#32) ix) = catOf v2 x r ix := rfl

/-- The device's share of a chunk, from the masked copies of the rows the chunk stands for. -/
theorem part_0 (k k' : Dev nD) (e : k' = k) : k0_pay18 (k0_pay1 (inW m c)) (cat m c k') = part m c 0 k := by rw [e]; rfl
theorem part_1 (k : Dev nD) : k0_pay19 (k0_pay1 (inW m c)) (cat m c k) = part m c 1 k := rfl
theorem run_start (h : Fin 2) : part m c h (bw h c 0) = run m h (bw h c 0) 0 := by
  show _ = part m (fw h (bw h c 0) 0) h (bw h c 0)
  rw [fw_bw]
theorem run_add (h : Fin 2) (n : ℕ) :
    k0_pay25 (part m c h (bw h c (n + 1))) (wide (run m h (bw h c (n + 1)) n)) = run m h (bw h c (n + 1)) (n + 1) := by
  show _ = k0_pay25 (part m (fw h (bw h c (n + 1)) (n + 1)) h (bw h c (n + 1))) (wide (run m h (bw h c (n + 1)) n))
  rw [fw_bw]
theorem bw01 : bw 1 c 3 = bw 0 c 1 := by revert c; decide
theorem bw02 : bw 1 c 2 = bw 0 c 2 := by revert c; decide
theorem bw03 : bw 1 c 1 = bw 0 c 3 := by revert c; decide
theorem bw00 : bw 1 c 0 = bw 0 c 0 := by revert c; decide

/-- What each store of a share and of a sum writes. -/
theorem val_00 : k0_pay18 (k0_pay1 (inW m c)) (cat m c (bw 1 c 0)) = run m 0 (bw 0 c 0) 0 := (part_0 m c _ _ (bw00 c)).trans (run_start m c 0)
theorem val_10 : k0_pay19 (k0_pay1 (inW m c)) (cat m c (bw 1 c 0)) = run m 1 (bw 1 c 0) 0 := (part_1 m c _).trans (run_start m c 1)
theorem val_01 : k0_pay24 (k0_pay1 (inW m c)) (cat m c (bw 1 c 3)) = part m c 0 (bw 0 c 1) := part_0 m c _ _ (bw01 c)
theorem val_11 : k0_pay34 (k0_pay1 (inW m c)) (cat m c (bw 1 c 1)) = part m c 1 (bw 1 c 1) := part_1 m c _
theorem val_02 : k0_pay40 (k0_pay1 (inW m c)) (cat m c (bw 1 c 2)) = part m c 0 (bw 0 c 2) := part_0 m c _ _ (bw02 c)
theorem val_12 : k0_pay42 (k0_pay1 (inW m c)) (cat m c (bw 1 c 2)) = part m c 1 (bw 1 c 2) := part_1 m c _
theorem val_03 : k0_pay45 (k0_pay44 (k0_pay1 (inW m c))) (cat m c (bw 1 c 1)) = part m c 0 (bw 0 c 3) := part_0 m c _ _ (bw03 c)
theorem val_13 : k0_pay49 (k0_pay1 (inW m c)) (cat m c (bw 1 c 3)) = part m c 1 (bw 1 c 3) := part_1 m c _
theorem sum_01 : k0_pay25 (part m c 0 (bw 0 c 1)) (wide (run m 0 (bw 0 c 1) 0)) = run m 0 (bw 0 c 1) 1 := run_add m c 0 0
theorem sum_11 : k0_pay35 (part m c 1 (bw 1 c 1)) (wide (run m 1 (bw 1 c 1) 0)) = run m 1 (bw 1 c 1) 1 := run_add m c 1 0
theorem sum_02 : k0_pay41 (part m c 0 (bw 0 c 2)) (wide (run m 0 (bw 0 c 2) 1)) = run m 0 (bw 0 c 2) 2 := run_add m c 0 1
theorem sum_12 : k0_pay43 (part m c 1 (bw 1 c 2)) (wide (run m 1 (bw 1 c 2) 1)) = run m 1 (bw 1 c 2) 2 := run_add m c 1 1
theorem sum_03 : k0_pay48 (k0_pay46 (part m c 0 (bw 0 c 3))) (k0_pay47 (wide (run m 0 (bw 0 c 3) 2))) = run m 0 (bw 0 c 3) 3 := run_add m c 0 2
theorem sum_13 : k0_pay50 (part m c 1 (bw 1 c 3)) (wide (run m 1 (bw 1 c 3) 2)) = run m 1 (bw 1 c 3) 3 := run_add m c 1 2

theorem fin_halves (h : Fin 2) (k : Dev nD) : (own c (oB h k) (run m h k 3) : sProp 𝕄) ⊢ iprop(don m c h k 0 ∗ don m c h k 1) :=
  own_halves c h k _

/-! ## Loads and stores -/

theorem store_to {α : Type} {Q : α → sProp 𝕄} {s : Shape} {e : EltTy} (M : Memref sig .tc .vmem s e) {off off' sz : Fin s.rank → ℕ} (hoff : off = off')
    {inb : ∀ a, off a + sz a ≤ s.size a} {inb' : ∀ a, off' a + sz a ≤ s.size a}
    {w w' : (Rect.unit off sz inb).shape.Idx → Elt F e} (hw : w = w')
    {hx : (M.access (Rect.unit off sz inb)).Stores Finset.univ} {hm}
    {k : PUnit → Prog (TpuEff nD τ sig (Elt F) Λ₀ .tc) α}
    (X : (Rect.unit off' sz inb').shape.Idx → Elt F e) :
    (own c (M.slice (Rect.unit off' sz inb') (fun _ => rfl)) X : sProp 𝕄)
      ⊢ iprop((own c (M.slice (Rect.unit off' sz inb') (fun _ => rfl)) w' -∗ WP c (k ⟨⟩) Q)
          -∗ WP c (.op (.store M (Rect.unit off sz inb) w Finset.univ hx hm) k) Q) := by
  subst hw
  exact store_own c M hoff X

/-- A landing slot's contents, read; afterwards the slot holds whatever it holds. -/
theorem load_slot {α : Type} {Q : α → sProp 𝕄} (h : Fin 2) (s : Fin 3) {off : Fin 4 → ℕ} (hoff : off = ![h.val, s.val, 0, 0])
    {inb : ∀ a, off a + S1x1x512x512.size a ≤ S2x3x512x512.size a}
    {hl : lM.view.LoadsAt (Rect.unit (s := S2x3x512x512) off S1x1x512x512.size inb).toLoadRect}
    {k : (S1x1x512x512.Idx → Elt F .bf16) → Prog (TpuEff nD τ sig (Elt F) Λ₀ .tc) α} (X : S512x512.Idx → Elt F .bf16) :
    (own c (lB h s) X : sProp 𝕄)
      ⊢ iprop((any c (lB h s) -∗ WP c (k (wide X)) Q)
          -∗ WP c (.op (.load lM (Rect.unit (s := S2x3x512x512) off S1x1x512x512.size inb).toLoadRect hl) k) Q) := by
  iintro H Hk
  ihave H := (slot_own c h s X) $$ H
  iapply (load_own c lM (sz := S1x1x512x512.size) hoff (wide X)) $$ H
  iintro H
  iapply Hk
  iapply (own_slot c h s (wide X))
  iexact H

theorem load_rt {α : Type} {Q : α → sProp 𝕄} {hl : rM.view.LoadsAt (Rect.unit (s := S512x32) ![0, 0] S512x32.size inb_S512x32_S512x32_0_0).toLoadRect}
    {k : (S512x32.Idx → Elt F .bf16) → Prog (TpuEff nD τ sig (Elt F) Λ₀ .tc) α} :
    ((rM.view.loc (c : Thread nD τ)) ↦{fullShare} (inR m c) : sProp 𝕄)
      ⊢ iprop((((rM.view.loc (c : Thread nD τ)) ↦{fullShare} (inR m c)) -∗ WP c (k (inR m c)) Q)
          -∗ WP c (.op (.load rM (Rect.unit (s := S512x32) ![0, 0] S512x32.size inb_S512x32_S512x32_0_0).toLoadRect hl) k) Q) := by
  have e : rM.view.readAt (Elt F) (Rect.unit (s := S512x32) ![0, 0] S512x32.size inb_S512x32_S512x32_0_0).toLoadRect (inR m c) = inR m c :=
    Memref.readAt_unit_zero (Elt F) cc0_stg1_0 (by decide) _ _
  iintro H Hk
  iapply (load_in c rM rfl inb_S512x32_S512x32_0_0 (inR m c)) $$ H
  iintro H
  rw [e]
  iapply Hk; iexact H
theorem load_wt {α : Type} {Q : α → sProp 𝕄} {hl : wM.view.LoadsAt (Rect.unit (s := S8x512x1024) ![0, 0, 0] S8x512x1024.size inb_S8x512x1024_S8x512x1024_0_0_0).toLoadRect}
    {k : (S8x512x1024.Idx → Elt F .bf16) → Prog (TpuEff nD τ sig (Elt F) Λ₀ .tc) α} :
    ((wM.view.loc (c : Thread nD τ)) ↦{fullShare} (inW m c) : sProp 𝕄)
      ⊢ iprop((((wM.view.loc (c : Thread nD τ)) ↦{fullShare} (inW m c)) -∗ WP c (k (inW m c)) Q)
          -∗ WP c (.op (.load wM (Rect.unit (s := S8x512x1024) ![0, 0, 0] S8x512x1024.size inb_S8x512x1024_S8x512x1024_0_0_0).toLoadRect hl) k) Q) := by
  have e : wM.view.readAt (Elt F) (Rect.unit (s := S8x512x1024) ![0, 0, 0] S8x512x1024.size inb_S8x512x1024_S8x512x1024_0_0_0).toLoadRect (inW m c) = inW m c :=
    Memref.readAt_unit_zero (Elt F) cc0_stg3_0 (by decide) _ _
  iintro H Hk
  iapply (load_in c wM rfl inb_S8x512x1024_S8x512x1024_0_0_0 (inW m c)) $$ H
  iintro H
  rw [e]
  iapply Hk; iexact H
theorem load_x {α : Type} {Q : α → sProp 𝕄} (k' : Dev nD) {off : Fin 2 → ℕ} (hoff : off = ![512 * k'.val, 0]) {inb : ∀ a, off a + S512x512.size a ≤ S2048x512.size a}
    {hl : xM.view.LoadsAt (Rect.unit (s := S2048x512) off S512x512.size inb).toLoadRect}
    {k : (S512x512.Idx → Elt F .bf16) → Prog (TpuEff nD τ sig (Elt F) Λ₀ .tc) α} :
    ((xM.view.loc (c : Thread nD τ)) ↦{fullShare} (inX m c) : sProp 𝕄)
      ⊢ iprop((((xM.view.loc (c : Thread nD τ)) ↦{fullShare} (inX m c)) -∗ WP c (k (rowX m c k')) Q)
          -∗ WP c (.op (.load xM (Rect.unit (s := S2048x512) off S512x512.size inb).toLoadRect hl) k) Q) :=
  load_in c xM hoff (inb_x k') (inX m c)
theorem load_ix {α : Type} {Q : α → sProp 𝕄} (k' : Dev nD) {off : Fin 2 → ℕ} (hoff : off = ![512 * k'.val, 0]) {inb : ∀ a, off a + S512x2.size a ≤ S2048x2.size a}
    {hl : iM.view.LoadsAt (Rect.unit (s := S2048x2) off S512x2.size inb).toLoadRect}
    {k : (S512x2.Idx → Elt F .i32) → Prog (TpuEff nD τ sig (Elt F) Λ₀ .tc) α} :
    ((iM.view.loc (c : Thread nD τ)) ↦{fullShare} (inI m c) : sProp 𝕄)
      ⊢ iprop((((iM.view.loc (c : Thread nD τ)) ↦{fullShare} (inI m c)) -∗ WP c (k (rowI m c k')) Q)
          -∗ WP c (.op (.load iM (Rect.unit (s := S2048x2) off S512x2.size inb).toLoadRect hl) k) Q) :=
  load_in c iM hoff (inb_i k') (inI m c)

/-! ## Waits -/

/-- A summed chunk has left: nothing comes back, the region went with it. -/
theorem left_rs {α : Type} {Q : α → sProp 𝕄} (h : Fin 2) (i : Fin 9) (hi : i.val < 3) (n : ℕ) (hn : n ≤ 22) {off : Fin 2 → ℕ}
    {inb : ∀ a, off a + S512x512.size a ≤ S2048x1024.size a} {src : Memref sig .tc .vmem S512x512 .bf16} {hsrc : src.view.WordExact}
    {hdst : (oM.slice (Rect.unit (s := S2048x1024) off S512x512.size inb) (fun _ => rfl)).view.WordExact}
    {k : PUnit → Prog (TpuEff nD τ sig (Elt F) Λ₀ .tc) α} :
    iprop(recs m K ∗ sentR c h i ∗ Ow c n)
      ⊢ iprop(((semVal (cell c (sS h i)) 0 ∗ Ow c n) -∗ WP c (k ⟨⟩) Q)
          -∗ WP c (.op (.waitDma2 (sN h i) src (oM.slice (Rect.unit (s := S2048x1024) off S512x512.size inb) (fun _ => rfl)) hsrc hdst) k) Q) := by
  iintro H Hk
  have hN : (oM.slice (Rect.unit (s := S2048x1024) off S512x512.size inb) (fun _ => rfl)).view.dmaCredit = NR := rfl
  iapply (wait_send m c K h i n hn (src := src) (dst := (oM.slice (Rect.unit (s := S2048x1024) off S512x512.size inb) (fun _ => rfl))) (hsrc := hsrc) (hdst := hdst) (hN.trans (if_pos hi).symm)) $$ H
  iintro ⟨Hz, -, HO⟩
  iapply Hk
  isplitl [Hz]; · iexact Hz
  iexact HO
/-- A finished sub-block has left: it comes back. -/
theorem left_ag {α : Type} {Q : α → sProp 𝕄} (h u : Fin 2) (t : Fin 3) (i : Fin 9) (hi : i.val = 3 + 2 * t.val + u.val) (n : ℕ) (hn : n ≤ 22)
    (k' : Dev nD) (hk : bw h c (3 + t.val) = k') {off : Fin 2 → ℕ}
    {inb : ∀ a, off a + S256x512.size a ≤ S2048x1024.size a} {src : Memref sig .tc .vmem S256x512 .bf16} {hsrc : src.view.WordExact}
    {hdst : (oM.slice (Rect.unit (s := S2048x1024) off S256x512.size inb) (fun _ => rfl)).view.WordExact}
    {k : PUnit → Prog (TpuEff nD τ sig (Elt F) Λ₀ .tc) α} :
    iprop(recs m K ∗ sentR c h i ∗ Ow c n)
      ⊢ iprop(((semVal (cell c (sS h i)) 0 ∗ don m c h k' u ∗ Ow c n) -∗ WP c (k ⟨⟩) Q)
          -∗ WP c (.op (.waitDma2 (sN h i) src (oM.slice (Rect.unit (s := S2048x1024) off S256x512.size inb) (fun _ => rfl)) hsrc hdst) k) Q) := by
  have e : (sendPay m c h i.val : sProp 𝕄) = don m c h k' u := by rw [hi, sendPay_ag, hk]
  iintro H Hk
  have hN : (oM.slice (Rect.unit (s := S2048x1024) off S256x512.size inb) (fun _ => rfl)).view.dmaCredit = NA := rfl
  iapply (wait_send m c K h i n hn (src := src) (dst := (oM.slice (Rect.unit (s := S2048x1024) off S256x512.size inb) (fun _ => rfl))) (hsrc := hsrc) (hdst := hdst) (hN.trans (if_neg (by omega)).symm)) $$ H
  rw [e]
  iexact Hk
/-- A chunk to add to has landed, with every region it was summed in. -/
theorem came_rs {α : Type} {Q : α → sProp 𝕄} (h : Fin 2) (s : Fin 3) (i : Fin 9) (hi : i.val = s.val) (n : ℕ) (hm : ∀ p ∈ pays.drop n, lvS (vS h i) < lvS p.2)
    {src : Memref sig .tc .vmem S512x512 .bf16} {hsrc : src.view.WordExact} {hdst : (lB h s).view.WordExact}
    {k : PUnit → Prog (TpuEff nD τ sig (Elt F) Λ₀ .tc) α} :
    iprop(recs m K ∗ recvR c h i ∗ Ow c n)
      ⊢ iprop(((semVal (cell c (vS h i)) 0 ∗ own c (lB h s) (run m h (bw h c (s.val + 1)) s.val) ∗ srcB h (bw h c (s.val + 1)) (s.val + 1) ∗ Ow c n)
            -∗ WP c (k ⟨⟩) Q)
          -∗ WP c (.op (.waitDma2 (vN h i) src (lB h s) hsrc hdst) k) Q) := by
  have e : (recvPay m c h i.val : sProp 𝕄) = iprop(own c (lB h s) (run m h (bw h c (s.val + 1)) s.val) ∗ srcB h (bw h c (s.val + 1)) (s.val + 1)) := by
    rw [hi, recvPay_rs]
  iintro H Hk
  have hN : (lB h s).view.dmaCredit = NR := rfl
  iapply (wait_recv m c K h i n hm (src := src) (dst := lB h s) (hsrc := hsrc) (hdst := hdst) (hN.trans (if_pos (by rw [hi]; exact s.isLt)).symm)) $$ H
  rw [e]
  iintro ⟨Hz, ⟨A, B⟩, HO⟩
  iapply Hk
  isplitl [Hz]; · iexact Hz
  isplitl [A]; · iexact A
  isplitl [B]; · iexact B
  iexact HO
/-- A finished sub-block has come in, with the regions it is still to be written to. -/
theorem came_ag {α : Type} {Q : α → sProp 𝕄} (h u : Fin 2) (t : Fin 3) (i : Fin 9) (hi : i.val = 3 + 2 * t.val + u.val) (n : ℕ)
    (hm : ∀ p ∈ pays.drop n, lvS (vS h i) < lvS p.2) {off : Fin 2 → ℕ}
    {inb : ∀ a, off a + S256x512.size a ≤ S2048x1024.size a} {src : Memref sig .tc .vmem S256x512 .bf16} {hsrc : src.view.WordExact}
    {hdst : (oM.slice (Rect.unit (s := S2048x1024) off S256x512.size inb) (fun _ => rfl)).view.WordExact}
    {k : PUnit → Prog (TpuEff nD τ sig (Elt F) Λ₀ .tc) α} :
    iprop(recs m K ∗ recvR c h i ∗ Ow c n)
      ⊢ iprop(((semVal (cell c (vS h i)) 0 ∗ don m c h (bw h c t.val) u ∗ tgtB h (bw h c t.val) u (2 - t.val) ∗ Ow c n) -∗ WP c (k ⟨⟩) Q)
          -∗ WP c (.op (.waitDma2 (vN h i) src (oM.slice (Rect.unit (s := S2048x1024) off S256x512.size inb) (fun _ => rfl)) hsrc hdst) k) Q) := by
  have e : (recvPay m c h i.val : sProp 𝕄) = iprop(don m c h (bw h c t.val) u ∗ tgtB h (bw h c t.val) u (2 - t.val)) := by rw [hi, recvPay_ag]
  iintro H Hk
  have hN : (oM.slice (Rect.unit (s := S2048x1024) off S256x512.size inb) (fun _ => rfl)).view.dmaCredit = NA := rfl
  iapply (wait_recv m c K h i n hm (src := src) (dst := (oM.slice (Rect.unit (s := S2048x1024) off S256x512.size inb) (fun _ => rfl))) (hsrc := hsrc) (hdst := hdst) (hN.trans (if_neg (by omega)).symm)) $$ H
  rw [e]
  iintro ⟨Hz, ⟨A, B⟩, HO⟩
  iapply Hk
  isplitl [Hz]; · iexact Hz
  isplitl [A]; · iexact A
  isplitl [B]; · iexact B
  iexact HO

/-- Handing round a sub-block of chunk `k'`. -/
theorem pass_ag {α : Type} {Q : α → sProp 𝕄} (h u : Fin 2) (t : Fin 3) (i : Fin 9) (hi : i.val = 3 + 2 * t.val + u.val) (n : ℕ)
    (hO : pays.drop n = (h, vS h i) :: pays.drop (n + 1)) (k' : Dev nD) (hk : bw h c (3 + t.val) = k')
    {dv : Dev nD} (hdv : dv = fw h c 1) {off : Fin 2 → ℕ} (hoff : off = ![512 * k'.val + 256 * u.val, 512 * h.val])
    {inb : ∀ a, off a + S256x512.size a ≤ S2048x1024.size a}
    {hsc : (oM.slice (Rect.unit (s := S2048x1024) off S256x512.size inb) (fun _ => rfl) :
      Memref sig (Dev.tc dv : Thread nD τ).2.kind .vmem S256x512 .bf16).view.ref.isScScratch = false}
    {hsrc : (oM.slice (Rect.unit (s := S2048x1024) off S256x512.size inb) (fun _ => rfl)).view.WordExact}
    {hdst : (oM.slice (Rect.unit (s := S2048x1024) off S256x512.size inb) (fun _ => rfl)).view.WordExact}
    {hsem : DmaTarget.Typed .vmem (.dma (vN h i)) (.remote (Dev.tc dv : Thread nD τ)
      (oM.slice (Rect.unit (s := S2048x1024) off S256x512.size inb) (fun _ => rfl)) (.dma (sN h i)) hsc)}
    {k : PUnit → Prog (TpuEff nD τ sig (Elt F) Λ₀ .tc) α} :
    iprop(recs m K ∗ sendR c h i ∗ don m c h k' u ∗ tgtB h k' u (3 - t.val) ∗ Ow c n)
      ⊢ iprop(((sentR c h i ∗ Ow c (n + 1)) -∗ WP c (k ⟨⟩) Q)
          -∗ WP c (.op (.enqueueDma (oM.slice (Rect.unit (s := S2048x1024) off S256x512.size inb) (fun _ => rfl))
            (.remote (Dev.tc dv : Thread nD τ) (oM.slice (Rect.unit (s := S2048x1024) off S256x512.size inb) (fun _ => rfl)) (.dma (sN h i)) hsc)
            (.dma (vN h i)) hsrc hdst hsem) k) Q) := by
  subst hk
  exact send_ag m c K h u t i hi n hO hdv hoff
theorem bw_4 (h : Fin 2) : bw h c 4 = bw h c 0 := by revert h c; decide
theorem bw_5 (h : Fin 2) : bw h c 5 = bw h c 1 := by revert h c; decide

/-! ## Signals -/

/-- The two signals and the wait at the start: this device's slots go to its neighbours, theirs come to it. -/
theorem give_slots (h d : Fin 2) (n : ℕ) (hd : fw d (fw h c 1) 1 = c) {α : Type} {Q : α → sProp 𝕄} (hO : pays.drop n = (h, barS) :: pays.drop (n + 1)) {dv : Dev nD} (hdv : dv = fw h c 1)
    {k : PUnit → Prog (TpuEff nD τ sig (Elt F) Λ₀ .tc) α} :
    iprop(recs m K ∗ dutyTok ER (cell (fw h c 1) barS) 0 d ∗ slots c d ∗ Ow c n)
      ⊢ iprop((Ow c (n + 1) -∗ WP c (k ⟨⟩) Q) -∗ WP c (.op (.semSignal (dv, .tc) (0 : Fin 2) (1#32).toInt) k) Q) := by
  refine BIBase.Entails.trans ?_ (signal_reg m c K h 0 d n hO hdv)
  rw [payOf_bar, hd]
theorem take_slots {α : Type} {Q : α → sProp 𝕄} (n : ℕ) (hm : ∀ p ∈ pays.drop n, lvS barS < lvS p.2)
    {k : PUnit → Prog (TpuEff nD τ sig (Elt F) Λ₀ .tc) α} :
    iprop(recs m K ∗ barR c 0 ∗ Ow c n)
      ⊢ iprop(((semVal (cell c barS) 0 ∗ slots (fw 0 c 1) 0 ∗ slots (fw 1 c 1) 1 ∗ Ow c n) -∗ WP c (k ⟨⟩) Q)
          -∗ WP c (.op (.semWait (0 : Fin 2) (2#32).toInt) k) Q) := by
  iintro H Hk
  iapply (wait_reg m c K 0 n hm) $$ H
  iintro ⟨Hz, ⟨A, B⟩, HO⟩
  iapply Hk
  isplitl [Hz]; · iexact Hz
  isplitl [A]; · iapply (BIBase.Entails.of_eq (payOf_bar m c 0)); iexact A
  isplitl [B]; · iapply (BIBase.Entails.of_eq (payOf_bar m c 1)); iexact B
  iexact HO
/-- The two signals and the wait at the end carry nothing. -/
theorem say_end {α : Type} {Q : α → sProp 𝕄} (h d : Fin 2) (n : ℕ) (hO : pays.drop n = (h, endS) :: pays.drop (n + 1)) {dv : Dev nD} (hdv : dv = fw h c 1)
    {k : PUnit → Prog (TpuEff nD τ sig (Elt F) Λ₀ .tc) α} :
    iprop(recs m K ∗ dutyTok ER (cell (fw h c 1) endS) 0 d ∗ Ow c n)
      ⊢ iprop((Ow c (n + 1) -∗ WP c (k ⟨⟩) Q) -∗ WP c (.op (.semSignal (dv, .tc) (1 : Fin 2) (1#32).toInt) k) Q) := by
  refine BIBase.Entails.trans ?_ (signal_reg m c K h 1 d n hO hdv)
  rw [payOf_end]
  iintro ⟨A, B, C⟩
  isplitl [A]; · iexact A
  isplitl [B]; · iexact B
  isplitr; · iempintro
  iexact C
theorem hear_end {α : Type} {Q : α → sProp 𝕄} (n : ℕ) (hm : ∀ p ∈ pays.drop n, lvS endS < lvS p.2)
    {k : PUnit → Prog (TpuEff nD τ sig (Elt F) Λ₀ .tc) α} :
    iprop(recs m K ∗ barR c 1 ∗ Ow c n)
      ⊢ iprop(((semVal (cell c endS) 0 ∗ Ow c n) -∗ WP c (k ⟨⟩) Q)
          -∗ WP c (.op (.semWait (1 : Fin 2) (2#32).toInt) k) Q) := by
  iintro H Hk
  iapply (wait_reg m c K 1 n hm) $$ H
  iintro ⟨Hz, -, HO⟩
  iapply Hk
  isplitl [Hz]; · iexact Hz
  iexact HO

end Cert.KernelIdeal.Moe

end
-- ==== Proof.PartsA.lean ====
/-
# The body, a part at a time: the first chunks

Each part of the program as one step: what it needs, what it leaves.
-/
module

public import proofs.«01_k».proof.Proof.Moves

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (c : Dev nD) (K : Dev nD × Ci → ℕ)

theorem part1 {α : Type} {Q : α → sProp 𝕄} {k : _ → Prog (TpuEff nD τ sig (Elt F) Λ₀ .tc) α} :
    iprop(recs m K ∗ ((wM.view.loc (c : Thread nD τ)) ↦{fullShare} (inW m c)) ∗ ((xM.view.loc (c : Thread nD τ)) ↦{fullShare} (inX m c)) ∗ ((rM.view.loc (c : Thread nD τ)) ↦{fullShare} (inR m c)) ∗ ((iM.view.loc (c : Thread nD τ)) ↦{fullShare} (inI m c)))
      ⊢ iprop(((((wM.view.loc (c : Thread nD τ)) ↦{fullShare} (inW m c)) ∗ ((xM.view.loc (c : Thread nD τ)) ↦{fullShare} (inX m c)) ∗ ((rM.view.loc (c : Thread nD τ)) ↦{fullShare} (inR m c)) ∗ ((iM.view.loc (c : Thread nD τ)) ↦{fullShare} (inI m c))) -∗ WP c (k ⟨c, devW c, (Scalar.remsi (Scalar.subi (Scalar.addi (devW c) 4#32) 1#32) 4#32), (Scalar.remsi (Scalar.addi (devW c) 1#32) 4#32), (k0_pay1 (inW m c)), (Scalar.muli (Scalar.remsi (devW c) 4#32) 512#32), k0_pay2 (rowX m c (bw 1 c 0)), k0_pay3 (rowX m c (bw 1 c 0)) (inR m c), k0_pay5 (rowI m c (bw 1 c 0)), k0_pay6 (rowI m c (bw 1 c 0)), (iota .tc S512x32 32 [1] iota_S512x32_d1_w32), k0_pay7 (rowX m c (bw 1 c 0)) (inR m c) (rowI m c (bw 1 c 0))⟩) Q)
          -∗ WP c (k0_part1 xM (Memref.isWhole_whole _) rM (Memref.isWhole_whole _) iM (Memref.isWhole_whole _) wM (Memref.isWhole_whole _) oM (Memref.isWhole_whole _) cM (Memref.isWhole_whole _) lM (Memref.isWhole_whole _) cc0_scratch2 cc0_scratch3 cc0_scoped0  >>= k) Q) := by
  simp only [k0_part1_eq_skeleton]; unfold k0_part1_skel
  simp only [semSignalWord, semWaitWord, Prog.lift, Prog.bind_op, Prog.bind_ret, Prog.pure_eq_ret, Prog.bind_assoc, wp_deviceId]
  iintro ⟨#HR, HW, HX, HRt, HI⟩ Hk
  iapply (load_wt m c) $$ HW
  iintro HW
  iapply (load_x m c (bw 1 c 0) (k0_off1_at c)) $$ HX
  iintro HX
  iapply (load_rt m c) $$ HRt
  iintro HRt
  iapply (load_ix m c (bw 1 c 0) (k0_off2_at c)) $$ HI
  iintro HI
  iapply Hk
  isplitl [HW]; · iexact HW
  isplitl [HX]; · iexact HX
  isplitl [HRt]; · iexact HRt
  iexact HI

theorem part3 {α : Type} {Q : α → sProp 𝕄} {v5 v7 v12 : BitVec 32} {k : _ → Prog (TpuEff nD τ sig (Elt F) Λ₀ .tc) α} :
    iprop(recs m K ∗ any c (cB (bw 1 c 0)) ∗ any c (oB 0 (bw 0 c 0)) ∗ Ow c 0 ∗ dutyTok ER (cell (fw 1 c 1) barS) 0 (0 : Fin 2) ∗ slots c 0 ∗ dutyTok ER (cell (fw 0 c 1) barS) 0 (1 : Fin 2) ∗ slots c 1 ∗ barR c 0)
      ⊢ iprop(((own c (cB (bw 1 c 0)) (cat m c (bw 1 c 0)) ∗ own c (oB 0 (bw 0 c 0)) (run m 0 (bw 0 c 0) 0) ∗ Ow c 2 ∗ semVal (cell c barS) 0 ∗ any (fw 0 c 1) (lB 0 0) ∗ any (fw 0 c 1) (lB 0 1) ∗ any (fw 0 c 1) (lB 0 2) ∗ any (fw 1 c 1) (lB 1 0) ∗ any (fw 1 c 1) (lB 1 1) ∗ any (fw 1 c 1) (lB 1 2)) -∗ WP c (k ⟨⟩) Q)
          -∗ WP c (k0_part3 xM (Memref.isWhole_whole _) rM (Memref.isWhole_whole _) iM (Memref.isWhole_whole _) wM (Memref.isWhole_whole _) oM (Memref.isWhole_whole _) cM (Memref.isWhole_whole _) lM (Memref.isWhole_whole _) cc0_scratch2 cc0_scratch3 cc0_scoped0 c (devW c) v5 v7 (k0_pay1 (inW m c)) v12 (k0_pay9 (devW c) (k0_pay2 (rowX m c (bw 1 c 0))) (k0_pay3 (rowX m c (bw 1 c 0)) (inR m c)) (k0_pay5 (rowI m c (bw 1 c 0))) (k0_pay6 (rowI m c (bw 1 c 0))) (iota .tc S512x32 32 [1] iota_S512x32_d1_w32) (k0_pay7 (rowX m c (bw 1 c 0)) (inR m c) (rowI m c (bw 1 c 0)))) (k0_pay10 (devW c) (k0_pay2 (rowX m c (bw 1 c 0))) (k0_pay3 (rowX m c (bw 1 c 0)) (inR m c)) (k0_pay5 (rowI m c (bw 1 c 0))) (k0_pay6 (rowI m c (bw 1 c 0))) (iota .tc S512x32 32 [1] iota_S512x32_d1_w32) (k0_pay7 (rowX m c (bw 1 c 0)) (inR m c) (rowI m c (bw 1 c 0)))) (k0_pay11 (devW c) (k0_pay2 (rowX m c (bw 1 c 0))) (k0_pay3 (rowX m c (bw 1 c 0)) (inR m c)) (k0_pay5 (rowI m c (bw 1 c 0))) (k0_pay6 (rowI m c (bw 1 c 0))) (iota .tc S512x32 32 [1] iota_S512x32_d1_w32) (k0_pay7 (rowX m c (bw 1 c 0)) (inR m c) (rowI m c (bw 1 c 0)))) (k0_pay12 (devW c) (k0_pay2 (rowX m c (bw 1 c 0))) (k0_pay3 (rowX m c (bw 1 c 0)) (inR m c)) (k0_pay5 (rowI m c (bw 1 c 0))) (k0_pay6 (rowI m c (bw 1 c 0))) (iota .tc S512x32 32 [1] iota_S512x32_d1_w32) (k0_pay7 (rowX m c (bw 1 c 0)) (inR m c) (rowI m c (bw 1 c 0)))) (k0_pay13 (devW c) (k0_pay2 (rowX m c (bw 1 c 0))) (k0_pay3 (rowX m c (bw 1 c 0)) (inR m c)) (k0_pay5 (rowI m c (bw 1 c 0))) (k0_pay6 (rowI m c (bw 1 c 0))) (iota .tc S512x32 32 [1] iota_S512x32_d1_w32) (k0_pay7 (rowX m c (bw 1 c 0)) (inR m c) (rowI m c (bw 1 c 0)))) (k0_pay14 (devW c) (k0_pay2 (rowX m c (bw 1 c 0))) (k0_pay3 (rowX m c (bw 1 c 0)) (inR m c)) (k0_pay5 (rowI m c (bw 1 c 0))) (k0_pay6 (rowI m c (bw 1 c 0))) (iota .tc S512x32 32 [1] iota_S512x32_d1_w32) (k0_pay7 (rowX m c (bw 1 c 0)) (inR m c) (rowI m c (bw 1 c 0)))) (k0_pay15 (devW c) (k0_pay2 (rowX m c (bw 1 c 0))) (k0_pay3 (rowX m c (bw 1 c 0)) (inR m c)) (k0_pay5 (rowI m c (bw 1 c 0))) (k0_pay6 (rowI m c (bw 1 c 0))) (iota .tc S512x32 32 [1] iota_S512x32_d1_w32) (k0_pay7 (rowX m c (bw 1 c 0)) (inR m c) (rowI m c (bw 1 c 0)))) (k0_pay16 (devW c) (k0_pay2 (rowX m c (bw 1 c 0))) (k0_pay3 (rowX m c (bw 1 c 0)) (inR m c)) (k0_pay5 (rowI m c (bw 1 c 0))) (k0_pay6 (rowI m c (bw 1 c 0))) (iota .tc S512x32 32 [1] iota_S512x32_d1_w32) (k0_pay7 (rowX m c (bw 1 c 0)) (inR m c) (rowI m c (bw 1 c 0)))) >>= k) Q) := by
  simp only [k0_part3_eq_skeleton]; unfold k0_part3_skel
  simp only [semSignalWord, semWaitWord, Prog.lift, Prog.bind_op, Prog.bind_ret, Prog.pure_eq_ret, Prog.bind_assoc, wp_deviceId]
  iintro ⟨#HR, X0, O00, HO, tb0, Sl0, tb1, Sl1, BR⟩ Hk
  icases X0 with ⟨%Y1, X0⟩
  iapply (load_own c cM (sz := S512x4096.size) (k0_off3_at c) _) $$ X0
  iintro X0
  iapply (store_to c cM (sz := S512x4096.size) (k0_off3_at c) (show k0_pay17 (k0_pay9 (devW c) (k0_pay2 (rowX m c (bw 1 c 0))) (k0_pay3 (rowX m c (bw 1 c 0)) (inR m c)) (k0_pay5 (rowI m c (bw 1 c 0))) (k0_pay6 (rowI m c (bw 1 c 0))) (iota .tc S512x32 32 [1] iota_S512x32_d1_w32) (k0_pay7 (rowX m c (bw 1 c 0)) (inR m c) (rowI m c (bw 1 c 0)))) (k0_pay10 (devW c) (k0_pay2 (rowX m c (bw 1 c 0))) (k0_pay3 (rowX m c (bw 1 c 0)) (inR m c)) (k0_pay5 (rowI m c (bw 1 c 0))) (k0_pay6 (rowI m c (bw 1 c 0))) (iota .tc S512x32 32 [1] iota_S512x32_d1_w32) (k0_pay7 (rowX m c (bw 1 c 0)) (inR m c) (rowI m c (bw 1 c 0)))) (k0_pay11 (devW c) (k0_pay2 (rowX m c (bw 1 c 0))) (k0_pay3 (rowX m c (bw 1 c 0)) (inR m c)) (k0_pay5 (rowI m c (bw 1 c 0))) (k0_pay6 (rowI m c (bw 1 c 0))) (iota .tc S512x32 32 [1] iota_S512x32_d1_w32) (k0_pay7 (rowX m c (bw 1 c 0)) (inR m c) (rowI m c (bw 1 c 0)))) (k0_pay12 (devW c) (k0_pay2 (rowX m c (bw 1 c 0))) (k0_pay3 (rowX m c (bw 1 c 0)) (inR m c)) (k0_pay5 (rowI m c (bw 1 c 0))) (k0_pay6 (rowI m c (bw 1 c 0))) (iota .tc S512x32 32 [1] iota_S512x32_d1_w32) (k0_pay7 (rowX m c (bw 1 c 0)) (inR m c) (rowI m c (bw 1 c 0)))) (k0_pay13 (devW c) (k0_pay2 (rowX m c (bw 1 c 0))) (k0_pay3 (rowX m c (bw 1 c 0)) (inR m c)) (k0_pay5 (rowI m c (bw 1 c 0))) (k0_pay6 (rowI m c (bw 1 c 0))) (iota .tc S512x32 32 [1] iota_S512x32_d1_w32) (k0_pay7 (rowX m c (bw 1 c 0)) (inR m c) (rowI m c (bw 1 c 0)))) (k0_pay14 (devW c) (k0_pay2 (rowX m c (bw 1 c 0))) (k0_pay3 (rowX m c (bw 1 c 0)) (inR m c)) (k0_pay5 (rowI m c (bw 1 c 0))) (k0_pay6 (rowI m c (bw 1 c 0))) (iota .tc S512x32 32 [1] iota_S512x32_d1_w32) (k0_pay7 (rowX m c (bw 1 c 0)) (inR m c) (rowI m c (bw 1 c 0)))) (k0_pay15 (devW c) (k0_pay2 (rowX m c (bw 1 c 0))) (k0_pay3 (rowX m c (bw 1 c 0)) (inR m c)) (k0_pay5 (rowI m c (bw 1 c 0))) (k0_pay6 (rowI m c (bw 1 c 0))) (iota .tc S512x32 32 [1] iota_S512x32_d1_w32) (k0_pay7 (rowX m c (bw 1 c 0)) (inR m c) (rowI m c (bw 1 c 0)))) (k0_pay16 (devW c) (k0_pay2 (rowX m c (bw 1 c 0))) (k0_pay3 (rowX m c (bw 1 c 0)) (inR m c)) (k0_pay5 (rowI m c (bw 1 c 0))) (k0_pay6 (rowI m c (bw 1 c 0))) (iota .tc S512x32 32 [1] iota_S512x32_d1_w32) (k0_pay7 (rowX m c (bw 1 c 0)) (inR m c) (rowI m c (bw 1 c 0)))) = cat m c (bw 1 c 0) from rfl) _) $$ X0
  iintro X0
  iapply (load_own c cM (sz := S512x4096.size) (k0_off3_at c) _) $$ X0
  iintro X0
  icases O00 with ⟨%Y2, O00⟩
  iapply (load_own c oM (sz := S512x512.size) (k0_off4_at c) _) $$ O00
  iintro O00
  iapply (store_to c oM (sz := S512x512.size) (k0_off4_at c) (val_00 m c) _) $$ O00
  iintro O00
  iapply (give_slots m c K 1 0 0 (by revert c; decide) rfl (dev1_at c)) $$ [tb0 Sl0 HO]
  · isplitr; · iexact HR
    isplitl [tb0]; · iexact tb0
    isplitl [Sl0]; · iexact Sl0
    iexact HO
  iintro HO
  iapply (give_slots m c K 0 1 1 (by revert c; decide) rfl (dev2_at c)) $$ [tb1 Sl1 HO]
  · isplitr; · iexact HR
    isplitl [tb1]; · iexact tb1
    isplitl [Sl1]; · iexact Sl1
    iexact HO
  iintro HO
  iapply (take_slots m c K 2 (by decide)) $$ [BR HO]
  · isplitr; · iexact HR
    isplitl [BR]; · iexact BR
    iexact HO
  iintro ⟨ZB, N0, N1, HO⟩
  unfold slots
  icases N0 with ⟨B00, B01, B02⟩
  icases N1 with ⟨B10, B11, B12⟩
  iapply Hk
  isplitl [X0]; · iexact X0
  isplitl [O00]; · iexact O00
  isplitl [HO]; · iexact HO
  isplitl [ZB]; · iexact ZB
  isplitl [B00]; · iexact B00
  isplitl [B01]; · iexact B01
  isplitl [B02]; · iexact B02
  isplitl [B10]; · iexact B10
  isplitl [B11]; · iexact B11
  iexact B12

theorem part4 {α : Type} {Q : α → sProp 𝕄} {v5 : BitVec 32} {k : _ → Prog (TpuEff nD τ sig (Elt F) Λ₀ .tc) α} :
    iprop(recs m K ∗ Ow c 2 ∗ sendR c 0 0 ∗ own c (oB 0 (bw 0 c 0)) (run m 0 (bw 0 c 0) 0) ∗ any (fw 0 c 1) (lB 0 0) ∗ own c (cB (bw 1 c 0)) (cat m c (bw 1 c 0)) ∗ any c (oB 1 (bw 1 c 0)) ∗ sendR c 1 0 ∗ any (fw 1 c 1) (lB 1 0) ∗ ((xM.view.loc (c : Thread nD τ)) ↦{fullShare} (inX m c)) ∗ ((rM.view.loc (c : Thread nD τ)) ↦{fullShare} (inR m c)))
      ⊢ iprop(((Ow c 4 ∗ sentR c 0 0 ∗ own c (cB (bw 1 c 0)) (cat m c (bw 1 c 0)) ∗ sentR c 1 0 ∗ ((xM.view.loc (c : Thread nD τ)) ↦{fullShare} (inX m c)) ∗ ((rM.view.loc (c : Thread nD τ)) ↦{fullShare} (inR m c))) -∗ WP c (k ⟨(Scalar.muli (Scalar.remsi (Scalar.subi (Scalar.addi (devW c) 4#32) 1#32) 4#32) 512#32), k0_pay20 (rowX m c (bw 1 c 3)), k0_pay21 (inR m c), (constant S512x32 .f32 0x00000000#32)⟩) Q)
          -∗ WP c (k0_part4 xM (Memref.isWhole_whole _) rM (Memref.isWhole_whole _) iM (Memref.isWhole_whole _) wM (Memref.isWhole_whole _) oM (Memref.isWhole_whole _) cM (Memref.isWhole_whole _) lM (Memref.isWhole_whole _) cc0_scratch2 cc0_scratch3 cc0_scoped0 c (devW c) v5 (k0_pay1 (inW m c)) >>= k) Q) := by
  simp only [k0_part4_eq_skeleton]; unfold k0_part4_skel
  simp only [semSignalWord, semWaitWord, Prog.lift, Prog.bind_op, Prog.bind_ret, Prog.pure_eq_ret, Prog.bind_assoc, wp_deviceId]
  iintro ⟨#HR, HO, T00, O00, B00, X0, O10, T10, B10, HX, HRt⟩ Hk
  iapply (send_rs m c K 0 0 0 rfl 2 rfl (dev3_at c) (k0_off5_at c)) $$ [T00 O00 B00 HO]
  · isplitr; · iexact HR
    isplitl [T00]; · iexact T00
    isplitl [O00]; · iexact O00
    isplitl [B00]; · iexact B00
    isplitr; · unfold srcB; iempintro
    iexact HO
  iintro ⟨T00, HO⟩
  iapply (load_own c cM (sz := S512x4096.size) (k0_off3_at c) _) $$ X0
  iintro X0
  icases O10 with ⟨%Y3, O10⟩
  iapply (load_own c oM (sz := S512x512.size) (k0_off6_at c) _) $$ O10
  iintro O10
  iapply (store_to c oM (sz := S512x512.size) (k0_off6_at c) (val_10 m c) _) $$ O10
  iintro O10
  iapply (send_rs m c K 1 0 0 rfl 3 rfl (dev4_at c) (k0_off7_at c)) $$ [T10 O10 B10 HO]
  · isplitr; · iexact HR
    isplitl [T10]; · iexact T10
    isplitl [O10]; · iexact O10
    isplitl [B10]; · iexact B10
    isplitr; · unfold srcB; iempintro
    iexact HO
  iintro ⟨T10, HO⟩
  iapply (load_x m c (bw 1 c 3) (k0_off8_at c)) $$ HX
  iintro HX
  iapply (load_rt m c) $$ HRt
  iintro HRt
  iapply Hk
  isplitl [HO]; · iexact HO
  isplitl [T00]; · iexact T00
  isplitl [X0]; · iexact X0
  isplitl [T10]; · iexact T10
  isplitl [HX]; · iexact HX
  iexact HRt

theorem part5 {α : Type} {Q : α → sProp 𝕄} {v146 : BitVec 32} {k : _ → Prog (TpuEff nD τ sig (Elt F) Λ₀ .tc) α} :
    iprop(recs m K ∗ ((iM.view.loc (c : Thread nD τ)) ↦{fullShare} (inI m c)))
      ⊢ iprop(((((iM.view.loc (c : Thread nD τ)) ↦{fullShare} (inI m c))) -∗ WP c (k (k0_pay22 (devW c) (k0_pay20 (rowX m c (bw 1 c 3))) (k0_pay21 (inR m c)) (constant S512x32 .f32 0x00000000#32) (rowI m c (bw 1 c 3)))) Q)
          -∗ WP c (k0_part5 xM (Memref.isWhole_whole _) rM (Memref.isWhole_whole _) iM (Memref.isWhole_whole _) wM (Memref.isWhole_whole _) oM (Memref.isWhole_whole _) cM (Memref.isWhole_whole _) lM (Memref.isWhole_whole _) cc0_scratch2 cc0_scratch3 cc0_scoped0 c (devW c) v146 (k0_pay20 (rowX m c (bw 1 c 3))) (k0_pay21 (inR m c)) (constant S512x32 .f32 0x00000000#32) >>= k) Q) := by
  simp only [k0_part5_eq_skeleton]; unfold k0_part5_skel
  simp only [semSignalWord, semWaitWord, Prog.lift, Prog.bind_op, Prog.bind_ret, Prog.pure_eq_ret, Prog.bind_assoc, wp_deviceId]
  iintro ⟨#HR, HI⟩ Hk
  iapply (load_ix m c (bw 1 c 3) (k0_off9_at c)) $$ HI
  iintro HI
  iapply Hk
  iexact HI

theorem part6 {α : Type} {Q : α → sProp 𝕄} {v146 : BitVec 32} {k : _ → Prog (TpuEff nD τ sig (Elt F) Λ₀ .tc) α} :
    iprop(recs m K ∗ any c (cB (bw 1 c 3)) ∗ any c (oB 0 (bw 0 c 1)))
      ⊢ iprop(((own c (cB (bw 1 c 3)) (cat m c (bw 1 c 3)) ∗ own c (oB 0 (bw 0 c 1)) (part m c 0 (bw 0 c 1))) -∗ WP c (k ⟨⟩) Q)
          -∗ WP c (k0_part6 xM (Memref.isWhole_whole _) rM (Memref.isWhole_whole _) iM (Memref.isWhole_whole _) wM (Memref.isWhole_whole _) oM (Memref.isWhole_whole _) cM (Memref.isWhole_whole _) lM (Memref.isWhole_whole _) cc0_scratch2 cc0_scratch3 cc0_scoped0 c (devW c) (k0_pay1 (inW m c)) v146 (k0_pay20 (rowX m c (bw 1 c 3))) (k0_pay22 (devW c) (k0_pay20 (rowX m c (bw 1 c 3))) (k0_pay21 (inR m c)) (constant S512x32 .f32 0x00000000#32) (rowI m c (bw 1 c 3))) >>= k) Q) := by
  simp only [k0_part6_eq_skeleton]; unfold k0_part6_skel
  simp only [semSignalWord, semWaitWord, Prog.lift, Prog.bind_op, Prog.bind_ret, Prog.pure_eq_ret, Prog.bind_assoc, wp_deviceId]
  iintro ⟨#HR, X3, O01⟩ Hk
  icases X3 with ⟨%Y4, X3⟩
  iapply (load_own c cM (sz := S512x4096.size) (k0_off10_at c) _) $$ X3
  iintro X3
  iapply (store_to c cM (sz := S512x4096.size) (k0_off10_at c) (cat_first (devW c) (rowX m c (bw 1 c 3)) (inR m c) (rowI m c (bw 1 c 3))) _) $$ X3
  iintro X3
  iapply (load_own c cM (sz := S512x4096.size) (k0_off10_at c) _) $$ X3
  iintro X3
  icases O01 with ⟨%Y5, O01⟩
  iapply (load_own c oM (sz := S512x512.size) (k0_off11_at c) _) $$ O01
  iintro O01
  iapply (store_to c oM (sz := S512x512.size) (k0_off11_at c) (val_01 m c) _) $$ O01
  iintro O01
  iapply Hk
  isplitl [X3]; · iexact X3
  iexact O01

theorem part7 {α : Type} {Q : α → sProp 𝕄} {v7 : BitVec 32} {k : _ → Prog (TpuEff nD τ sig (Elt F) Λ₀ .tc) α} :
    iprop(recs m K ∗ Ow c 4 ∗ sentR c 0 0 ∗ recvR c 0 0 ∗ own c (oB 0 (bw 0 c 1)) (part m c 0 (bw 0 c 1)))
      ⊢ iprop(((Ow c 4 ∗ semVal (cell c (sS 0 0)) 0 ∗ semVal (cell c (vS 0 0)) 0 ∗ any c (lB 0 0) ∗ srcB 0 (bw 0 c 1) 1 ∗ own c (oB 0 (bw 0 c 1)) (run m 0 (bw 0 c 1) 1)) -∗ WP c (k ⟨⟩) Q)
          -∗ WP c (k0_part7 xM (Memref.isWhole_whole _) rM (Memref.isWhole_whole _) iM (Memref.isWhole_whole _) wM (Memref.isWhole_whole _) oM (Memref.isWhole_whole _) cM (Memref.isWhole_whole _) lM (Memref.isWhole_whole _) cc0_scratch2 cc0_scratch3 cc0_scoped0 c (devW c) v7 >>= k) Q) := by
  simp only [k0_part7_eq_skeleton]; unfold k0_part7_skel
  simp only [semSignalWord, semWaitWord, Prog.lift, Prog.bind_op, Prog.bind_ret, Prog.pure_eq_ret, Prog.bind_assoc, wp_deviceId]
  iintro ⟨#HR, HO, T00, V00, O01⟩ Hk
  iapply (left_rs m c K 0 0 (by decide) 4 (by decide)) $$ [T00 HO]
  · isplitr; · iexact HR
    isplitl [T00]; · iexact T00
    iexact HO
  iintro ⟨ZS00, HO⟩
  iapply (came_rs m c K 0 0 0 rfl 4 (by decide)) $$ [V00 HO]
  · isplitr; · iexact HR
    isplitl [V00]; · iexact V00
    iexact HO
  iintro ⟨ZV00, L00, S01, HO⟩
  iapply (load_own c oM (sz := S512x512.size) (k0_off11_at c) _) $$ O01
  iintro O01
  iapply (load_slot c 0 0 rfl _) $$ L00
  iintro L00
  iapply (load_own c oM (sz := S512x512.size) (k0_off11_at c) _) $$ O01
  iintro O01
  iapply (store_to c oM (sz := S512x512.size) (k0_off11_at c) (sum_01 m c) _) $$ O01
  iintro O01
  iapply Hk
  isplitl [HO]; · iexact HO
  isplitl [ZS00]; · iexact ZS00
  isplitl [ZV00]; · iexact ZV00
  isplitl [L00]; · iexact L00
  isplitl [S01]; · iexact S01
  iexact O01

theorem part8 {α : Type} {Q : α → sProp 𝕄} {v7 : BitVec 32} {k : _ → Prog (TpuEff nD τ sig (Elt F) Λ₀ .tc) α} :
    iprop(recs m K ∗ Ow c 4 ∗ sendR c 0 1 ∗ own c (oB 0 (bw 0 c 1)) (run m 0 (bw 0 c 1) 1) ∗ any (fw 0 c 1) (lB 0 1) ∗ srcB 0 (bw 0 c 1) 1 ∗ ((xM.view.loc (c : Thread nD τ)) ↦{fullShare} (inX m c)) ∗ ((rM.view.loc (c : Thread nD τ)) ↦{fullShare} (inR m c)) ∗ ((iM.view.loc (c : Thread nD τ)) ↦{fullShare} (inI m c)))
      ⊢ iprop(((Ow c 5 ∗ sentR c 0 1 ∗ ((xM.view.loc (c : Thread nD τ)) ↦{fullShare} (inX m c)) ∗ ((rM.view.loc (c : Thread nD τ)) ↦{fullShare} (inR m c)) ∗ ((iM.view.loc (c : Thread nD τ)) ↦{fullShare} (inI m c))) -∗ WP c (k ⟨(Scalar.muli (Scalar.remsi (Scalar.addi (devW c) 1#32) 4#32) 512#32), k0_pay26 (rowX m c (bw 1 c 1)), k0_pay27 (rowX m c (bw 1 c 1)) (inR m c), k0_pay29 (rowI m c (bw 1 c 1)), k0_pay30 (rowI m c (bw 1 c 1)), (iota .tc S512x32 32 [1] iota_S512x32_d1_w32), k0_pay31 (rowX m c (bw 1 c 1)) (inR m c) (rowI m c (bw 1 c 1))⟩) Q)
          -∗ WP c (k0_part8 xM (Memref.isWhole_whole _) rM (Memref.isWhole_whole _) iM (Memref.isWhole_whole _) wM (Memref.isWhole_whole _) oM (Memref.isWhole_whole _) cM (Memref.isWhole_whole _) lM (Memref.isWhole_whole _) cc0_scratch2 cc0_scratch3 cc0_scoped0 c (devW c) v7 >>= k) Q) := by
  simp only [k0_part8_eq_skeleton]; unfold k0_part8_skel
  simp only [semSignalWord, semWaitWord, Prog.lift, Prog.bind_op, Prog.bind_ret, Prog.pure_eq_ret, Prog.bind_assoc, wp_deviceId]
  iintro ⟨#HR, HO, T01, O01, B01, S01, HX, HRt, HI⟩ Hk
  iapply (send_rs m c K 0 1 1 rfl 4 rfl (dev5_at c) (k0_off12_at c)) $$ [T01 O01 B01 S01 HO]
  · isplitr; · iexact HR
    isplitl [T01]; · iexact T01
    isplitl [O01]; · iexact O01
    isplitl [B01]; · iexact B01
    isplitl [S01]; · iexact S01
    iexact HO
  iintro ⟨T01, HO⟩
  iapply (load_x m c (bw 1 c 1) (k0_off13_at_1 c)) $$ HX
  iintro HX
  iapply (load_rt m c) $$ HRt
  iintro HRt
  iapply (load_ix m c (bw 1 c 1) (k0_off14_at_1 c)) $$ HI
  iintro HI
  iapply Hk
  isplitl [HO]; · iexact HO
  isplitl [T01]; · iexact T01
  isplitl [HX]; · iexact HX
  isplitl [HRt]; · iexact HRt
  iexact HI

end Cert.KernelIdeal.Moe

end
-- ==== Proof.PartsB.lean ====
/-
# The body, a part at a time: summing

Each part of the program as one step: what it needs, what it leaves.
-/
module

public import proofs.«01_k».proof.Proof.Moves

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (c : Dev nD) (K : Dev nD × Ci → ℕ)

theorem part10 {α : Type} {Q : α → sProp 𝕄} {v5 : BitVec 32} {k : _ → Prog (TpuEff nD τ sig (Elt F) Λ₀ .tc) α} :
    iprop(recs m K ∗ any c (cB (bw 1 c 1)) ∗ any c (oB 1 (bw 1 c 1)) ∗ Ow c 5 ∗ sentR c 1 0 ∗ recvR c 1 0)
      ⊢ iprop(((own c (cB (bw 1 c 1)) (cat m c (bw 1 c 1)) ∗ own c (oB 1 (bw 1 c 1)) (part m c 1 (bw 1 c 1)) ∗ Ow c 5 ∗ semVal (cell c (sS 1 0)) 0 ∗ semVal (cell c (vS 1 0)) 0 ∗ own c (lB 1 0) (run m 1 (bw 1 c 1) 0) ∗ srcB 1 (bw 1 c 1) 1) -∗ WP c (k ⟨(Scalar.addi (devW c) 1#32), 4#32⟩) Q)
          -∗ WP c (k0_part10 xM (Memref.isWhole_whole _) rM (Memref.isWhole_whole _) iM (Memref.isWhole_whole _) wM (Memref.isWhole_whole _) oM (Memref.isWhole_whole _) cM (Memref.isWhole_whole _) lM (Memref.isWhole_whole _) cc0_scratch2 cc0_scratch3 cc0_scoped0 c (devW c) v5 (k0_pay1 (inW m c)) (k0_pay32 (devW c) (k0_pay26 (rowX m c (bw 1 c 1))) (k0_pay27 (rowX m c (bw 1 c 1)) (inR m c)) (k0_pay29 (rowI m c (bw 1 c 1))) (k0_pay30 (rowI m c (bw 1 c 1))) (iota .tc S512x32 32 [1] iota_S512x32_d1_w32) (k0_pay31 (rowX m c (bw 1 c 1)) (inR m c) (rowI m c (bw 1 c 1)))) >>= k) Q) := by
  simp only [k0_part10_eq_skeleton]; unfold k0_part10_skel
  simp only [semSignalWord, semWaitWord, Prog.lift, Prog.bind_op, Prog.bind_ret, Prog.pure_eq_ret, Prog.bind_assoc, wp_deviceId]
  iintro ⟨#HR, X1, O11, HO, T10, V10⟩ Hk
  icases X1 with ⟨%Y6, X1⟩
  iapply (load_own c cM (sz := S512x4096.size) (k0_off15_at_1 c) _) $$ X1
  iintro X1
  iapply (store_to c cM (sz := S512x4096.size) (k0_off15_at_1 c) (cat_second (devW c) (rowX m c (bw 1 c 1)) (inR m c) (rowI m c (bw 1 c 1))) _) $$ X1
  iintro X1
  iapply (load_own c cM (sz := S512x4096.size) (k0_off15_at_1 c) _) $$ X1
  iintro X1
  icases O11 with ⟨%Y7, O11⟩
  iapply (load_own c oM (sz := S512x512.size) (k0_off16_at_1 c) _) $$ O11
  iintro O11
  iapply (store_to c oM (sz := S512x512.size) (k0_off16_at_1 c) (val_11 m c) _) $$ O11
  iintro O11
  iapply (left_rs m c K 1 0 (by decide) 5 (by decide)) $$ [T10 HO]
  · isplitr; · iexact HR
    isplitl [T10]; · iexact T10
    iexact HO
  iintro ⟨ZS10, HO⟩
  iapply (came_rs m c K 1 0 0 rfl 5 (by decide)) $$ [V10 HO]
  · isplitr; · iexact HR
    isplitl [V10]; · iexact V10
    iexact HO
  iintro ⟨ZV10, L10, S11, HO⟩
  iapply Hk
  isplitl [X1]; · iexact X1
  isplitl [O11]; · iexact O11
  isplitl [HO]; · iexact HO
  isplitl [ZS10]; · iexact ZS10
  isplitl [ZV10]; · iexact ZV10
  isplitl [L10]; · iexact L10
  iexact S11

theorem part11 {α : Type} {Q : α → sProp 𝕄} {v5 v390 c4_i32_179 : BitVec 32} {k : _ → Prog (TpuEff nD τ sig (Elt F) Λ₀ .tc) α} :
    iprop(recs m K ∗ own c (oB 1 (bw 1 c 1)) (part m c 1 (bw 1 c 1)) ∗ own c (lB 1 0) (run m 1 (bw 1 c 1) 0) ∗ Ow c 5 ∗ sendR c 1 1 ∗ any (fw 1 c 1) (lB 1 1) ∗ srcB 1 (bw 1 c 1) 1 ∗ ((xM.view.loc (c : Thread nD τ)) ↦{fullShare} (inX m c)) ∗ ((rM.view.loc (c : Thread nD τ)) ↦{fullShare} (inR m c)))
      ⊢ iprop(((any c (lB 1 0) ∗ Ow c 6 ∗ sentR c 1 1 ∗ ((xM.view.loc (c : Thread nD τ)) ↦{fullShare} (inX m c)) ∗ ((rM.view.loc (c : Thread nD τ)) ↦{fullShare} (inR m c))) -∗ WP c (k ⟨(Scalar.muli (Scalar.remsi (Scalar.addi (devW c) 2#32) 4#32) 512#32), k0_pay36 (rowX m c (bw 1 c 2)), k0_pay37 (inR m c), (constant S512x32 .f32 0x00000000#32)⟩) Q)
          -∗ WP c (k0_part11 xM (Memref.isWhole_whole _) rM (Memref.isWhole_whole _) iM (Memref.isWhole_whole _) wM (Memref.isWhole_whole _) oM (Memref.isWhole_whole _) cM (Memref.isWhole_whole _) lM (Memref.isWhole_whole _) cc0_scratch2 cc0_scratch3 cc0_scoped0 c (devW c) v5 v390 c4_i32_179 >>= k) Q) := by
  simp only [k0_part11_eq_skeleton]; unfold k0_part11_skel
  simp only [semSignalWord, semWaitWord, Prog.lift, Prog.bind_op, Prog.bind_ret, Prog.pure_eq_ret, Prog.bind_assoc, wp_deviceId]
  iintro ⟨#HR, O11, L10, HO, T11, B11, S11, HX, HRt⟩ Hk
  iapply (load_own c oM (sz := S512x512.size) (k0_off16_at_1 c) _) $$ O11
  iintro O11
  iapply (load_slot c 1 0 rfl _) $$ L10
  iintro L10
  iapply (load_own c oM (sz := S512x512.size) (k0_off16_at_1 c) _) $$ O11
  iintro O11
  iapply (store_to c oM (sz := S512x512.size) (k0_off16_at_1 c) (sum_11 m c) _) $$ O11
  iintro O11
  iapply (send_rs m c K 1 1 1 rfl 5 rfl (dev6_at c) (k0_off17_at_1 c)) $$ [T11 O11 B11 S11 HO]
  · isplitr; · iexact HR
    isplitl [T11]; · iexact T11
    isplitl [O11]; · iexact O11
    isplitl [B11]; · iexact B11
    isplitl [S11]; · iexact S11
    iexact HO
  iintro ⟨T11, HO⟩
  iapply (load_x m c (bw 1 c 2) (k0_off13_at_2 c)) $$ HX
  iintro HX
  iapply (load_rt m c) $$ HRt
  iintro HRt
  iapply Hk
  isplitl [L10]; · iexact L10
  isplitl [HO]; · iexact HO
  isplitl [T11]; · iexact T11
  isplitl [HX]; · iexact HX
  iexact HRt

theorem part12 {α : Type} {Q : α → sProp 𝕄} {v415 : BitVec 32} {k : _ → Prog (TpuEff nD τ sig (Elt F) Λ₀ .tc) α} :
    iprop(recs m K ∗ ((iM.view.loc (c : Thread nD τ)) ↦{fullShare} (inI m c)))
      ⊢ iprop(((((iM.view.loc (c : Thread nD τ)) ↦{fullShare} (inI m c))) -∗ WP c (k (k0_pay38 (devW c) (k0_pay36 (rowX m c (bw 1 c 2))) (k0_pay37 (inR m c)) (constant S512x32 .f32 0x00000000#32) (rowI m c (bw 1 c 2)))) Q)
          -∗ WP c (k0_part12 xM (Memref.isWhole_whole _) rM (Memref.isWhole_whole _) iM (Memref.isWhole_whole _) wM (Memref.isWhole_whole _) oM (Memref.isWhole_whole _) cM (Memref.isWhole_whole _) lM (Memref.isWhole_whole _) cc0_scratch2 cc0_scratch3 cc0_scoped0 c (devW c) v415 (k0_pay36 (rowX m c (bw 1 c 2))) (k0_pay37 (inR m c)) (constant S512x32 .f32 0x00000000#32) >>= k) Q) := by
  simp only [k0_part12_eq_skeleton]; unfold k0_part12_skel
  simp only [semSignalWord, semWaitWord, Prog.lift, Prog.bind_op, Prog.bind_ret, Prog.pure_eq_ret, Prog.bind_assoc, wp_deviceId]
  iintro ⟨#HR, HI⟩ Hk
  iapply (load_ix m c (bw 1 c 2) (k0_off14_at_2 c)) $$ HI
  iintro HI
  iapply Hk
  iexact HI

theorem part13 {α : Type} {Q : α → sProp 𝕄} {v415 : BitVec 32} {k : _ → Prog (TpuEff nD τ sig (Elt F) Λ₀ .tc) α} :
    iprop(recs m K ∗ any c (cB (bw 1 c 2)) ∗ any c (oB 0 (bw 0 c 2)))
      ⊢ iprop(((own c (cB (bw 1 c 2)) (cat m c (bw 1 c 2)) ∗ own c (oB 0 (bw 0 c 2)) (part m c 0 (bw 0 c 2))) -∗ WP c (k ⟨⟩) Q)
          -∗ WP c (k0_part13 xM (Memref.isWhole_whole _) rM (Memref.isWhole_whole _) iM (Memref.isWhole_whole _) wM (Memref.isWhole_whole _) oM (Memref.isWhole_whole _) cM (Memref.isWhole_whole _) lM (Memref.isWhole_whole _) cc0_scratch2 cc0_scratch3 cc0_scoped0 c (devW c) (k0_pay1 (inW m c)) v415 (k0_pay36 (rowX m c (bw 1 c 2))) (k0_pay38 (devW c) (k0_pay36 (rowX m c (bw 1 c 2))) (k0_pay37 (inR m c)) (constant S512x32 .f32 0x00000000#32) (rowI m c (bw 1 c 2))) >>= k) Q) := by
  simp only [k0_part13_eq_skeleton]; unfold k0_part13_skel
  simp only [semSignalWord, semWaitWord, Prog.lift, Prog.bind_op, Prog.bind_ret, Prog.pure_eq_ret, Prog.bind_assoc, wp_deviceId]
  iintro ⟨#HR, X2, O02⟩ Hk
  icases X2 with ⟨%Y8, X2⟩
  iapply (load_own c cM (sz := S512x4096.size) (k0_off15_at_2 c) _) $$ X2
  iintro X2
  iapply (store_to c cM (sz := S512x4096.size) (k0_off15_at_2 c) (cat_third (devW c) (rowX m c (bw 1 c 2)) (inR m c) (rowI m c (bw 1 c 2))) _) $$ X2
  iintro X2
  iapply (load_own c cM (sz := S512x4096.size) (k0_off15_at_2 c) _) $$ X2
  iintro X2
  icases O02 with ⟨%Y9, O02⟩
  iapply (load_own c oM (sz := S512x512.size) (k0_off18_at_2 c) _) $$ O02
  iintro O02
  iapply (store_to c oM (sz := S512x512.size) (k0_off18_at_2 c) (val_02 m c) _) $$ O02
  iintro O02
  iapply Hk
  isplitl [X2]; · iexact X2
  iexact O02

theorem part14 {α : Type} {Q : α → sProp 𝕄} {v7 : BitVec 32} {k : _ → Prog (TpuEff nD τ sig (Elt F) Λ₀ .tc) α} :
    iprop(recs m K ∗ Ow c 6 ∗ sentR c 0 1 ∗ recvR c 0 1 ∗ own c (oB 0 (bw 0 c 2)) (part m c 0 (bw 0 c 2)))
      ⊢ iprop(((Ow c 6 ∗ semVal (cell c (sS 0 1)) 0 ∗ semVal (cell c (vS 0 1)) 0 ∗ any c (lB 0 1) ∗ srcB 0 (bw 0 c 2) 2 ∗ own c (oB 0 (bw 0 c 2)) (run m 0 (bw 0 c 2) 2)) -∗ WP c (k ⟨(Scalar.muli v7 1#32), 0#32⟩) Q)
          -∗ WP c (k0_part14 xM (Memref.isWhole_whole _) rM (Memref.isWhole_whole _) iM (Memref.isWhole_whole _) wM (Memref.isWhole_whole _) oM (Memref.isWhole_whole _) cM (Memref.isWhole_whole _) lM (Memref.isWhole_whole _) cc0_scratch2 cc0_scratch3 cc0_scoped0 c (devW c) v7 >>= k) Q) := by
  simp only [k0_part14_eq_skeleton]; unfold k0_part14_skel
  simp only [semSignalWord, semWaitWord, Prog.lift, Prog.bind_op, Prog.bind_ret, Prog.pure_eq_ret, Prog.bind_assoc, wp_deviceId]
  iintro ⟨#HR, HO, T01, V01, O02⟩ Hk
  iapply (left_rs m c K 0 1 (by decide) 6 (by decide)) $$ [T01 HO]
  · isplitr; · iexact HR
    isplitl [T01]; · iexact T01
    iexact HO
  iintro ⟨ZS01, HO⟩
  iapply (came_rs m c K 0 1 1 rfl 6 (by decide)) $$ [V01 HO]
  · isplitr; · iexact HR
    isplitl [V01]; · iexact V01
    iexact HO
  iintro ⟨ZV01, L01, S02, HO⟩
  iapply (load_own c oM (sz := S512x512.size) (k0_off18_at_2 c) _) $$ O02
  iintro O02
  iapply (load_slot c 0 1 rfl _) $$ L01
  iintro L01
  iapply (load_own c oM (sz := S512x512.size) (k0_off18_at_2 c) _) $$ O02
  iintro O02
  iapply (store_to c oM (sz := S512x512.size) (k0_off18_at_2 c) (sum_02 m c) _) $$ O02
  iintro O02
  iapply Hk
  isplitl [HO]; · iexact HO
  isplitl [ZS01]; · iexact ZS01
  isplitl [ZV01]; · iexact ZV01
  isplitl [L01]; · iexact L01
  isplitl [S02]; · iexact S02
  iexact O02

theorem part15 {α : Type} {Q : α → sProp 𝕄} {v5 v537 c0_i32_264 : BitVec 32} {k : _ → Prog (TpuEff nD τ sig (Elt F) Λ₀ .tc) α} :
    iprop(recs m K ∗ Ow c 6 ∗ sendR c 0 2 ∗ own c (oB 0 (bw 0 c 2)) (run m 0 (bw 0 c 2) 2) ∗ any (fw 0 c 1) (lB 0 2) ∗ srcB 0 (bw 0 c 2) 2 ∗ own c (cB (bw 1 c 2)) (cat m c (bw 1 c 2)) ∗ any c (oB 1 (bw 1 c 2)) ∗ sentR c 1 1)
      ⊢ iprop(((Ow c 7 ∗ sentR c 0 2 ∗ own c (cB (bw 1 c 2)) (cat m c (bw 1 c 2)) ∗ own c (oB 1 (bw 1 c 2)) (part m c 1 (bw 1 c 2)) ∗ semVal (cell c (sS 1 1)) 0) -∗ WP c (k ⟨⟩) Q)
          -∗ WP c (k0_part15 xM (Memref.isWhole_whole _) rM (Memref.isWhole_whole _) iM (Memref.isWhole_whole _) wM (Memref.isWhole_whole _) oM (Memref.isWhole_whole _) cM (Memref.isWhole_whole _) lM (Memref.isWhole_whole _) cc0_scratch2 cc0_scratch3 cc0_scoped0 c (devW c) v5 (k0_pay1 (inW m c)) v537 c0_i32_264 >>= k) Q) := by
  simp only [k0_part15_eq_skeleton]; unfold k0_part15_skel
  simp only [semSignalWord, semWaitWord, Prog.lift, Prog.bind_op, Prog.bind_ret, Prog.pure_eq_ret, Prog.bind_assoc, wp_deviceId]
  iintro ⟨#HR, HO, T02, O02, B02, S02, X2, O12, T11⟩ Hk
  iapply (send_rs m c K 0 2 2 rfl 6 rfl (dev7_at c) (k0_off19_at c)) $$ [T02 O02 B02 S02 HO]
  · isplitr; · iexact HR
    isplitl [T02]; · iexact T02
    isplitl [O02]; · iexact O02
    isplitl [B02]; · iexact B02
    isplitl [S02]; · iexact S02
    iexact HO
  iintro ⟨T02, HO⟩
  iapply (load_own c cM (sz := S512x4096.size) (k0_off15_at_2 c) _) $$ X2
  iintro X2
  icases O12 with ⟨%Y10, O12⟩
  iapply (load_own c oM (sz := S512x512.size) (k0_off16_at_2 c) _) $$ O12
  iintro O12
  iapply (store_to c oM (sz := S512x512.size) (k0_off16_at_2 c) (val_12 m c) _) $$ O12
  iintro O12
  iapply (left_rs m c K 1 1 (by decide) 7 (by decide)) $$ [T11 HO]
  · isplitr; · iexact HR
    isplitl [T11]; · iexact T11
    iexact HO
  iintro ⟨ZS11, HO⟩
  iapply Hk
  isplitl [HO]; · iexact HO
  isplitl [T02]; · iexact T02
  isplitl [X2]; · iexact X2
  isplitl [O12]; · iexact O12
  iexact ZS11

theorem part16 {α : Type} {Q : α → sProp 𝕄} {v5 : BitVec 32} {k : _ → Prog (TpuEff nD τ sig (Elt F) Λ₀ .tc) α} :
    iprop(recs m K ∗ Ow c 7 ∗ recvR c 1 1 ∗ own c (oB 1 (bw 1 c 2)) (part m c 1 (bw 1 c 2)) ∗ sendR c 1 2 ∗ any (fw 1 c 1) (lB 1 2))
      ⊢ iprop(((Ow c 8 ∗ semVal (cell c (vS 1 1)) 0 ∗ any c (lB 1 1) ∗ sentR c 1 2) -∗ WP c (k ⟨(Scalar.muli (Scalar.remsi (Scalar.addi (devW c) 1#32) 4#32) 512#32), k0_pay44 (k0_pay1 (inW m c))⟩) Q)
          -∗ WP c (k0_part16 xM (Memref.isWhole_whole _) rM (Memref.isWhole_whole _) iM (Memref.isWhole_whole _) wM (Memref.isWhole_whole _) oM (Memref.isWhole_whole _) cM (Memref.isWhole_whole _) lM (Memref.isWhole_whole _) cc0_scratch2 cc0_scratch3 cc0_scoped0 c (devW c) v5 (k0_pay1 (inW m c)) >>= k) Q) := by
  simp only [k0_part16_eq_skeleton]; unfold k0_part16_skel
  simp only [semSignalWord, semWaitWord, Prog.lift, Prog.bind_op, Prog.bind_ret, Prog.pure_eq_ret, Prog.bind_assoc, wp_deviceId]
  iintro ⟨#HR, HO, V11, O12, T12, B12⟩ Hk
  iapply (came_rs m c K 1 1 1 rfl 7 (by decide)) $$ [V11 HO]
  · isplitr; · iexact HR
    isplitl [V11]; · iexact V11
    iexact HO
  iintro ⟨ZV11, L11, S12, HO⟩
  iapply (load_own c oM (sz := S512x512.size) (k0_off16_at_2 c) _) $$ O12
  iintro O12
  iapply (load_slot c 1 1 rfl _) $$ L11
  iintro L11
  iapply (load_own c oM (sz := S512x512.size) (k0_off16_at_2 c) _) $$ O12
  iintro O12
  iapply (store_to c oM (sz := S512x512.size) (k0_off16_at_2 c) (sum_12 m c) _) $$ O12
  iintro O12
  iapply (send_rs m c K 1 2 2 rfl 7 rfl (dev8_at c) (k0_off17_at_2 c)) $$ [T12 O12 B12 S12 HO]
  · isplitr; · iexact HR
    isplitl [T12]; · iexact T12
    isplitl [O12]; · iexact O12
    isplitl [B12]; · iexact B12
    isplitl [S12]; · iexact S12
    iexact HO
  iintro ⟨T12, HO⟩
  iapply Hk
  isplitl [HO]; · iexact HO
  isplitl [ZV11]; · iexact ZV11
  isplitl [L11]; · iexact L11
  iexact T12

theorem part17 {α : Type} {Q : α → sProp 𝕄} {v7 v593 : BitVec 32} {k : _ → Prog (TpuEff nD τ sig (Elt F) Λ₀ .tc) α} :
    iprop(recs m K ∗ own c (cB (bw 1 c 1)) (cat m c (bw 1 c 1)) ∗ any c (oB 0 (bw 0 c 3)) ∗ Ow c 8 ∗ sentR c 0 2 ∗ recvR c 0 2)
      ⊢ iprop(((own c (cB (bw 1 c 1)) (cat m c (bw 1 c 1)) ∗ own c (oB 0 (bw 0 c 3)) (part m c 0 (bw 0 c 3)) ∗ Ow c 8 ∗ semVal (cell c (sS 0 2)) 0 ∗ semVal (cell c (vS 0 2)) 0 ∗ any c (lB 0 2) ∗ srcB 0 (bw 0 c 3) 3) -∗ WP c (k ⟨(Scalar.muli (Scalar.remsi (Scalar.addi (devW c) 1#32) 4#32) 512#32), (k0_pay46 (part m c 0 (bw 0 c 3))), (k0_pay47 (wide (run m 0 (bw 0 c 3) 2)))⟩) Q)
          -∗ WP c (k0_part17 xM (Memref.isWhole_whole _) rM (Memref.isWhole_whole _) iM (Memref.isWhole_whole _) wM (Memref.isWhole_whole _) oM (Memref.isWhole_whole _) cM (Memref.isWhole_whole _) lM (Memref.isWhole_whole _) cc0_scratch2 cc0_scratch3 cc0_scoped0 c (devW c) v7 v593 (k0_pay44 (k0_pay1 (inW m c))) >>= k) Q) := by
  simp only [k0_part17_eq_skeleton]; unfold k0_part17_skel
  simp only [semSignalWord, semWaitWord, Prog.lift, Prog.bind_op, Prog.bind_ret, Prog.pure_eq_ret, Prog.bind_assoc, wp_deviceId]
  iintro ⟨#HR, X1, O03, HO, T02, V02⟩ Hk
  iapply (load_own c cM (sz := S512x4096.size) (k0_off15_at_1 c) _) $$ X1
  iintro X1
  icases O03 with ⟨%Y11, O03⟩
  iapply (load_own c oM (sz := S512x512.size) (k0_off18_at_1 c) _) $$ O03
  iintro O03
  iapply (store_to c oM (sz := S512x512.size) (k0_off18_at_1 c) (val_03 m c) _) $$ O03
  iintro O03
  iapply (left_rs m c K 0 2 (by decide) 8 (by decide)) $$ [T02 HO]
  · isplitr; · iexact HR
    isplitl [T02]; · iexact T02
    iexact HO
  iintro ⟨ZS02, HO⟩
  iapply (came_rs m c K 0 2 2 rfl 8 (by decide)) $$ [V02 HO]
  · isplitr; · iexact HR
    isplitl [V02]; · iexact V02
    iexact HO
  iintro ⟨ZV02, L02, S03, HO⟩
  iapply (load_own c oM (sz := S512x512.size) (k0_off18_at_1 c) _) $$ O03
  iintro O03
  iapply (load_slot c 0 2 rfl _) $$ L02
  iintro L02
  iapply Hk
  isplitl [X1]; · iexact X1
  isplitl [O03]; · iexact O03
  isplitl [HO]; · iexact HO
  isplitl [ZS02]; · iexact ZS02
  isplitl [ZV02]; · iexact ZV02
  isplitl [L02]; · iexact L02
  iexact S03

end Cert.KernelIdeal.Moe

end
-- ==== Proof.PartsC.lean ====
/-
# The body, a part at a time: the last sums and the first hops of the gathering

Each part of the program as one step: what it needs, what it leaves.
-/
module

public import proofs.«01_k».proof.Proof.Moves

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (c : Dev nD) (K : Dev nD × Ci → ℕ)

theorem part18 {α : Type} {Q : α → sProp 𝕄} {v7 v615 : BitVec 32} {k : _ → Prog (TpuEff nD τ sig (Elt F) Λ₀ .tc) α} :
    iprop(recs m K ∗ own c (oB 0 (bw 0 c 3)) (part m c 0 (bw 0 c 3)) ∗ srcB 0 (bw 0 c 3) 3 ∗ Ow c 8 ∗ sendR c 0 3 ∗ sendR c 0 4)
      ⊢ iprop(((Ow c 10 ∗ sentR c 0 3 ∗ sentR c 0 4) -∗ WP c (k 4#32) Q)
          -∗ WP c (k0_part18 xM (Memref.isWhole_whole _) rM (Memref.isWhole_whole _) iM (Memref.isWhole_whole _) wM (Memref.isWhole_whole _) oM (Memref.isWhole_whole _) cM (Memref.isWhole_whole _) lM (Memref.isWhole_whole _) cc0_scratch2 cc0_scratch3 cc0_scoped0 c (devW c) v7 v615 (k0_pay46 (part m c 0 (bw 0 c 3))) (k0_pay47 (wide (run m 0 (bw 0 c 3) 2))) >>= k) Q) := by
  simp only [k0_part18_eq_skeleton]; unfold k0_part18_skel
  simp only [semSignalWord, semWaitWord, Prog.lift, Prog.bind_op, Prog.bind_ret, Prog.pure_eq_ret, Prog.bind_assoc, wp_deviceId]
  iintro ⟨#HR, O03, S03, HO, T03, T04⟩ Hk
  iapply (load_own c oM (sz := S512x512.size) (k0_off18_at_1 c) _) $$ O03
  iintro O03
  iapply (store_to c oM (sz := S512x512.size) (k0_off18_at_1 c) (sum_03 m c) _) $$ O03
  iintro O03
  ihave O03 := (fin_halves m c 0 (bw 0 c 3)) $$ O03
  icases O03 with ⟨D030, D031⟩
  ihave S03 := (src_to_tgt 0 (bw 0 c 3)) $$ S03
  icases S03 with ⟨G030, G031⟩
  iapply (pass_ag m c K 0 0 0 3 rfl 8 rfl (bw 0 c 3) rfl (dev9_at c) (k0_off20_at_0 c)) $$ [T03 D030 G030 HO]
  · isplitr; · iexact HR
    isplitl [T03]; · iexact T03
    isplitl [D030]; · iexact D030
    isplitl [G030]; · iexact G030
    iexact HO
  iintro ⟨T03, HO⟩
  iapply (pass_ag m c K 0 1 0 4 rfl 9 rfl (bw 0 c 3) rfl (dev10_at c) (k0_off20_at_1 c)) $$ [T04 D031 G031 HO]
  · isplitr; · iexact HR
    isplitl [T04]; · iexact T04
    isplitl [D031]; · iexact D031
    isplitl [G031]; · iexact G031
    iexact HO
  iintro ⟨T04, HO⟩
  iapply Hk
  isplitl [HO]; · iexact HO
  isplitl [T03]; · iexact T03
  iexact T04

theorem part19 {α : Type} {Q : α → sProp 𝕄} {v5 c4_i32_377 : BitVec 32} {k : _ → Prog (TpuEff nD τ sig (Elt F) Λ₀ .tc) α} :
    iprop(recs m K ∗ own c (cB (bw 1 c 3)) (cat m c (bw 1 c 3)) ∗ any c (oB 1 (bw 1 c 3)) ∗ Ow c 10 ∗ sentR c 1 2 ∗ recvR c 1 2)
      ⊢ iprop(((own c (cB (bw 1 c 3)) (cat m c (bw 1 c 3)) ∗ own c (oB 1 (bw 1 c 3)) (part m c 1 (bw 1 c 3)) ∗ Ow c 10 ∗ semVal (cell c (sS 1 2)) 0 ∗ semVal (cell c (vS 1 2)) 0 ∗ own c (lB 1 2) (run m 1 (bw 1 c 3) 2) ∗ srcB 1 (bw 1 c 3) 3) -∗ WP c (k ⟨(Scalar.remsi (Scalar.subi (Scalar.addi (devW c) 4#32) 1#32) 4#32), 512#32⟩) Q)
          -∗ WP c (k0_part19 xM (Memref.isWhole_whole _) rM (Memref.isWhole_whole _) iM (Memref.isWhole_whole _) wM (Memref.isWhole_whole _) oM (Memref.isWhole_whole _) cM (Memref.isWhole_whole _) lM (Memref.isWhole_whole _) cc0_scratch2 cc0_scratch3 cc0_scoped0 c (devW c) v5 (k0_pay1 (inW m c)) c4_i32_377 >>= k) Q) := by
  simp only [k0_part19_eq_skeleton]; unfold k0_part19_skel
  simp only [semSignalWord, semWaitWord, Prog.lift, Prog.bind_op, Prog.bind_ret, Prog.pure_eq_ret, Prog.bind_assoc, wp_deviceId]
  iintro ⟨#HR, X3, O13, HO, T12, V12⟩ Hk
  iapply (load_own c cM (sz := S512x4096.size) (k0_off10_at c) _) $$ X3
  iintro X3
  icases O13 with ⟨%Y12, O13⟩
  iapply (load_own c oM (sz := S512x512.size) (k0_off21_at c) _) $$ O13
  iintro O13
  iapply (store_to c oM (sz := S512x512.size) (k0_off21_at c) (val_13 m c) _) $$ O13
  iintro O13
  iapply (left_rs m c K 1 2 (by decide) 10 (by decide)) $$ [T12 HO]
  · isplitr; · iexact HR
    isplitl [T12]; · iexact T12
    iexact HO
  iintro ⟨ZS12, HO⟩
  iapply (came_rs m c K 1 2 2 rfl 10 (by decide)) $$ [V12 HO]
  · isplitr; · iexact HR
    isplitl [V12]; · iexact V12
    iexact HO
  iintro ⟨ZV12, L12, S13, HO⟩
  iapply Hk
  isplitl [X3]; · iexact X3
  isplitl [O13]; · iexact O13
  isplitl [HO]; · iexact HO
  isplitl [ZS12]; · iexact ZS12
  isplitl [ZV12]; · iexact ZV12
  isplitl [L12]; · iexact L12
  iexact S13

theorem part20 {α : Type} {Q : α → sProp 𝕄} {v5 v675 c512_i32_408 : BitVec 32} {k : _ → Prog (TpuEff nD τ sig (Elt F) Λ₀ .tc) α} :
    iprop(recs m K ∗ own c (oB 1 (bw 1 c 3)) (part m c 1 (bw 1 c 3)) ∗ own c (lB 1 2) (run m 1 (bw 1 c 3) 2) ∗ srcB 1 (bw 1 c 3) 3 ∗ Ow c 10 ∗ sendR c 1 3)
      ⊢ iprop(((any c (lB 1 2) ∗ don m c 1 (bw 1 c 3) 1 ∗ tgtB 1 (bw 1 c 3) 1 3 ∗ Ow c 11 ∗ sentR c 1 3) -∗ WP c (k ⟨(Scalar.muli v5 1#32), 0#32⟩) Q)
          -∗ WP c (k0_part20 xM (Memref.isWhole_whole _) rM (Memref.isWhole_whole _) iM (Memref.isWhole_whole _) wM (Memref.isWhole_whole _) oM (Memref.isWhole_whole _) cM (Memref.isWhole_whole _) lM (Memref.isWhole_whole _) cc0_scratch2 cc0_scratch3 cc0_scoped0 c (devW c) v5 v675 c512_i32_408 >>= k) Q) := by
  simp only [k0_part20_eq_skeleton]; unfold k0_part20_skel
  simp only [semSignalWord, semWaitWord, Prog.lift, Prog.bind_op, Prog.bind_ret, Prog.pure_eq_ret, Prog.bind_assoc, wp_deviceId]
  iintro ⟨#HR, O13, L12, S13, HO, T13⟩ Hk
  iapply (load_own c oM (sz := S512x512.size) (k0_off21_at c) _) $$ O13
  iintro O13
  iapply (load_slot c 1 2 rfl _) $$ L12
  iintro L12
  iapply (load_own c oM (sz := S512x512.size) (k0_off21_at c) _) $$ O13
  iintro O13
  iapply (store_to c oM (sz := S512x512.size) (k0_off21_at c) (sum_13 m c) _) $$ O13
  iintro O13
  ihave O13 := (fin_halves m c 1 (bw 1 c 3)) $$ O13
  icases O13 with ⟨D130, D131⟩
  ihave S13 := (src_to_tgt 1 (bw 1 c 3)) $$ S13
  icases S13 with ⟨G130, G131⟩
  iapply (pass_ag m c K 1 0 0 3 rfl 10 rfl (bw 1 c 3) rfl (dev11_at c) (k0_off22_at_0 c)) $$ [T13 D130 G130 HO]
  · isplitr; · iexact HR
    isplitl [T13]; · iexact T13
    isplitl [D130]; · iexact D130
    isplitl [G130]; · iexact G130
    iexact HO
  iintro ⟨T13, HO⟩
  iapply Hk
  isplitl [L12]; · iexact L12
  isplitl [D131]; · iexact D131
  isplitl [G131]; · iexact G131
  isplitl [HO]; · iexact HO
  iexact T13

theorem part21 {α : Type} {Q : α → sProp 𝕄} {v7 v703 c0_i32_438 : BitVec 32} {k : _ → Prog (TpuEff nD τ sig (Elt F) Λ₀ .tc) α} :
    iprop(recs m K ∗ Ow c 11 ∗ sendR c 1 4 ∗ don m c 1 (bw 1 c 3) 1 ∗ tgtB 1 (bw 1 c 3) 1 3 ∗ recvR c 0 3)
      ⊢ iprop(((Ow c 12 ∗ sentR c 1 4 ∗ semVal (cell c (vS 0 3)) 0 ∗ don m c 0 (bw 0 c 0) 0 ∗ tgtB 0 (bw 0 c 0) 0 2) -∗ WP c (k ⟨⟩) Q)
          -∗ WP c (k0_part21 xM (Memref.isWhole_whole _) rM (Memref.isWhole_whole _) iM (Memref.isWhole_whole _) wM (Memref.isWhole_whole _) oM (Memref.isWhole_whole _) cM (Memref.isWhole_whole _) lM (Memref.isWhole_whole _) cc0_scratch2 cc0_scratch3 cc0_scoped0 c (devW c) v7 v703 c0_i32_438 >>= k) Q) := by
  simp only [k0_part21_eq_skeleton]; unfold k0_part21_skel
  simp only [semSignalWord, semWaitWord, Prog.lift, Prog.bind_op, Prog.bind_ret, Prog.pure_eq_ret, Prog.bind_assoc, wp_deviceId]
  iintro ⟨#HR, HO, T14, D131, G131, V03⟩ Hk
  iapply (pass_ag m c K 1 1 0 4 rfl 11 rfl (bw 1 c 3) rfl (dev12_at c) (k0_off22_at_1 c)) $$ [T14 D131 G131 HO]
  · isplitr; · iexact HR
    isplitl [T14]; · iexact T14
    isplitl [D131]; · iexact D131
    isplitl [G131]; · iexact G131
    iexact HO
  iintro ⟨T14, HO⟩
  iapply (came_ag m c K 0 0 0 3 rfl 12 (by decide)) $$ [V03 HO]
  · isplitr; · iexact HR
    isplitl [V03]; · iexact V03
    iexact HO
  iintro ⟨ZV03, D000, G000, HO⟩
  iapply Hk
  isplitl [HO]; · iexact HO
  isplitl [T14]; · iexact T14
  isplitl [ZV03]; · iexact ZV03
  isplitl [D000]; · iexact D000
  iexact G000

theorem part22 {α : Type} {Q : α → sProp 𝕄} {v5 : BitVec 32} {k : _ → Prog (TpuEff nD τ sig (Elt F) Λ₀ .tc) α} :
    iprop(recs m K ∗ Ow c 12 ∗ sendR c 0 5 ∗ don m c 0 (bw 0 c 0) 0 ∗ tgtB 0 (bw 0 c 0) 0 2 ∗ recvR c 1 3 ∗ sendR c 1 5)
      ⊢ iprop(((Ow c 14 ∗ sentR c 0 5 ∗ semVal (cell c (vS 1 3)) 0 ∗ sentR c 1 5) -∗ WP c (k (Scalar.subi (Scalar.addi (devW c) 4#32) 0#32)) Q)
          -∗ WP c (k0_part22 xM (Memref.isWhole_whole _) rM (Memref.isWhole_whole _) iM (Memref.isWhole_whole _) wM (Memref.isWhole_whole _) oM (Memref.isWhole_whole _) cM (Memref.isWhole_whole _) lM (Memref.isWhole_whole _) cc0_scratch2 cc0_scratch3 cc0_scoped0 c (devW c) v5 >>= k) Q) := by
  simp only [k0_part22_eq_skeleton]; unfold k0_part22_skel
  simp only [semSignalWord, semWaitWord, Prog.lift, Prog.bind_op, Prog.bind_ret, Prog.pure_eq_ret, Prog.bind_assoc, wp_deviceId]
  iintro ⟨#HR, HO, T05, D000, G000, V13, T15⟩ Hk
  iapply (pass_ag m c K 0 0 1 5 rfl 12 rfl (bw 0 c 0) (bw_4 c 0) (dev13_at c) (k0_off24_at_1_0 c)) $$ [T05 D000 G000 HO]
  · isplitr; · iexact HR
    isplitl [T05]; · iexact T05
    isplitl [D000]; · iexact D000
    isplitl [G000]; · iexact G000
    iexact HO
  iintro ⟨T05, HO⟩
  iapply (came_ag m c K 1 0 0 3 rfl 13 (by decide)) $$ [V13 HO]
  · isplitr; · iexact HR
    isplitl [V13]; · iexact V13
    iexact HO
  iintro ⟨ZV13, D100, G100, HO⟩
  iapply (pass_ag m c K 1 0 1 5 rfl 13 rfl (bw 1 c 0) (bw_4 c 1) (dev14_at c) (k0_off26_at_1_0 c)) $$ [T15 D100 G100 HO]
  · isplitr; · iexact HR
    isplitl [T15]; · iexact T15
    isplitl [D100]; · iexact D100
    isplitl [G100]; · iexact G100
    iexact HO
  iintro ⟨T15, HO⟩
  iapply Hk
  isplitl [HO]; · iexact HO
  isplitl [T05]; · iexact T05
  isplitl [ZV13]; · iexact ZV13
  iexact T15

theorem part23 {α : Type} {Q : α → sProp 𝕄} {v7 v761 : BitVec 32} {k : _ → Prog (TpuEff nD τ sig (Elt F) Λ₀ .tc) α} :
    iprop(recs m K ∗ Ow c 14 ∗ recvR c 0 4 ∗ sendR c 0 6)
      ⊢ iprop(((Ow c 15 ∗ semVal (cell c (vS 0 4)) 0 ∗ sentR c 0 6) -∗ WP c (k ⟨⟩) Q)
          -∗ WP c (k0_part23 xM (Memref.isWhole_whole _) rM (Memref.isWhole_whole _) iM (Memref.isWhole_whole _) wM (Memref.isWhole_whole _) oM (Memref.isWhole_whole _) cM (Memref.isWhole_whole _) lM (Memref.isWhole_whole _) cc0_scratch2 cc0_scratch3 cc0_scoped0 c (devW c) v7 v761 >>= k) Q) := by
  simp only [k0_part23_eq_skeleton]; unfold k0_part23_skel
  simp only [semSignalWord, semWaitWord, Prog.lift, Prog.bind_op, Prog.bind_ret, Prog.pure_eq_ret, Prog.bind_assoc, wp_deviceId]
  iintro ⟨#HR, HO, V04, T06⟩ Hk
  iapply (came_ag m c K 0 1 0 4 rfl 14 (by decide)) $$ [V04 HO]
  · isplitr; · iexact HR
    isplitl [V04]; · iexact V04
    iexact HO
  iintro ⟨ZV04, D001, G001, HO⟩
  iapply (pass_ag m c K 0 1 1 6 rfl 14 rfl (bw 0 c 0) (bw_4 c 0) (dev15_at c) (k0_off24_at_1_1 c)) $$ [T06 D001 G001 HO]
  · isplitr; · iexact HR
    isplitl [T06]; · iexact T06
    isplitl [D001]; · iexact D001
    isplitl [G001]; · iexact G001
    iexact HO
  iintro ⟨T06, HO⟩
  iapply Hk
  isplitl [HO]; · iexact HO
  isplitl [ZV04]; · iexact ZV04
  iexact T06

theorem part24 {α : Type} {Q : α → sProp 𝕄} {v5 v7 : BitVec 32} {k : _ → Prog (TpuEff nD τ sig (Elt F) Λ₀ .tc) α} :
    iprop(recs m K ∗ Ow c 15 ∗ recvR c 1 4 ∗ sendR c 1 6)
      ⊢ iprop(((Ow c 16 ∗ semVal (cell c (vS 1 4)) 0 ∗ sentR c 1 6) -∗ WP c (k ⟨⟩) Q)
          -∗ WP c (k0_part24 xM (Memref.isWhole_whole _) rM (Memref.isWhole_whole _) iM (Memref.isWhole_whole _) wM (Memref.isWhole_whole _) oM (Memref.isWhole_whole _) cM (Memref.isWhole_whole _) lM (Memref.isWhole_whole _) cc0_scratch2 cc0_scratch3 cc0_scoped0 c (devW c) v5 v7 >>= k) Q) := by
  simp only [k0_part24_eq_skeleton]; unfold k0_part24_skel
  simp only [semSignalWord, semWaitWord, Prog.lift, Prog.bind_op, Prog.bind_ret, Prog.pure_eq_ret, Prog.bind_assoc, wp_deviceId]
  iintro ⟨#HR, HO, V14, T16⟩ Hk
  iapply (came_ag m c K 1 1 0 4 rfl 15 (by decide)) $$ [V14 HO]
  · isplitr; · iexact HR
    isplitl [V14]; · iexact V14
    iexact HO
  iintro ⟨ZV14, D101, G101, HO⟩
  iapply (pass_ag m c K 1 1 1 6 rfl 15 rfl (bw 1 c 0) (bw_4 c 1) (dev16_at c) (k0_off26_at_1_1 c)) $$ [T16 D101 G101 HO]
  · isplitr; · iexact HR
    isplitl [T16]; · iexact T16
    isplitl [D101]; · iexact D101
    isplitl [G101]; · iexact G101
    iexact HO
  iintro ⟨T16, HO⟩
  iapply Hk
  isplitl [HO]; · iexact HO
  isplitl [ZV14]; · iexact ZV14
  iexact T16

end Cert.KernelIdeal.Moe

end
-- ==== Proof.PartsD.lean ====
/-
# The body, a part at a time: the rest of the gathering

Each part of the program as one step: what it needs, what it leaves.
-/
module

public import proofs.«01_k».proof.Proof.Moves

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (c : Dev nD) (K : Dev nD × Ci → ℕ)

theorem part25 {α : Type} {Q : α → sProp 𝕄} {v5 v7 : BitVec 32} {k : _ → Prog (TpuEff nD τ sig (Elt F) Λ₀ .tc) α} :
    iprop(recs m K ∗ Ow c 16 ∗ recvR c 0 5 ∗ sendR c 0 7 ∗ recvR c 1 5)
      ⊢ iprop(((Ow c 17 ∗ semVal (cell c (vS 0 5)) 0 ∗ sentR c 0 7 ∗ semVal (cell c (vS 1 5)) 0 ∗ don m c 1 (bw 1 c 1) 0 ∗ tgtB 1 (bw 1 c 1) 0 1) -∗ WP c (k 4#32) Q)
          -∗ WP c (k0_part25 xM (Memref.isWhole_whole _) rM (Memref.isWhole_whole _) iM (Memref.isWhole_whole _) wM (Memref.isWhole_whole _) oM (Memref.isWhole_whole _) cM (Memref.isWhole_whole _) lM (Memref.isWhole_whole _) cc0_scratch2 cc0_scratch3 cc0_scoped0 c (devW c) v5 v7 >>= k) Q) := by
  simp only [k0_part25_eq_skeleton]; unfold k0_part25_skel
  simp only [semSignalWord, semWaitWord, Prog.lift, Prog.bind_op, Prog.bind_ret, Prog.pure_eq_ret, Prog.bind_assoc, wp_deviceId]
  iintro ⟨#HR, HO, V05, T07, V15⟩ Hk
  iapply (came_ag m c K 0 0 1 5 rfl 16 (by decide)) $$ [V05 HO]
  · isplitr; · iexact HR
    isplitl [V05]; · iexact V05
    iexact HO
  iintro ⟨ZV05, D010, G010, HO⟩
  iapply (pass_ag m c K 0 0 2 7 rfl 16 rfl (bw 0 c 1) (bw_5 c 0) (dev17_at c) (k0_off24_at_2_0 c)) $$ [T07 D010 G010 HO]
  · isplitr; · iexact HR
    isplitl [T07]; · iexact T07
    isplitl [D010]; · iexact D010
    isplitl [G010]; · iexact G010
    iexact HO
  iintro ⟨T07, HO⟩
  iapply (came_ag m c K 1 0 1 5 rfl 17 (by decide)) $$ [V15 HO]
  · isplitr; · iexact HR
    isplitl [V15]; · iexact V15
    iexact HO
  iintro ⟨ZV15, D110, G110, HO⟩
  iapply Hk
  isplitl [HO]; · iexact HO
  isplitl [ZV05]; · iexact ZV05
  isplitl [T07]; · iexact T07
  isplitl [ZV15]; · iexact ZV15
  isplitl [D110]; · iexact D110
  iexact G110

theorem part26 {α : Type} {Q : α → sProp 𝕄} {v5 v7 c4_i32_583 : BitVec 32} {k : _ → Prog (TpuEff nD τ sig (Elt F) Λ₀ .tc) α} :
    iprop(recs m K ∗ Ow c 17 ∗ sendR c 1 7 ∗ don m c 1 (bw 1 c 1) 0 ∗ tgtB 1 (bw 1 c 1) 0 1 ∗ recvR c 0 6)
      ⊢ iprop(((Ow c 18 ∗ sentR c 1 7 ∗ semVal (cell c (vS 0 6)) 0 ∗ don m c 0 (bw 0 c 1) 1 ∗ tgtB 0 (bw 0 c 1) 1 1) -∗ WP c (k ⟨(Scalar.subi (Scalar.addi (Scalar.addi (devW c) 4#32) 1#32) 2#32), 4#32⟩) Q)
          -∗ WP c (k0_part26 xM (Memref.isWhole_whole _) rM (Memref.isWhole_whole _) iM (Memref.isWhole_whole _) wM (Memref.isWhole_whole _) oM (Memref.isWhole_whole _) cM (Memref.isWhole_whole _) lM (Memref.isWhole_whole _) cc0_scratch2 cc0_scratch3 cc0_scoped0 c (devW c) v5 v7 c4_i32_583 >>= k) Q) := by
  simp only [k0_part26_eq_skeleton]; unfold k0_part26_skel
  simp only [semSignalWord, semWaitWord, Prog.lift, Prog.bind_op, Prog.bind_ret, Prog.pure_eq_ret, Prog.bind_assoc, wp_deviceId]
  iintro ⟨#HR, HO, T17, D110, G110, V06⟩ Hk
  iapply (pass_ag m c K 1 0 2 7 rfl 17 rfl (bw 1 c 1) (bw_5 c 1) (dev18_at c) (k0_off26_at_2_0 c)) $$ [T17 D110 G110 HO]
  · isplitr; · iexact HR
    isplitl [T17]; · iexact T17
    isplitl [D110]; · iexact D110
    isplitl [G110]; · iexact G110
    iexact HO
  iintro ⟨T17, HO⟩
  iapply (came_ag m c K 0 1 1 6 rfl 18 (by decide)) $$ [V06 HO]
  · isplitr; · iexact HR
    isplitl [V06]; · iexact V06
    iexact HO
  iintro ⟨ZV06, D011, G011, HO⟩
  iapply Hk
  isplitl [HO]; · iexact HO
  isplitl [T17]; · iexact T17
  isplitl [ZV06]; · iexact ZV06
  isplitl [D011]; · iexact D011
  iexact G011

theorem part27 {α : Type} {Q : α → sProp 𝕄} {v5 v7 v871 c4_i32_613 : BitVec 32} {k : _ → Prog (TpuEff nD τ sig (Elt F) Λ₀ .tc) α} :
    iprop(recs m K ∗ Ow c 18 ∗ sendR c 0 8 ∗ don m c 0 (bw 0 c 1) 1 ∗ tgtB 0 (bw 0 c 1) 1 1 ∗ recvR c 1 6)
      ⊢ iprop(((Ow c 19 ∗ sentR c 0 8 ∗ semVal (cell c (vS 1 6)) 0 ∗ don m c 1 (bw 1 c 1) 1 ∗ tgtB 1 (bw 1 c 1) 1 1) -∗ WP c (k ⟨⟩) Q)
          -∗ WP c (k0_part27 xM (Memref.isWhole_whole _) rM (Memref.isWhole_whole _) iM (Memref.isWhole_whole _) wM (Memref.isWhole_whole _) oM (Memref.isWhole_whole _) cM (Memref.isWhole_whole _) lM (Memref.isWhole_whole _) cc0_scratch2 cc0_scratch3 cc0_scoped0 c (devW c) v5 v7 v871 c4_i32_613 >>= k) Q) := by
  simp only [k0_part27_eq_skeleton]; unfold k0_part27_skel
  simp only [semSignalWord, semWaitWord, Prog.lift, Prog.bind_op, Prog.bind_ret, Prog.pure_eq_ret, Prog.bind_assoc, wp_deviceId]
  iintro ⟨#HR, HO, T08, D011, G011, V16⟩ Hk
  iapply (pass_ag m c K 0 1 2 8 rfl 18 rfl (bw 0 c 1) (bw_5 c 0) (dev19_at c) (k0_off24_at_2_1 c)) $$ [T08 D011 G011 HO]
  · isplitr; · iexact HR
    isplitl [T08]; · iexact T08
    isplitl [D011]; · iexact D011
    isplitl [G011]; · iexact G011
    iexact HO
  iintro ⟨T08, HO⟩
  iapply (came_ag m c K 1 1 1 6 rfl 19 (by decide)) $$ [V16 HO]
  · isplitr; · iexact HR
    isplitl [V16]; · iexact V16
    iexact HO
  iintro ⟨ZV16, D111, G111, HO⟩
  iapply Hk
  isplitl [HO]; · iexact HO
  isplitl [T08]; · iexact T08
  isplitl [ZV16]; · iexact ZV16
  isplitl [D111]; · iexact D111
  iexact G111

theorem part28 {α : Type} {Q : α → sProp 𝕄} {v5 v7 : BitVec 32} {k : _ → Prog (TpuEff nD τ sig (Elt F) Λ₀ .tc) α} :
    iprop(recs m K ∗ Ow c 19 ∗ sendR c 1 8 ∗ don m c 1 (bw 1 c 1) 1 ∗ tgtB 1 (bw 1 c 1) 1 1 ∗ recvR c 0 7)
      ⊢ iprop(((Ow c 20 ∗ sentR c 1 8 ∗ semVal (cell c (vS 0 7)) 0 ∗ don m c 0 (bw 0 c 2) 0 ∗ tgtB 0 (bw 0 c 2) 0 0) -∗ WP c (k ⟨⟩) Q)
          -∗ WP c (k0_part28 xM (Memref.isWhole_whole _) rM (Memref.isWhole_whole _) iM (Memref.isWhole_whole _) wM (Memref.isWhole_whole _) oM (Memref.isWhole_whole _) cM (Memref.isWhole_whole _) lM (Memref.isWhole_whole _) cc0_scratch2 cc0_scratch3 cc0_scoped0 c (devW c) v5 v7 >>= k) Q) := by
  simp only [k0_part28_eq_skeleton]; unfold k0_part28_skel
  simp only [semSignalWord, semWaitWord, Prog.lift, Prog.bind_op, Prog.bind_ret, Prog.pure_eq_ret, Prog.bind_assoc, wp_deviceId]
  iintro ⟨#HR, HO, T18, D111, G111, V07⟩ Hk
  iapply (pass_ag m c K 1 1 2 8 rfl 19 rfl (bw 1 c 1) (bw_5 c 1) (dev20_at c) (k0_off26_at_2_1 c)) $$ [T18 D111 G111 HO]
  · isplitr; · iexact HR
    isplitl [T18]; · iexact T18
    isplitl [D111]; · iexact D111
    isplitl [G111]; · iexact G111
    iexact HO
  iintro ⟨T18, HO⟩
  iapply (came_ag m c K 0 0 2 7 rfl 20 (by decide)) $$ [V07 HO]
  · isplitr; · iexact HR
    isplitl [V07]; · iexact V07
    iexact HO
  iintro ⟨ZV07, D020, G020, HO⟩
  iapply Hk
  isplitl [HO]; · iexact HO
  isplitl [T18]; · iexact T18
  isplitl [ZV07]; · iexact ZV07
  isplitl [D020]; · iexact D020
  iexact G020

theorem part29 {α : Type} {Q : α → sProp 𝕄} {v5 v7 : BitVec 32} {k : _ → Prog (TpuEff nD τ sig (Elt F) Λ₀ .tc) α} :
    iprop(recs m K ∗ Ow c 20 ∗ recvR c 1 7 ∗ recvR c 0 8 ∗ recvR c 1 8)
      ⊢ iprop(((Ow c 20 ∗ semVal (cell c (vS 1 7)) 0 ∗ don m c 1 (bw 1 c 2) 0 ∗ tgtB 1 (bw 1 c 2) 0 0 ∗ semVal (cell c (vS 0 8)) 0 ∗ don m c 0 (bw 0 c 2) 1 ∗ tgtB 0 (bw 0 c 2) 1 0 ∗ semVal (cell c (vS 1 8)) 0 ∗ don m c 1 (bw 1 c 2) 1 ∗ tgtB 1 (bw 1 c 2) 1 0) -∗ WP c (k ⟨⟩) Q)
          -∗ WP c (k0_part29 xM (Memref.isWhole_whole _) rM (Memref.isWhole_whole _) iM (Memref.isWhole_whole _) wM (Memref.isWhole_whole _) oM (Memref.isWhole_whole _) cM (Memref.isWhole_whole _) lM (Memref.isWhole_whole _) cc0_scratch2 cc0_scratch3 cc0_scoped0 c (devW c) v5 v7 >>= k) Q) := by
  simp only [k0_part29_eq_skeleton]; unfold k0_part29_skel
  simp only [semSignalWord, semWaitWord, Prog.lift, Prog.bind_op, Prog.bind_ret, Prog.pure_eq_ret, Prog.bind_assoc, wp_deviceId]
  iintro ⟨#HR, HO, V17, V08, V18⟩ Hk
  iapply (came_ag m c K 1 0 2 7 rfl 20 (by decide)) $$ [V17 HO]
  · isplitr; · iexact HR
    isplitl [V17]; · iexact V17
    iexact HO
  iintro ⟨ZV17, D120, G120, HO⟩
  iapply (came_ag m c K 0 1 2 8 rfl 20 (by decide)) $$ [V08 HO]
  · isplitr; · iexact HR
    isplitl [V08]; · iexact V08
    iexact HO
  iintro ⟨ZV08, D021, G021, HO⟩
  iapply (came_ag m c K 1 1 2 8 rfl 20 (by decide)) $$ [V18 HO]
  · isplitr; · iexact HR
    isplitl [V18]; · iexact V18
    iexact HO
  iintro ⟨ZV18, D121, G121, HO⟩
  iapply Hk
  isplitl [HO]; · iexact HO
  isplitl [ZV17]; · iexact ZV17
  isplitl [D120]; · iexact D120
  isplitl [G120]; · iexact G120
  isplitl [ZV08]; · iexact ZV08
  isplitl [D021]; · iexact D021
  isplitl [G021]; · iexact G021
  isplitl [ZV18]; · iexact ZV18
  isplitl [D121]; · iexact D121
  iexact G121

theorem part30 {α : Type} {Q : α → sProp 𝕄} {k : _ → Prog (TpuEff nD τ sig (Elt F) Λ₀ .tc) α} :
    iprop(recs m K ∗ Ow c 20 ∗ sentR c 0 3 ∗ sentR c 0 4 ∗ sentR c 1 3 ∗ sentR c 1 4 ∗ sentR c 0 5)
      ⊢ iprop(((Ow c 20 ∗ semVal (cell c (sS 0 3)) 0 ∗ don m c 0 (bw 0 c 3) 0 ∗ semVal (cell c (sS 0 4)) 0 ∗ don m c 0 (bw 0 c 3) 1 ∗ semVal (cell c (sS 1 3)) 0 ∗ don m c 1 (bw 1 c 3) 0 ∗ semVal (cell c (sS 1 4)) 0 ∗ don m c 1 (bw 1 c 3) 1 ∗ semVal (cell c (sS 0 5)) 0 ∗ don m c 0 (bw 0 c 0) 0) -∗ WP c (k ⟨⟩) Q)
          -∗ WP c (k0_part30 xM (Memref.isWhole_whole _) rM (Memref.isWhole_whole _) iM (Memref.isWhole_whole _) wM (Memref.isWhole_whole _) oM (Memref.isWhole_whole _) cM (Memref.isWhole_whole _) lM (Memref.isWhole_whole _) cc0_scratch2 cc0_scratch3 cc0_scoped0 c >>= k) Q) := by
  simp only [k0_part30_eq_skeleton]; unfold k0_part30_skel
  simp only [semSignalWord, semWaitWord, Prog.lift, Prog.bind_op, Prog.bind_ret, Prog.pure_eq_ret, Prog.bind_assoc, wp_deviceId]
  iintro ⟨#HR, HO, T03, T04, T13, T14, T05⟩ Hk
  iapply (left_ag m c K 0 0 0 3 rfl 20 (by decide) (bw 0 c 3) rfl) $$ [T03 HO]
  · isplitr; · iexact HR
    isplitl [T03]; · iexact T03
    iexact HO
  iintro ⟨ZS03, D030, HO⟩
  iapply (left_ag m c K 0 1 0 4 rfl 20 (by decide) (bw 0 c 3) rfl) $$ [T04 HO]
  · isplitr; · iexact HR
    isplitl [T04]; · iexact T04
    iexact HO
  iintro ⟨ZS04, D031, HO⟩
  iapply (left_ag m c K 1 0 0 3 rfl 20 (by decide) (bw 1 c 3) rfl) $$ [T13 HO]
  · isplitr; · iexact HR
    isplitl [T13]; · iexact T13
    iexact HO
  iintro ⟨ZS13, D130, HO⟩
  iapply (left_ag m c K 1 1 0 4 rfl 20 (by decide) (bw 1 c 3) rfl) $$ [T14 HO]
  · isplitr; · iexact HR
    isplitl [T14]; · iexact T14
    iexact HO
  iintro ⟨ZS14, D131, HO⟩
  iapply (left_ag m c K 0 0 1 5 rfl 20 (by decide) (bw 0 c 0) (bw_4 c 0)) $$ [T05 HO]
  · isplitr; · iexact HR
    isplitl [T05]; · iexact T05
    iexact HO
  iintro ⟨ZS05, D000, HO⟩
  iapply Hk
  isplitl [HO]; · iexact HO
  isplitl [ZS03]; · iexact ZS03
  isplitl [D030]; · iexact D030
  isplitl [ZS04]; · iexact ZS04
  isplitl [D031]; · iexact D031
  isplitl [ZS13]; · iexact ZS13
  isplitl [D130]; · iexact D130
  isplitl [ZS14]; · iexact ZS14
  isplitl [D131]; · iexact D131
  isplitl [ZS05]; · iexact ZS05
  iexact D000

theorem part31 {α : Type} {Q : α → sProp 𝕄} {k : _ → Prog (TpuEff nD τ sig (Elt F) Λ₀ .tc) α} :
    iprop(recs m K ∗ Ow c 20 ∗ sentR c 1 5 ∗ sentR c 0 6 ∗ sentR c 1 6 ∗ sentR c 0 7 ∗ sentR c 1 7)
      ⊢ iprop(((Ow c 20 ∗ semVal (cell c (sS 1 5)) 0 ∗ don m c 1 (bw 1 c 0) 0 ∗ semVal (cell c (sS 0 6)) 0 ∗ don m c 0 (bw 0 c 0) 1 ∗ semVal (cell c (sS 1 6)) 0 ∗ don m c 1 (bw 1 c 0) 1 ∗ semVal (cell c (sS 0 7)) 0 ∗ don m c 0 (bw 0 c 1) 0 ∗ semVal (cell c (sS 1 7)) 0 ∗ don m c 1 (bw 1 c 1) 0) -∗ WP c (k ⟨⟩) Q)
          -∗ WP c (k0_part31 xM (Memref.isWhole_whole _) rM (Memref.isWhole_whole _) iM (Memref.isWhole_whole _) wM (Memref.isWhole_whole _) oM (Memref.isWhole_whole _) cM (Memref.isWhole_whole _) lM (Memref.isWhole_whole _) cc0_scratch2 cc0_scratch3 cc0_scoped0 c >>= k) Q) := by
  simp only [k0_part31_eq_skeleton]; unfold k0_part31_skel
  simp only [semSignalWord, semWaitWord, Prog.lift, Prog.bind_op, Prog.bind_ret, Prog.pure_eq_ret, Prog.bind_assoc, wp_deviceId]
  iintro ⟨#HR, HO, T15, T06, T16, T07, T17⟩ Hk
  iapply (left_ag m c K 1 0 1 5 rfl 20 (by decide) (bw 1 c 0) (bw_4 c 1)) $$ [T15 HO]
  · isplitr; · iexact HR
    isplitl [T15]; · iexact T15
    iexact HO
  iintro ⟨ZS15, D100, HO⟩
  iapply (left_ag m c K 0 1 1 6 rfl 20 (by decide) (bw 0 c 0) (bw_4 c 0)) $$ [T06 HO]
  · isplitr; · iexact HR
    isplitl [T06]; · iexact T06
    iexact HO
  iintro ⟨ZS06, D001, HO⟩
  iapply (left_ag m c K 1 1 1 6 rfl 20 (by decide) (bw 1 c 0) (bw_4 c 1)) $$ [T16 HO]
  · isplitr; · iexact HR
    isplitl [T16]; · iexact T16
    iexact HO
  iintro ⟨ZS16, D101, HO⟩
  iapply (left_ag m c K 0 0 2 7 rfl 20 (by decide) (bw 0 c 1) (bw_5 c 0)) $$ [T07 HO]
  · isplitr; · iexact HR
    isplitl [T07]; · iexact T07
    iexact HO
  iintro ⟨ZS07, D010, HO⟩
  iapply (left_ag m c K 1 0 2 7 rfl 20 (by decide) (bw 1 c 1) (bw_5 c 1)) $$ [T17 HO]
  · isplitr; · iexact HR
    isplitl [T17]; · iexact T17
    iexact HO
  iintro ⟨ZS17, D110, HO⟩
  iapply Hk
  isplitl [HO]; · iexact HO
  isplitl [ZS15]; · iexact ZS15
  isplitl [D100]; · iexact D100
  isplitl [ZS06]; · iexact ZS06
  isplitl [D001]; · iexact D001
  isplitl [ZS16]; · iexact ZS16
  isplitl [D101]; · iexact D101
  isplitl [ZS07]; · iexact ZS07
  isplitl [D010]; · iexact D010
  isplitl [ZS17]; · iexact ZS17
  iexact D110

end Cert.KernelIdeal.Moe

end
-- ==== Proof.Body.lean ====
/-
# The body of the program at a symbolic device

The parts run one after another, from what a device starts with to what it ends with.
-/
module

public import proofs.«01_k».proof.Proof.PartsA
public import proofs.«01_k».proof.Proof.PartsB
public import proofs.«01_k».proof.Proof.PartsC
public import proofs.«01_k».proof.Proof.PartsD

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (c : Dev nD) (K : Dev nD × Ci → ℕ)

/-! ## Pure stretches -/

theorem part2 {α : Type} {Q : α → sProp 𝕄} {k : _ → Prog (TpuEff nD τ sig (Elt F) Λ₀ .tc) α} :
    (WP c (k ⟨(k0_pay9 (devW c) (k0_pay2 (rowX m c (bw 1 c 0))) (k0_pay3 (rowX m c (bw 1 c 0)) (inR m c)) (k0_pay5 (rowI m c (bw 1 c 0))) (k0_pay6 (rowI m c (bw 1 c 0))) (iota .tc S512x32 32 [1] iota_S512x32_d1_w32) (k0_pay7 (rowX m c (bw 1 c 0)) (inR m c) (rowI m c (bw 1 c 0)))), (k0_pay10 (devW c) (k0_pay2 (rowX m c (bw 1 c 0))) (k0_pay3 (rowX m c (bw 1 c 0)) (inR m c)) (k0_pay5 (rowI m c (bw 1 c 0))) (k0_pay6 (rowI m c (bw 1 c 0))) (iota .tc S512x32 32 [1] iota_S512x32_d1_w32) (k0_pay7 (rowX m c (bw 1 c 0)) (inR m c) (rowI m c (bw 1 c 0)))), (k0_pay11 (devW c) (k0_pay2 (rowX m c (bw 1 c 0))) (k0_pay3 (rowX m c (bw 1 c 0)) (inR m c)) (k0_pay5 (rowI m c (bw 1 c 0))) (k0_pay6 (rowI m c (bw 1 c 0))) (iota .tc S512x32 32 [1] iota_S512x32_d1_w32) (k0_pay7 (rowX m c (bw 1 c 0)) (inR m c) (rowI m c (bw 1 c 0)))), (k0_pay12 (devW c) (k0_pay2 (rowX m c (bw 1 c 0))) (k0_pay3 (rowX m c (bw 1 c 0)) (inR m c)) (k0_pay5 (rowI m c (bw 1 c 0))) (k0_pay6 (rowI m c (bw 1 c 0))) (iota .tc S512x32 32 [1] iota_S512x32_d1_w32) (k0_pay7 (rowX m c (bw 1 c 0)) (inR m c) (rowI m c (bw 1 c 0)))), (k0_pay13 (devW c) (k0_pay2 (rowX m c (bw 1 c 0))) (k0_pay3 (rowX m c (bw 1 c 0)) (inR m c)) (k0_pay5 (rowI m c (bw 1 c 0))) (k0_pay6 (rowI m c (bw 1 c 0))) (iota .tc S512x32 32 [1] iota_S512x32_d1_w32) (k0_pay7 (rowX m c (bw 1 c 0)) (inR m c) (rowI m c (bw 1 c 0)))), (k0_pay14 (devW c) (k0_pay2 (rowX m c (bw 1 c 0))) (k0_pay3 (rowX m c (bw 1 c 0)) (inR m c)) (k0_pay5 (rowI m c (bw 1 c 0))) (k0_pay6 (rowI m c (bw 1 c 0))) (iota .tc S512x32 32 [1] iota_S512x32_d1_w32) (k0_pay7 (rowX m c (bw 1 c 0)) (inR m c) (rowI m c (bw 1 c 0)))), (k0_pay15 (devW c) (k0_pay2 (rowX m c (bw 1 c 0))) (k0_pay3 (rowX m c (bw 1 c 0)) (inR m c)) (k0_pay5 (rowI m c (bw 1 c 0))) (k0_pay6 (rowI m c (bw 1 c 0))) (iota .tc S512x32 32 [1] iota_S512x32_d1_w32) (k0_pay7 (rowX m c (bw 1 c 0)) (inR m c) (rowI m c (bw 1 c 0)))), (k0_pay16 (devW c) (k0_pay2 (rowX m c (bw 1 c 0))) (k0_pay3 (rowX m c (bw 1 c 0)) (inR m c)) (k0_pay5 (rowI m c (bw 1 c 0))) (k0_pay6 (rowI m c (bw 1 c 0))) (iota .tc S512x32 32 [1] iota_S512x32_d1_w32) (k0_pay7 (rowX m c (bw 1 c 0)) (inR m c) (rowI m c (bw 1 c 0))))⟩) Q : sProp 𝕄) ⊢ WP c (k0_part2 xM (Memref.isWhole_whole _) rM (Memref.isWhole_whole _) iM (Memref.isWhole_whole _) wM (Memref.isWhole_whole _) oM (Memref.isWhole_whole _) cM (Memref.isWhole_whole _) lM (Memref.isWhole_whole _) cc0_scratch2 cc0_scratch3 cc0_scoped0 (devW c) (k0_pay2 (rowX m c (bw 1 c 0))) (k0_pay3 (rowX m c (bw 1 c 0)) (inR m c)) (k0_pay5 (rowI m c (bw 1 c 0))) (k0_pay6 (rowI m c (bw 1 c 0))) (iota .tc S512x32 32 [1] iota_S512x32_d1_w32) (k0_pay7 (rowX m c (bw 1 c 0)) (inR m c) (rowI m c (bw 1 c 0))) >>= k) Q := by
  simp only [k0_part2_eq_skeleton]; unfold k0_part2_skel
  simp only [Prog.bind_ret, Prog.pure_eq_ret]
  exact BI.Entails.refl _

theorem part9 {α : Type} {Q : α → sProp 𝕄} {v27 : BitVec 32} {k : _ → Prog (TpuEff nD τ sig (Elt F) Λ₀ .tc) α} :
    (WP c (k (k0_pay32 (devW c) (k0_pay26 (rowX m c (bw 1 c 1))) (k0_pay27 (rowX m c (bw 1 c 1)) (inR m c)) (k0_pay29 (rowI m c (bw 1 c 1))) (k0_pay30 (rowI m c (bw 1 c 1))) (iota .tc S512x32 32 [1] iota_S512x32_d1_w32) (k0_pay31 (rowX m c (bw 1 c 1)) (inR m c) (rowI m c (bw 1 c 1))))) Q : sProp 𝕄) ⊢ WP c (k0_part9 xM (Memref.isWhole_whole _) rM (Memref.isWhole_whole _) iM (Memref.isWhole_whole _) wM (Memref.isWhole_whole _) oM (Memref.isWhole_whole _) cM (Memref.isWhole_whole _) lM (Memref.isWhole_whole _) cc0_scratch2 cc0_scratch3 cc0_scoped0 (devW c) v27 (k0_pay26 (rowX m c (bw 1 c 1))) (k0_pay27 (rowX m c (bw 1 c 1)) (inR m c)) (k0_pay29 (rowI m c (bw 1 c 1))) (k0_pay30 (rowI m c (bw 1 c 1))) (iota .tc S512x32 32 [1] iota_S512x32_d1_w32) (k0_pay31 (rowX m c (bw 1 c 1)) (inR m c) (rowI m c (bw 1 c 1))) >>= k) Q := by
  simp only [k0_part9_eq_skeleton]; unfold k0_part9_skel
  simp only [Prog.bind_ret, Prog.pure_eq_ret]
  exact BI.Entails.refl _

/-! ## What a device starts with and what it ends with -/

/-- The rights device `c` starts with: to make and to await every transfer, and to say and to hear both handshakes. -/
def rights : sProp 𝕄 :=
  iprop((bigSep Finset.univ fun p : Fin 2 × Fin 9 => sendR c p.1 p.2) ∗ (bigSep Finset.univ fun p : Fin 2 × Fin 9 => recvR c p.1 p.2)
    ∗ (sigR c 0 ∗ barR c 0) ∗ (sigR c 1 ∗ barR c 1))
/-- The operand windows. -/
def operands : sProp 𝕄 :=
  iprop(((xM.view.loc (c : Thread nD τ)) ↦{fullShare} (inX m c)) ∗ ((rM.view.loc (c : Thread nD τ)) ↦{fullShare} (inR m c))
    ∗ ((iM.view.loc (c : Thread nD τ)) ↦{fullShare} (inI m c)) ∗ ((wM.view.loc (c : Thread nD τ)) ↦{fullShare} (inW m c)))
/-- All the semaphores of the protocol at rest. -/
def rest : sProp 𝕄 :=
  iprop(semVal (cell c barS) 0 ∗ semVal (cell c endS) 0
    ∗ (bigSep Finset.univ fun p : Fin 2 × Fin 9 => semVal (cell c (sS p.1 p.2)) 0) ∗ (bigSep Finset.univ fun p : Fin 2 × Fin 9 => semVal (cell c (vS p.1 p.2)) 0))
def bodyPre : sProp 𝕄 :=
  iprop(rights c ∗ Ow c 0 ∗ operands m c ∗ any c oM ∗ any c cM ∗ any c lM)
def bodyPost : sProp 𝕄 :=
  iprop(rest c ∗ Ow c 22 ∗ operands m c ∗ own c oM (outV m) ∗ any c cM ∗ any c lM)

omit [FloatOps F] in
theorem eighteen (Φ : Fin 2 × Fin 9 → sProp 𝕄) : bigSep Finset.univ Φ = iprop(Φ (0, 0) ∗ Φ (0, 1) ∗ Φ (0, 2) ∗ Φ (0, 3) ∗ Φ (0, 4) ∗ Φ (0, 5) ∗ Φ (0, 6) ∗ Φ (0, 7) ∗ Φ (0, 8) ∗ Φ (1, 0) ∗ Φ (1, 1) ∗ Φ (1, 2) ∗ Φ (1, 3) ∗ Φ (1, 4) ∗ Φ (1, 5) ∗ Φ (1, 6) ∗ Φ (1, 7) ∗ Φ (1, 8)) :=
  bigSep_univ_eq_bigSepL [((0 : Fin 2), (0 : Fin 9)), ((0 : Fin 2), (1 : Fin 9)), ((0 : Fin 2), (2 : Fin 9)), ((0 : Fin 2), (3 : Fin 9)), ((0 : Fin 2), (4 : Fin 9)), ((0 : Fin 2), (5 : Fin 9)), ((0 : Fin 2), (6 : Fin 9)), ((0 : Fin 2), (7 : Fin 9)), ((0 : Fin 2), (8 : Fin 9)), ((1 : Fin 2), (0 : Fin 9)), ((1 : Fin 2), (1 : Fin 9)), ((1 : Fin 2), (2 : Fin 9)), ((1 : Fin 2), (3 : Fin 9)), ((1 : Fin 2), (4 : Fin 9)), ((1 : Fin 2), (5 : Fin 9)), ((1 : Fin 2), (6 : Fin 9)), ((1 : Fin 2), (7 : Fin 9)), ((1 : Fin 2), (8 : Fin 9))] (by decide) (by decide) Φ

theorem returns {Q : PUnit → sProp 𝕄} : Q ⟨⟩ ⊢ WP c (Prog.ret (E := TpuEff nD τ sig (Elt F) Λ₀ .tc) ⟨⟩) Q := by
  unfold WP; rw [wp_ret]; iintro H; imodintro; iexact H

theorem body (Q : PUnit → sProp 𝕄) : iprop(recs m K ∗ bodyPre m c)
    ⊢ iprop((bodyPost m c -∗ Q ⟨⟩) -∗ WP c (cc0_body xM (Memref.isWhole_whole _) rM (Memref.isWhole_whole _) iM (Memref.isWhole_whole _) wM (Memref.isWhole_whole _) oM (Memref.isWhole_whole _) cM (Memref.isWhole_whole _) lM (Memref.isWhole_whole _) cc0_scratch2 cc0_scratch3 cc0_scoped0) Q) := by
  rw [cc0_body_eq_skeleton]; unfold cc0_body_skel
  rw [Prog.bind_pure, k0_part32_eq_skeleton]; unfold k0_part32_skel
  unfold bodyPre rights operands sigR
  rw [eighteen, eighteen]
  iintro ⟨#HR, ⟨⟨T00, T01, T02, T03, T04, T05, T06, T07, T08, T10, T11, T12, T13, T14, T15, T16, T17, T18⟩, ⟨V00, V01, V02, V03, V04, V05, V06, V07, V08, V10, V11, V12, V13, V14, V15, V16, V17, V18⟩, ⟨⟨tb0, tb1⟩, BR⟩, ⟨te0, te1⟩, ER_⟩, HO, ⟨HX, HRt, HI, HW⟩, ⟨%XO, Hout⟩, ⟨%XC, Hcat⟩, %XL, Hland⟩ Hk
  ihave Hout := (out_start c XO) $$ Hout
  icases Hout with ⟨⟨O00, O01, O02, O03⟩, O10, O11, O12, O13⟩
  ihave Hcat := (cat_split c XC) $$ Hcat
  icases Hcat with ⟨X0, X1, X2, X3⟩
  ihave Hland := (land_split c XL) $$ Hland
  icases Hland with ⟨Sl0, Sl1⟩
  iapply (part1 m c K) $$ [HW HX HRt HI]
  · isplitr; · iexact HR
    isplitl [HW]; · iexact HW
    isplitl [HX]; · iexact HX
    isplitl [HRt]; · iexact HRt
    iexact HI
  iintro ⟨HW, HX, HRt, HI⟩
  try dsimp only
  iapply (part2 m c)
  try dsimp only
  iapply (part3 m c K) $$ [X0 O00 HO tb0 Sl0 tb1 Sl1 BR]
  · isplitr; · iexact HR
    isplitl [X0]; · iexact X0
    isplitl [O00]; · iexact O00
    isplitl [HO]; · iexact HO
    isplitl [tb0]; · iexact tb0
    isplitl [Sl0]; · iexact Sl0
    isplitl [tb1]; · iexact tb1
    isplitl [Sl1]; · iexact Sl1
    iexact BR
  iintro ⟨X0, O00, HO, ZB, B00, B01, B02, B10, B11, B12⟩
  try dsimp only
  iapply (part4 m c K) $$ [HO T00 O00 B00 X0 O10 T10 B10 HX HRt]
  · isplitr; · iexact HR
    isplitl [HO]; · iexact HO
    isplitl [T00]; · iexact T00
    isplitl [O00]; · iexact O00
    isplitl [B00]; · iexact B00
    isplitl [X0]; · iexact X0
    isplitl [O10]; · iexact O10
    isplitl [T10]; · iexact T10
    isplitl [B10]; · iexact B10
    isplitl [HX]; · iexact HX
    iexact HRt
  iintro ⟨HO, T00, X0, T10, HX, HRt⟩
  try dsimp only
  iapply (part5 m c K) $$ [HI]
  · isplitr; · iexact HR
    iexact HI
  iintro HI
  try dsimp only
  iapply (part6 m c K) $$ [X3 O01]
  · isplitr; · iexact HR
    isplitl [X3]; · iexact X3
    iexact O01
  iintro ⟨X3, O01⟩
  try dsimp only
  iapply (part7 m c K) $$ [HO T00 V00 O01]
  · isplitr; · iexact HR
    isplitl [HO]; · iexact HO
    isplitl [T00]; · iexact T00
    isplitl [V00]; · iexact V00
    iexact O01
  iintro ⟨HO, ZS00, ZV00, L00, S01, O01⟩
  try dsimp only
  iapply (part8 m c K) $$ [HO T01 O01 B01 S01 HX HRt HI]
  · isplitr; · iexact HR
    isplitl [HO]; · iexact HO
    isplitl [T01]; · iexact T01
    isplitl [O01]; · iexact O01
    isplitl [B01]; · iexact B01
    isplitl [S01]; · iexact S01
    isplitl [HX]; · iexact HX
    isplitl [HRt]; · iexact HRt
    iexact HI
  iintro ⟨HO, T01, HX, HRt, HI⟩
  try dsimp only
  iapply (part9 m c)
  try dsimp only
  iapply (part10 m c K) $$ [X1 O11 HO T10 V10]
  · isplitr; · iexact HR
    isplitl [X1]; · iexact X1
    isplitl [O11]; · iexact O11
    isplitl [HO]; · iexact HO
    isplitl [T10]; · iexact T10
    iexact V10
  iintro ⟨X1, O11, HO, ZS10, ZV10, L10, S11⟩
  try dsimp only
  iapply (part11 m c K) $$ [O11 L10 HO T11 B11 S11 HX HRt]
  · isplitr; · iexact HR
    isplitl [O11]; · iexact O11
    isplitl [L10]; · iexact L10
    isplitl [HO]; · iexact HO
    isplitl [T11]; · iexact T11
    isplitl [B11]; · iexact B11
    isplitl [S11]; · iexact S11
    isplitl [HX]; · iexact HX
    iexact HRt
  iintro ⟨L10, HO, T11, HX, HRt⟩
  try dsimp only
  iapply (part12 m c K) $$ [HI]
  · isplitr; · iexact HR
    iexact HI
  iintro HI
  try dsimp only
  iapply (part13 m c K) $$ [X2 O02]
  · isplitr; · iexact HR
    isplitl [X2]; · iexact X2
    iexact O02
  iintro ⟨X2, O02⟩
  try dsimp only
  iapply (part14 m c K) $$ [HO T01 V01 O02]
  · isplitr; · iexact HR
    isplitl [HO]; · iexact HO
    isplitl [T01]; · iexact T01
    isplitl [V01]; · iexact V01
    iexact O02
  iintro ⟨HO, ZS01, ZV01, L01, S02, O02⟩
  try dsimp only
  iapply (part15 m c K) $$ [HO T02 O02 B02 S02 X2 O12 T11]
  · isplitr; · iexact HR
    isplitl [HO]; · iexact HO
    isplitl [T02]; · iexact T02
    isplitl [O02]; · iexact O02
    isplitl [B02]; · iexact B02
    isplitl [S02]; · iexact S02
    isplitl [X2]; · iexact X2
    isplitl [O12]; · iexact O12
    iexact T11
  iintro ⟨HO, T02, X2, O12, ZS11⟩
  try dsimp only
  iapply (part16 m c K) $$ [HO V11 O12 T12 B12]
  · isplitr; · iexact HR
    isplitl [HO]; · iexact HO
    isplitl [V11]; · iexact V11
    isplitl [O12]; · iexact O12
    isplitl [T12]; · iexact T12
    iexact B12
  iintro ⟨HO, ZV11, L11, T12⟩
  try dsimp only
  iapply (part17 m c K) $$ [X1 O03 HO T02 V02]
  · isplitr; · iexact HR
    isplitl [X1]; · iexact X1
    isplitl [O03]; · iexact O03
    isplitl [HO]; · iexact HO
    isplitl [T02]; · iexact T02
    iexact V02
  iintro ⟨X1, O03, HO, ZS02, ZV02, L02, S03⟩
  try dsimp only
  iapply (part18 m c K) $$ [O03 S03 HO T03 T04]
  · isplitr; · iexact HR
    isplitl [O03]; · iexact O03
    isplitl [S03]; · iexact S03
    isplitl [HO]; · iexact HO
    isplitl [T03]; · iexact T03
    iexact T04
  iintro ⟨HO, T03, T04⟩
  try dsimp only
  iapply (part19 m c K) $$ [X3 O13 HO T12 V12]
  · isplitr; · iexact HR
    isplitl [X3]; · iexact X3
    isplitl [O13]; · iexact O13
    isplitl [HO]; · iexact HO
    isplitl [T12]; · iexact T12
    iexact V12
  iintro ⟨X3, O13, HO, ZS12, ZV12, L12, S13⟩
  try dsimp only
  iapply (part20 m c K) $$ [O13 L12 S13 HO T13]
  · isplitr; · iexact HR
    isplitl [O13]; · iexact O13
    isplitl [L12]; · iexact L12
    isplitl [S13]; · iexact S13
    isplitl [HO]; · iexact HO
    iexact T13
  iintro ⟨L12, D131, G131, HO, T13⟩
  try dsimp only
  iapply (part21 m c K) $$ [HO T14 D131 G131 V03]
  · isplitr; · iexact HR
    isplitl [HO]; · iexact HO
    isplitl [T14]; · iexact T14
    isplitl [D131]; · iexact D131
    isplitl [G131]; · iexact G131
    iexact V03
  iintro ⟨HO, T14, ZV03, D000, G000⟩
  try dsimp only
  iapply (part22 m c K) $$ [HO T05 D000 G000 V13 T15]
  · isplitr; · iexact HR
    isplitl [HO]; · iexact HO
    isplitl [T05]; · iexact T05
    isplitl [D000]; · iexact D000
    isplitl [G000]; · iexact G000
    isplitl [V13]; · iexact V13
    iexact T15
  iintro ⟨HO, T05, ZV13, T15⟩
  try dsimp only
  iapply (part23 m c K) $$ [HO V04 T06]
  · isplitr; · iexact HR
    isplitl [HO]; · iexact HO
    isplitl [V04]; · iexact V04
    iexact T06
  iintro ⟨HO, ZV04, T06⟩
  try dsimp only
  iapply (part24 m c K) $$ [HO V14 T16]
  · isplitr; · iexact HR
    isplitl [HO]; · iexact HO
    isplitl [V14]; · iexact V14
    iexact T16
  iintro ⟨HO, ZV14, T16⟩
  try dsimp only
  iapply (part25 m c K) $$ [HO V05 T07 V15]
  · isplitr; · iexact HR
    isplitl [HO]; · iexact HO
    isplitl [V05]; · iexact V05
    isplitl [T07]; · iexact T07
    iexact V15
  iintro ⟨HO, ZV05, T07, ZV15, D110, G110⟩
  try dsimp only
  iapply (part26 m c K) $$ [HO T17 D110 G110 V06]
  · isplitr; · iexact HR
    isplitl [HO]; · iexact HO
    isplitl [T17]; · iexact T17
    isplitl [D110]; · iexact D110
    isplitl [G110]; · iexact G110
    iexact V06
  iintro ⟨HO, T17, ZV06, D011, G011⟩
  try dsimp only
  iapply (part27 m c K) $$ [HO T08 D011 G011 V16]
  · isplitr; · iexact HR
    isplitl [HO]; · iexact HO
    isplitl [T08]; · iexact T08
    isplitl [D011]; · iexact D011
    isplitl [G011]; · iexact G011
    iexact V16
  iintro ⟨HO, T08, ZV16, D111, G111⟩
  try dsimp only
  iapply (part28 m c K) $$ [HO T18 D111 G111 V07]
  · isplitr; · iexact HR
    isplitl [HO]; · iexact HO
    isplitl [T18]; · iexact T18
    isplitl [D111]; · iexact D111
    isplitl [G111]; · iexact G111
    iexact V07
  iintro ⟨HO, T18, ZV07, D020, G020⟩
  try dsimp only
  iapply (part29 m c K) $$ [HO V17 V08 V18]
  · isplitr; · iexact HR
    isplitl [HO]; · iexact HO
    isplitl [V17]; · iexact V17
    isplitl [V08]; · iexact V08
    iexact V18
  iintro ⟨HO, ZV17, D120, G120, ZV08, D021, G021, ZV18, D121, G121⟩
  try dsimp only
  iapply (part30 m c K) $$ [HO T03 T04 T13 T14 T05]
  · isplitr; · iexact HR
    isplitl [HO]; · iexact HO
    isplitl [T03]; · iexact T03
    isplitl [T04]; · iexact T04
    isplitl [T13]; · iexact T13
    isplitl [T14]; · iexact T14
    iexact T05
  iintro ⟨HO, ZS03, D030, ZS04, D031, ZS13, D130, ZS14, D131, ZS05, D000⟩
  try dsimp only
  iapply (part31 m c K) $$ [HO T15 T06 T16 T07 T17]
  · isplitr; · iexact HR
    isplitl [HO]; · iexact HO
    isplitl [T15]; · iexact T15
    isplitl [T06]; · iexact T06
    isplitl [T16]; · iexact T16
    isplitl [T07]; · iexact T07
    iexact T17
  iintro ⟨HO, ZS15, D100, ZS06, D001, ZS16, D101, ZS07, D010, ZS17, D110⟩
  try dsimp only
  simp only [semSignalWord, semWaitWord, Prog.lift, Prog.bind_op, Prog.bind_ret, Prog.pure_eq_ret]
  iapply (left_ag m c K 0 1 2 8 rfl 20 (by decide) (bw 0 c 1) (bw_5 c 0)) $$ [T08 HO]
  · isplitr; · iexact HR
    isplitl [T08]; · iexact T08
    iexact HO
  iintro ⟨ZS08, D011, HO⟩
  iapply (left_ag m c K 1 1 2 8 rfl 20 (by decide) (bw 1 c 1) (bw_5 c 1)) $$ [T18 HO]
  · isplitr; · iexact HR
    isplitl [T18]; · iexact T18
    iexact HO
  iintro ⟨ZS18, D111, HO⟩
  iapply (say_end m c K 1 0 20 rfl (dev21_at c)) $$ [te0 HO]
  · isplitr; · iexact HR
    isplitl [te0]; · iexact te0
    iexact HO
  iintro HO
  iapply (say_end m c K 0 1 21 rfl (dev22_at c)) $$ [te1 HO]
  · isplitr; · iexact HR
    isplitl [te1]; · iexact te1
    iexact HO
  iintro HO
  iapply (hear_end m c K 22 (by decide)) $$ [ER_ HO]
  · isplitr; · iexact HR
    isplitl [ER_]; · iexact ER_
    iexact HO
  iintro ⟨ZE, HO⟩
  iapply (returns c)
  iapply Hk; unfold bodyPost rest operands; rw [eighteen, eighteen]
  isplitl [ZB ZE ZS00 ZV00 ZS01 ZV01 ZS02 ZV02 ZS03 ZV03 ZS04 ZV04 ZS05 ZV05 ZS06 ZV06 ZS07 ZV07 ZS08 ZV08 ZS10 ZV10 ZS11 ZV11 ZS12 ZV12 ZS13 ZV13 ZS14 ZV14 ZS15 ZV15 ZS16 ZV16 ZS17 ZV17 ZS18 ZV18]
  · isplitl [ZB]; · iexact ZB
    isplitl [ZE]; · iexact ZE
    isplitl [ZS00 ZS01 ZS02 ZS03 ZS04 ZS05 ZS06 ZS07 ZS08 ZS10 ZS11 ZS12 ZS13 ZS14 ZS15 ZS16 ZS17 ZS18]
    · isplitl [ZS00]; · iexact ZS00
      isplitl [ZS01]; · iexact ZS01
      isplitl [ZS02]; · iexact ZS02
      isplitl [ZS03]; · iexact ZS03
      isplitl [ZS04]; · iexact ZS04
      isplitl [ZS05]; · iexact ZS05
      isplitl [ZS06]; · iexact ZS06
      isplitl [ZS07]; · iexact ZS07
      isplitl [ZS08]; · iexact ZS08
      isplitl [ZS10]; · iexact ZS10
      isplitl [ZS11]; · iexact ZS11
      isplitl [ZS12]; · iexact ZS12
      isplitl [ZS13]; · iexact ZS13
      isplitl [ZS14]; · iexact ZS14
      isplitl [ZS15]; · iexact ZS15
      isplitl [ZS16]; · iexact ZS16
      isplitl [ZS17]; · iexact ZS17
      iexact ZS18
    isplitl [ZV00]; · iexact ZV00
    isplitl [ZV01]; · iexact ZV01
    isplitl [ZV02]; · iexact ZV02
    isplitl [ZV03]; · iexact ZV03
    isplitl [ZV04]; · iexact ZV04
    isplitl [ZV05]; · iexact ZV05
    isplitl [ZV06]; · iexact ZV06
    isplitl [ZV07]; · iexact ZV07
    isplitl [ZV08]; · iexact ZV08
    isplitl [ZV10]; · iexact ZV10
    isplitl [ZV11]; · iexact ZV11
    isplitl [ZV12]; · iexact ZV12
    isplitl [ZV13]; · iexact ZV13
    isplitl [ZV14]; · iexact ZV14
    isplitl [ZV15]; · iexact ZV15
    isplitl [ZV16]; · iexact ZV16
    isplitl [ZV17]; · iexact ZV17
    iexact ZV18
  isplitl [HO]; · iexact HO
  isplitl [HX HRt HI HW]
  · isplitl [HX]; · iexact HX
    isplitl [HRt]; · iexact HRt
    isplitl [HI] <;> iassumption
  isplitl [D000 D001 D010 D011 D020 D021 D030 D031 D100 D101 D110 D111 D120 D121 D130 D131]
  · iapply (out_end m c); unfold dones
    isplitl [D000 D001 D010 D011 D020 D021 D030 D031]
    · isplitl [D000 D001]; · isplitl [D000] <;> iassumption
      isplitl [D010 D011]; · isplitl [D010] <;> iassumption
      isplitl [D020 D021]; · isplitl [D020] <;> iassumption
      isplitl [D030] <;> iassumption
    isplitl [D100 D101]; · isplitl [D100] <;> iassumption
    isplitl [D110 D111]; · isplitl [D110] <;> iassumption
    isplitl [D120 D121]; · isplitl [D120] <;> iassumption
    isplitl [D130] <;> iassumption
  isplitl [X0 X1 X2 X3]
  · iapply (cat_join c)
    isplitl [X0]; · iexists _; iexact X0
    isplitl [X1]; · iexists _; iexact X1
    isplitl [X2]; · iexists _; iexact X2
    iexists _; iexact X3
  iapply (land_join c); unfold slots
  isplitl [L00 L01 L02]
  · isplitl [L00]; · iexact L00
    isplitl [L01] <;> iassumption
  isplitl [L10]; · iexact L10
  isplitl [L11] <;> iassumption
end Cert.KernelIdeal.Moe

end
-- ==== Proof.Ghost.lean ====
/-
# The ghost state of the launch

The cells and tokens the launch mints, the invariants it allocates, the tokens dealt to the devices that pay with them, and
the credits for what is owed.
-/
module

public import proofs.«01_k».proof.Proof.Body
public import proofs.«01_k».proof.Proof.Gen.KernelIdeal.Launch
public import Idealize.ShloMosaic.Lib.Pipeline.Launch
public import Idealize.ShloMosaic.Lib.Pipeline.Kit

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Cells and tokens as minted -/

theorem ksem_injective : Function.Injective ksem := by decide +kernel
abbrev kcell (p : Dev nD × Ci) : GSem nD τ sig := cell p.1 (ksem p.2)
theorem kcell_injective : Function.Injective kcell := by
  rintro ⟨c, i⟩ ⟨c', i'⟩ h
  have h1 : c = c' := congrArg (fun g : GSem nD τ sig => g.1.1) h
  have h2 : i = i' := ksem_injective (congrArg Prod.snd h)
  rw [h1, h2]
def moeCells : Finset (GSem nD τ sig) := Finset.univ.map ⟨kcell, kcell_injective⟩

/-- The duties of a device's own cells: two on each regular semaphore, one on each of the others. -/
abbrev Ti := (Fin 2 × Fin 2) ⊕ (Fin 2 × Fin 2 × Fin 9)
def tsem : Ti → SemLoc sig × Fin 2
  | .inl (b, d) => (ksem (.inl b), d)
  | .inr x => (ksem (.inr x), 0)
theorem tsem_injective : Function.Injective tsem := by decide +kernel
abbrev tokOf (p : Dev nD × Ti) : GSem nD τ sig × ℕ × Fin 2 := (cell p.1 (tsem p.2).1, 0, (tsem p.2).2)
theorem tokOf_injective : Function.Injective tokOf := by
  rintro ⟨c, i⟩ ⟨c', i'⟩ h
  have h1 : c = c' := congrArg (fun x : GSem nD τ sig × ℕ × Fin 2 => x.1.1.1) h
  have h2 : i = i' := tsem_injective (Prod.ext (congrArg (fun x : GSem nD τ sig × ℕ × Fin 2 => x.1.2) h) (congrArg (fun x : GSem nD τ sig × ℕ × Fin 2 => x.2.2) h))
  rw [h1, h2]
def moeToks : Finset (GSem nD τ sig × ℕ × Fin 2) := Finset.univ.map ⟨tokOf, tokOf_injective⟩

/-- The launch's ghost state: the pipeline's and the protocol's. -/
def u₀ : UU := (initOf (Pipeline.cells cfgs cellOf_inj) (Pipeline.launchToks cfgs cellOf_inj), initOf moeCells moeToks)

/-- The semaphores the kernel allocates for itself: all of the protocol's but the entry semaphore. -/
abbrev Oi := Unit ⊕ (Fin 2 × Fin 2 × Fin 9)
def osem : Oi → SemLoc sig
  | .inl _ => endS
  | .inr x => ksem (.inr x)
theorem ownSemFacts : Pipeline.OwnSemFacts cfg0.spec osem := by decide +kernel

/-! ## Funding -/

/-- The duty tokens of device `c`'s own cells. -/
def toks (c : Dev nD) : sProp 𝕄 :=
  bigSep Finset.univ fun t : Ti => dutyTok ER (cell c (tsem t).1) 0 (tsem t).2
/-- What the launch deals device `c`. -/
def G (c : Dev nD) : sProp 𝕄 :=
  iprop((bigSep Finset.univ fun i : Ci => roundState ER (moeRd (F := F) m) (cell c (ksem i)) 0)
    ∗ (bigSep Finset.univ fun i : Ci => iprop(atPos ER (cell c (ksem i)) 0 ∅ 0 ∗ reached ER (cell c (ksem i)) 0)) ∗ toks c)

theorem fund_moe : BI.own (ER (initOf moeCells moeToks)) ⊢ (|==> bigSep Finset.univ (G m) : sProp 𝕄) := by
  have hX (Φ : GSem nD τ sig → sProp 𝕄) : bigSep moeCells Φ = bigSep Finset.univ fun c : Dev nD => bigSep Finset.univ fun i : Ci => Φ (cell c (ksem i)) := by
    unfold moeCells; rw [bigSep_map, bigSep_univ_prod]; rfl
  have hT : bigSep moeToks (fun x => (dutyTok ER x.1 x.2.1 x.2.2 : sProp 𝕄)) = bigSep Finset.univ fun c : Dev nD => toks c := by
    unfold moeToks; rw [bigSep_map, bigSep_univ_prod]; rfl
  iintro HX
  imod (Rounds.fund ER (moeRd (F := F) m) moeCells moeToks) $$ HX with ⟨Hst, Hr, Hat, Htok⟩
  imodintro
  ihave Hst := (Entails.of_eq (hX fun g => roundState ER (moeRd (F := F) m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

abbrev ownS (c : Dev nD) : sProp 𝕄 := Pipeline.ownSems0 (Ix := Unit) (Name := ℕ) (U := UU) (Lvl := ℕ) (Val := Elt F) (τ := τ) osem c

omit [FloatOps F] in
/-- The entry semaphore is the only one that outlives the kernel. -/
theorem unscoped_eq (c : Dev nD) : (unscopedSems0 c : sProp 𝕄) = semVal (cell c barS) 0 := by
  unfold unscopedSems0; rw [bigSep_eq_bigSepL_of_eq [barS] (by decide +kernel) (by decide)]; rfl
omit [FloatOps F] in
theorem own_eq (c : Dev nD) : (ownS c : sProp 𝕄) = iprop(semVal (cell c endS) 0 ∗ bigSep Finset.univ fun x : Fin 2 × Fin 2 × Fin 9 => semVal (cell c (ksem (.inr x))) 0) := by
  unfold ownS Pipeline.ownSems0
  rw [bigSep_univ_sum, bigSep_univ_eq_bigSepL [()] (by decide) (by decide)]; rfl
omit [FloatOps F] in
theorem two (Φ : Fin 2 → sProp 𝕄) : bigSep Finset.univ Φ = iprop(Φ 0 ∗ Φ 1) := bigSep_univ_eq_bigSepL [0, 1] (by decide) (by decide) Φ
omit [FloatOps F] in
/-- Any family over the protocol's semaphores, by kind. -/
theorem kinds (Φ : Ci → sProp 𝕄) : bigSep Finset.univ Φ
    = iprop((Φ (.inl 0) ∗ Φ (.inl 1)) ∗ (bigSep Finset.univ fun p : Fin 2 × Fin 9 => Φ (.inr (0, p))) ∗ (bigSep Finset.univ fun p : Fin 2 × Fin 9 => Φ (.inr (1, p)))) := by
  rw [bigSep_univ_sum, two, bigSep_univ_prod, two]; rfl
omit [FloatOps F] in
theorem own_rest (c : Dev nD) : (rest c : sProp 𝕄) = iprop(unscopedSems0 c ∗ ownS c) := by
  rw [unscoped_eq, own_eq, bigSep_univ_prod, two]; rfl
omit [FloatOps F] in
theorem sems_eq (c : Dev nD) : iprop(ownS c ∗ unscopedSems0 c) ⊢ (bigSep Finset.univ fun i : Ci => semVal (cell c (ksem i)) 0 : sProp 𝕄) := by
  rw [unscoped_eq, own_eq, kinds, bigSep_univ_prod, two]
  iintro ⟨⟨A, B, C⟩, D⟩
  isplitl [A D]
  · isplitl [D]; · iexact D
    iexact A
  isplitl [B]; · iexact B
  iexact C

theorem core_alloc (c : Dev nD) : iprop(ownS c ∗ unscopedSems0 c ∗ G m c)
    ⊢ |={Set.univ}=> iprop((bigSep Finset.univ fun i : Ci => iprop(∃ κ : ℕ, cellInv ER (moeRd (F := F) m) κ (cell c (ksem i))))
        ∗ (bigSep Finset.univ fun i : Ci => iprop(atPos ER (cell c (ksem i)) 0 ∅ 0 ∗ reached ER (cell c (ksem i)) 0)) ∗ toks c) := by
  unfold G
  iintro ⟨Hos, Hus, Hst, Hat, Htok⟩
  ihave Hv := (sems_eq (F := F) c) $$ [Hos Hus]
  · isplitl [Hos] <;> iassumption
  imod (show iprop((bigSep Finset.univ fun i : Ci => semVal (cell c (ksem i)) 0) ∗ bigSep Finset.univ fun i : Ci => roundState ER (moeRd (F := F) m) (cell c (ksem i)) 0)
      ⊢ (|={Set.univ}=> bigSep Finset.univ fun i : Ci => iprop(∃ κ : ℕ, cellInv ER (moeRd (F := F) m) κ (cell c (ksem i))) : sProp 𝕄) from by
        rw [← bigSep_sep']
        exact (bigSep_mono fun i _ => (Rounds.body_intro ER (moeRd (F := F) m) (cell c (ksem i))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt round the rings -/

/-- The tokens of the duties device `c` pays. -/
def payToks (c : Dev nD) : sProp 𝕄 :=
  iprop((bigSep Finset.univ fun b : Fin 2 => iprop(dutyTok ER (cell (fw 1 c 1) (.reg b)) 0 (0 : Fin 2) ∗ dutyTok ER (cell (fw 0 c 1) (.reg b)) 0 (1 : Fin 2)))
    ∗ (bigSep Finset.univ fun p : Fin 2 × Fin 9 => dutyTok ER (cell c (sS p.1 p.2)) 0 (0 : Fin 2))
    ∗ (bigSep Finset.univ fun p : Fin 2 × Fin 9 => dutyTok ER (cell (fw p.1 c 1) (vS p.1 p.2)) 0 (0 : Fin 2)))
/-- A device's positions and the tokens it pays with. -/
def linear (c : Dev nD) : sProp 𝕄 := iprop((bigSep Finset.univ fun i : Ci => atPos ER (cell c (ksem i)) 0 ∅ 0) ∗ payToks c)

omit [FloatOps F] in
theorem toks_eq (c : Dev nD) : (toks c : sProp 𝕄) =
  iprop((bigSep Finset.univ fun b : Fin 2 => iprop(dutyTok ER (cell c (.reg b)) 0 (0 : Fin 2) ∗ dutyTok ER (cell c (.reg b)) 0 (1 : Fin 2)))
    ∗ (bigSep Finset.univ fun p : Fin 2 × Fin 9 => dutyTok ER (cell c (sS p.1 p.2)) 0 (0 : Fin 2))
    ∗ (bigSep Finset.univ fun p : Fin 2 × Fin 9 => dutyTok ER (cell c (vS p.1 p.2)) 0 (0 : Fin 2))) := by
  unfold toks
  rw [bigSep_univ_sum, bigSep_univ_prod, bigSep_univ_prod, two (fun a : Fin 2 => bigSep Finset.univ fun b : Fin 2 × Fin 9 => _)]
  simp only [two]
  rfl

omit [FloatOps F] in
/-- A family over the devices may be read from the neighbours instead. -/
theorem around {I : Type} [Fintype I] (f : I → (Dev nD ≃ Dev nD)) (Φ : I → Dev nD → sProp 𝕄) :
    (bigSep Finset.univ fun c : Dev nD => bigSep Finset.univ fun i : I => Φ i c) = bigSep Finset.univ fun c : Dev nD => bigSep Finset.univ fun i : I => Φ i (f i c) := by
  rw [bigSep_univ_comm, bigSep_univ_comm (fun (c : Dev nD) (i : I) => Φ i (f i c))]
  exact bigSep_congr fun i _ => bigSep_univ_equiv (f i) (Φ i)

omit [FloatOps F] in
theorem toks_around : (bigSep Finset.univ fun c : Dev nD => (toks c : sProp 𝕄)) = bigSep Finset.univ fun c : Dev nD => payToks c := by
  unfold payToks
  simp only [toks_eq, bigSep_sep']
  rw [around (fun _ => turn 1) (fun (b : Fin 2) c => (dutyTok ER (cell c (.reg b)) 0 (0 : Fin 2) : sProp 𝕄)),
    around (fun _ => turn 0) (fun (b : Fin 2) c => (dutyTok ER (cell c (.reg b)) 0 (1 : Fin 2) : sProp 𝕄)),
    around (fun p => turn p.1) (fun (p : Fin 2 × Fin 9) c => (dutyTok ER (cell c (vS p.1 p.2)) 0 (0 : Fin 2) : sProp 𝕄))]
  rfl

/-! ## The launch's global step -/

/-- Every cell's invariant, and that its round 0 is reached. -/
def cells (K : Dev nD × Ci → ℕ) : sProp 𝕄 :=
  bigSep Finset.univ fun p : Dev nD × Ci => iprop(cellInv ER (moeRd (F := F) m) (K p) (cell p.1 (ksem p.2)) ∗ reached ER (cell p.1 (ksem p.2)) 0)
instance cells_persistent (K : Dev nD × Ci → ℕ) : BI.Persistent (cells (F := F) m K) := by unfold cells; infer_instance

def G' (c : Dev nD) : sProp 𝕄 := iprop(∃ K, cells m K ∗ linear c)

theorem regroup :
    (bigSep Finset.univ fun c : Dev nD => iprop((bigSep Finset.univ fun i : Ci => iprop(∃ κ : ℕ, cellInv ER (moeRd (F := F) m) κ (cell c (ksem i))))
        ∗ (bigSep Finset.univ fun i : Ci => iprop(atPos ER (cell c (ksem i)) 0 ∅ 0 ∗ reached ER (cell c (ksem i)) 0)) ∗ toks c) : sProp 𝕄)
      ⊢ bigSep Finset.univ (G' m) := by
  rw [bigSep_sep', bigSep_sep', ← bigSep_univ_prod (fun p : Dev nD × Ci => iprop(∃ κ : ℕ, cellInv ER (moeRd (F := F) m) κ (cell p.1 (ksem p.2)))),
    bigSep_congr (s := Finset.univ) (fun (c : Dev nD) _ => bigSep_sep' Finset.univ (fun i : Ci => (atPos ER (cell c (ksem i)) 0 ∅ 0 : sProp 𝕄)) (fun i => reached ER (cell c (ksem i)) 0)),
    bigSep_sep', ← bigSep_univ_prod (fun p : Dev nD × Ci => (reached ER (cell p.1 (ksem p.2)) 0 : sProp 𝕄)), toks_around]
  iintro ⟨HI, ⟨Hat, HR⟩, Htok⟩
  ihave HK := (BI.bigSep_exists_pi Finset.univ (fun (p : Dev nD × Ci) (κ : ℕ) => (cellInv ER (moeRd (F := F) m) κ (cell p.1 (ksem p.2)) : sProp 𝕄))) $$ HI
  icases HK with ⟨%K, HI⟩
  ihave #HC := (show iprop((bigSep Finset.univ fun p : Dev nD × Ci => cellInv ER (moeRd (F := F) m) (K p) (cell p.1 (ksem p.2))) ∗ bigSep Finset.univ fun p : Dev nD × Ci => reached ER (cell p.1 (ksem p.2)) 0)
      ⊢ cells m K from by unfold cells; rw [bigSep_sep']) $$ [HI HR]
  · isplitl [HI] <;> iassumption
  ihave HL := (show iprop((bigSep Finset.univ fun c : Dev nD => bigSep Finset.univ fun i : Ci => atPos ER (cell c (ksem i)) 0 ∅ 0) ∗ bigSep Finset.univ fun c : Dev nD => payToks c)
      ⊢ bigSep Finset.univ fun c : Dev nD => (linear c : sProp 𝕄) from by unfold linear; rw [bigSep_sep']) $$ [Hat Htok]
  · isplitl [Hat] <;> iassumption
  iapply (show iprop(cells m K ∗ bigSep Finset.univ fun c : Dev nD => linear c) ⊢ bigSep Finset.univ (G' m) from
    (sep_mono_left (BI.bigSep_of_persistent Finset.univ (cells m K))).trans (by
      rw [← bigSep_sep']
      refine bigSep_mono fun c _ => ?_
      change BIBase.Entails (PROP := sProp 𝕄) _ _
      unfold G'
      iintro ⟨A, B⟩
      iexists K
      isplitl [A] <;> iassumption))
  isplitr; · iexact HC
  iexact HL

theorem glob : (bigSep Finset.univ fun c => iprop(ownS c ∗ unscopedSems0 c ∗ G m c) : sProp 𝕄) ⊢ |={Set.univ}=> bigSep Finset.univ (G' m) :=
  ((bigSep_mono fun c _ => core_alloc m c).trans (bigSep_fupd _ _)).trans (BI.fupd_mono (regroup m))

/-! ## The launch credit -/

/-- The credits device `c` gets for what the others owe it, payment by payment. -/
def credits (c : Dev nD) : List (Fin 2 × SemLoc sig) → sProp 𝕄
  | [] => iprop(emp)
  | p :: l => iprop(credits c l ∗ cred (tallyAt (cell c p.2) () (amt p.2)))

omit [FloatOps F] in
theorem credits_of (c : Dev nD) (l : List (Fin 2 × SemLoc sig)) : (Pipeline.launchCred (fun d => due d l) c : sProp 𝕄) ⊢ credits c l := by
  induction l with
  | nil => exact BIBase.Entails.of_eq (Pipeline.launchCred_zero c)
  | cons p l ih =>
    refine (BIBase.Entails.of_eq (Pipeline.launchCred_add (fun d => due d l) (fun d => tallyAt (cell (fw p.1 d 1) p.2) () (amt p.2)) c)).trans ?_
    exact BI.sep_mono ih (Pipeline.launchCred_tallyAt p.2 (fun d => fw p.1 d 1) (fun d => bw p.1 d 1) (fun d => fw_bw p.1 d 1) (fun d => bw_fw p.1 d 1) () (amt p.2) c)

omit [FloatOps F] in
theorem cred_pair (g : GSem nD τ sig) : iprop(cred (tallyAt g () 1) ∗ cred (tallyAt g () 1)) ⊢ (cred (tallyAt g () 2) : sProp 𝕄) :=
  (cred_add _ _).2.trans (BIBase.Entails.of_eq (congrArg cred (tallyAt_add g () 1 1)))

omit [FloatOps F] in
theorem credits_all (c : Dev nD) : (credits c pays : sProp 𝕄) ⊢ iprop(cred (tallyAt (cell c barS) () 2) ∗ cred (tallyAt (cell c endS) () 2)
    ∗ bigSep Finset.univ fun p : Fin 2 × Fin 9 => cred (tallyAt (cell c (vS p.1 p.2)) () (amt (vS p.1 p.2)))) := by
  rw [eighteen]
  unfold pays
  repeat unfold credits
  iintro ⟨⟨⟨⟨⟨⟨⟨⟨⟨⟨⟨⟨⟨⟨⟨⟨⟨⟨⟨⟨⟨⟨-, E0⟩, E1⟩, C18⟩, C08⟩, C17⟩, C07⟩, C16⟩, C06⟩, C15⟩, C05⟩, C14⟩, C13⟩, C04⟩, C03⟩, C12⟩, C02⟩, C11⟩, C01⟩, C10⟩, C00⟩, B0⟩, B1⟩
  isplitl [B0 B1]
  · iapply (cred_pair (cell c barS)); isplitl [B0]; · iexact B0
    iexact B1
  isplitl [E0 E1]
  · iapply (cred_pair (cell c endS)); isplitl [E0]; · iexact E0
    iexact E1
  isplitl [C00]; · iexact C00
  isplitl [C01]; · iexact C01
  isplitl [C02]; · iexact C02
  isplitl [C03]; · iexact C03
  isplitl [C04]; · iexact C04
  isplitl [C05]; · iexact C05
  isplitl [C06]; · iexact C06
  isplitl [C07]; · iexact C07
  isplitl [C08]; · iexact C08
  isplitl [C10]; · iexact C10
  isplitl [C11]; · iexact C11
  isplitl [C12]; · iexact C12
  isplitl [C13]; · iexact C13
  isplitl [C14]; · iexact C14
  isplitl [C15]; · iexact C15
  isplitl [C16]; · iexact C16
  isplitl [C17]; · iexact C17
  iexact C18

/-- What a device holds of the protocol when it starts. -/
theorem rights_of (c : Dev nD) : iprop(linear c ∗ Pipeline.launchCred (fun d => due d pays) c) ⊢ (rights c : sProp 𝕄) := by
  unfold linear payToks rights sendR recvR sigR barR
  rw [kinds, two]
  simp only [bigSep_sep']
  iintro ⟨⟨⟨⟨PB, PE⟩, PS, PV⟩, ⟨⟨TB0, TB1⟩, TE0, TE1⟩, TS, TV⟩, HC⟩
  ihave HC := (credits_of c pays) $$ HC
  ihave HC := (credits_all c) $$ HC
  icases HC with ⟨CB, CE, CV⟩
  isplitl [TS TV PS]
  · isplitl [TS]; · iexact TS
    isplitl [TV]; · iexact TV
    iexact PS
  isplitl [PV CV]
  · isplitl [PV]; · iexact PV
    iexact CV
  isplitl [TB0 TB1 PB CB]
  · isplitl [TB0 TB1]
    · isplitl [TB0] <;> iassumption
    isplitl [PB]; · iexact PB
    iexact CB
  isplitl [TE0 TE1]
  · isplitl [TE0] <;> iassumption
  isplitl [PE]; · iexact PE
  iexact CE

end Cert.KernelIdeal.Moe

end
-- ==== Proof.Launch.lean ====
/-
# The launch and the run of the four devices

The pipeline's proof data at its one point, the obligation the body meets, and the run.
-/
module

public import proofs.«01_k».proof.Proof.Ghost
public import proofs.«01_k».proof.Proof.Gen.KernelIdeal.Points
public import Idealize.ShloMosaic.Lib.Pipeline.CollectiveSegs

@[expose] public section

noncomputable section

namespace Cert.KernelIdeal.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (ρ : Dev nD → PrngReg)

abbrev s₀ : MemSt nD τ sig (Elt F) := ⟨m, fun _ => 0, ρ⟩

/-! ## The pipeline's proof data: one point -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What device `c` starts from, and what is left at the end, besides the windows. -/
def start (c : Dev nD) : sProp 𝕄 := iprop(∃ K, recs m K ∗ rights c)
def Φ₀ (c : Dev nD) : sProp 𝕄 := iprop(start m c ∗ any c cM ∗ any c lM)
def Φ₁ (c : Dev nD) : sProp 𝕄 := iprop(rest c ∗ any c cM ∗ any c lM)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => inX m c
    | ⟨1, _⟩ => inR m c
    | ⟨2, _⟩ => inI m c
    | ⟨3, _⟩ => inW m c
    | ⟨4, _⟩ => outV m
  Φ t := match t with
    | ⟨0, _⟩ => Φ₀ m c
    | ⟨_ + 1, _⟩ => Φ₁ c
  q _ := fullShare
  owed t := match t with
    | ⟨0, _⟩ => O c 0
    | ⟨_ + 1, _⟩ => 0

omit [FloatOps F] in
theorem bigSep_W (Φ : Fin cfg0.W → sProp 𝕄) : bigSep Finset.univ Φ = iprop(Φ (0 : Fin 5) ∗ Φ (1 : Fin 5) ∗ Φ (2 : Fin 5) ∗ Φ (3 : Fin 5) ∗ Φ (4 : Fin 5)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer held whole. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def pointPre (c : Dev nD) : sProp 𝕄 :=
  iprop(Φ₀ m c ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))
def pointPost (c : Dev nD) : sProp 𝕄 :=
  iprop(Φ₁ c ∗ (dats m ρ 0 c).owesAt () t₀.succ
    ∗ stg c cc0_stg0_0 (inX m c) ∗ stg c cc0_stg1_0 (inR m c) ∗ stg c cc0_stg2_0 (inI m c) ∗ stg c cc0_stg3_0 (inW m c) ∗ stg c cc0_stg4_0 (outV m))

theorem before_0 (c : Dev nD) (d) : (dats m ρ 0 c).before (0 : Fin 5) t₀ d = inX m c := by unfold Dat.before; rw [if_pos (fetch0_0 t₀)]; rfl
theorem before_1 (c : Dev nD) (d) : (dats m ρ 0 c).before (1 : Fin 5) t₀ d = inR m c := by unfold Dat.before; rw [if_pos (fetch0_1 t₀)]; rfl
theorem before_2 (c : Dev nD) (d) : (dats m ρ 0 c).before (2 : Fin 5) t₀ d = inI m c := by unfold Dat.before; rw [if_pos (fetch0_2 t₀)]; rfl
theorem before_3 (c : Dev nD) (d) : (dats m ρ 0 c).before (3 : Fin 5) t₀ d = inW m c := by unfold Dat.before; rw [if_pos (fetch0_3 t₀)]; rfl

omit [FloatOps F] in
theorem own_to_stg (c : Dev nD) (X) : (own c oM X : sProp 𝕄) ⊢ stg c cc0_stg4_0 X := BIBase.Entails.of_eq (owns_whole_eq c cc0_stg4_0 X)
omit [FloatOps F] in
theorem stg_to_any (c : Dev nD) (X) : (stg c cc0_stg4_0 X : sProp 𝕄) ⊢ any c oM := by
  iintro H
  iexists X
  iapply (BIBase.Entails.of_eq (owns_whole_eq c cc0_stg4_0 X).symm)
  iexact H

theorem point (c : Dev nD) : pointPre m ρ c ⊢ WP c (cc0_body xM (Memref.isWhole_whole _) rM (Memref.isWhole_whole _) iM (Memref.isWhole_whole _) wM (Memref.isWhole_whole _) oM (Memref.isWhole_whole _) cM (Memref.isWhole_whole _) lM (Memref.isWhole_whole _) cc0_scratch2 cc0_scratch3 cc0_scoped0) (fun _ => pointPost m ρ c) := by
  unfold pointPre Φ₀ start Dat.owesAt Pipeline.owesWithin
  rw [show (dats m ρ 0 c).owed t₀.castSucc = O c 0 from rfl]
  simp only [before_0, before_1, before_2, before_3]
  iintro ⟨⟨⟨%K, #HR, Hr⟩, Hc, Hl⟩, ⟨%W, %hW, HO⟩, ⟨%d0, %f0, %h0, HX⟩, ⟨%d1, %f1, %h1, HRt⟩, ⟨%d2, %f2, %h2, HI⟩, ⟨%d3, %f3, %h3, HW⟩, ⟨%d4, Hout⟩⟩
  subst h0; subst h1; subst h2; subst h3
  ihave Hout := (stg_to_any c _) $$ Hout
  iapply (body m c K (fun _ => pointPost m ρ c)) $$ [Hr Hc Hl HO HX HRt HI HW Hout]
  · isplitr; · iexact HR
    unfold bodyPre operands
    isplitl [Hr]; · iexact Hr
    isplitl [HO]; · unfold Ow; iexists W; iexact HO
    isplitl [HX HRt HI HW]
    · isplitl [HX]; · iexact HX
      isplitl [HRt]; · iexact HRt
      isplitl [HI]; · iexact HI
      iexact HW
    isplitl [Hout]; · iexact Hout
    isplitl [Hc]; · iexact Hc
    iexact Hl
  unfold bodyPost operands pointPost Φ₁ Ow Dat.owesAt Pipeline.owesWithin
  rw [show (dats m ρ 0 c).owed t₀.succ = 0 from rfl]
  iintro ⟨Hrest, ⟨%W', HO⟩, ⟨HX, HRt, HI, HW⟩, Hout, Hc, Hl⟩
  isplitl [Hrest Hc Hl]
  · isplitl [Hrest]; · iexact Hrest
    isplitl [Hc]; · iexact Hc
    iexact Hl
  isplitl [HO]
  · iexists W'
    isplitr; · ipureintro; exact fun _ _ => Or.inl trivial
    iexact HO
  isplitl [HX]
  · iexists _; isplitr; · (ipureintro; rfl)
    iexact HX
  isplitl [HRt]
  · iexists _; isplitr; · (ipureintro; rfl)
    iexact HRt
  isplitl [HI]
  · iexists _; isplitr; · (ipureintro; rfl)
    iexact HI
  isplitl [HW]
  · iexists _; isplitr; · (ipureintro; rfl)
    iexact HW
  iapply (own_to_stg c (outV m))
  iexact Hout

set_option maxRecDepth 60000 in
/-- The pipeline's obligation at its one point. -/
theorem obligation (c : Dev nD) : BodyObligation (dats (F := F) m ρ 0 c) (defs₀ (F := F)) 𝒱₀ () Set.univ := fun t => by
  rw [fin_N t]
  rw [bigSep_W, bigSep_W]
  simp only [owns_whole_eq]
  exact point m ρ c

/-! ## The launch's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => O d 0) c ∗ prngReg c (ρ c) ∗ G' m c)
      ⊢ |={Set.univ}=> iprop(start m c ∗ emp) := by
  unfold start G'
  iintro ⟨-, Hlev, Hcr, -, %K, HC, HL⟩
  imodintro
  isplitl
  · iexists K
    isplitl [Hlev HC]
    · unfold recs cells; isplitl [Hlev]; · iexact Hlev
      iexact HC
    iapply (rights_of c)
    isplitl [HL]; · iexact HL
    iexact Hcr
  · iempintro

omit [FloatOps F] in
theorem scratch_any (c : Dev nD) (b : Ref sig .tc) : (iprop(∃ f : Buf (Elt F) ((c : Thread nD τ).loc b), ((c : Thread nD τ).loc b) ↦{fullShare} f) : sProp 𝕄)
    = iprop(∃ X : b.ty.Contents (Elt F), owns (c : Thread nD τ) (Memref.whole b) fullShare X) := by
  simp only [owns_whole_eq]
  refine BI.Entails.antisymm (show _ ⊢ (_ : sProp 𝕄) from ?_) (show _ ⊢ (_ : sProp 𝕄) from ?_)
  · iintro ⟨%f, H⟩
    iexists f; iexists f
    isplitr; · (ipureintro; rfl)
    iexact H
  · iintro ⟨%X, %f, -, H⟩
    iexists f; iexact H

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  rw [scratch_any c cc0_scratch0, scratch_any c cc0_scratch1]
  iintro ⟨Hs, -, Hc, Hl⟩
  isplitl [Hs]; · iexact Hs
  isplitl [Hc]; · iexact Hc
  iexact Hl

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁
  rw [scratch_any c cc0_scratch0, scratch_any c cc0_scratch1, own_rest]
  iintro ⟨⟨Hu, Ho⟩, Hc, Hl⟩
  isplitl [Hu]; · iexact Hu
  isplitl [Ho]; · iexact Ho
  isplitl [Hc]; · iexact Hc
  iexact Hl

theorem waits (c : Dev nD) : (levAts L lv : sProp 𝕄) ⊢ Pipeline.cellsWaits cfgs (dats m ρ) () 0 c :=
  Pipeline.cellsWaits_intro cfgs (dats m ρ) () 0 c fun w s t => by
    have hq : (((cfg0.win w).sem s : DmaSem sig)).val < 23 := by fin_cases w <;> fin_cases s <;> decide
    rcases t with ⟨_ | _, ht⟩
    · exact mayWait_of c (.dma ((cfg0.win w).sem s)) (pays.drop 0) (lv_low _ hq 0 (by decide))
    · exact mayWait_of c (.dma ((cfg0.win w).sem s)) (pays.drop 22) (lv_low _ hq 22 (by decide))

/-! ## The run -/

def finalA (c : Dev nD) (w : Fin cfg0.W) : Buf (Elt F) ((cfg0.win w).arr.view.loc (c : Thread nD τ)) := (dats m ρ 0 c).arrAt w cfg0.N

/-- What the final memory holds. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with counters at zero and for any float values, every weakly fair run of the four devices ends, with
    each device's arrays as computed and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := obligation m ρ) (hne := block_pos0) (harr := arr_whole0) (hstage := stage_whole0) (hshare := share_eq m ρ)
    (hdistinct := winFacts0.arr_inj)
    (O₀ := fun d => O d 0) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_moe m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands end as they began; -/
theorem final_0 (c : Dev nD) : finalA m ρ c (0 : Fin 5) = m ((c : Thread nD τ).loc main_arg0) := (dats (F := F) m ρ 0 c).arrAt_in (0 : Fin 5) rfl _
theorem final_1 (c : Dev nD) : finalA m ρ c (1 : Fin 5) = m ((c : Thread nD τ).loc main_arg1) := (dats (F := F) m ρ 0 c).arrAt_in (1 : Fin 5) rfl _
theorem final_2 (c : Dev nD) : finalA m ρ c (2 : Fin 5) = m ((c : Thread nD τ).loc main_arg2) := (dats (F := F) m ρ 0 c).arrAt_in (2 : Fin 5) rfl _
theorem final_3 (c : Dev nD) : finalA m ρ c (3 : Fin 5) = m ((c : Thread nD τ).loc main_arg3) := (dats (F := F) m ρ 0 c).arrAt_in (3 : Fin 5) rfl _

end Cert.KernelIdeal.Moe

end
-- ==== Proof.Final.lean ====
/-
# What the launch leaves in the result, and what the windows hold

Every window is a whole array at one point of the grid: the operands' windows hold the arguments, and the result array
ends at the window's last contents.
-/
module

public import proofs.«01_k».proof.Proof.Launch
public import Idealize.ShloMosaic.Lib.Pipeline.Value
public import Idealize.ShloMosaic.Lib.ValueIdxCore

@[expose] public section

noncomputable section

namespace Cert.KernelIdeal.Moe

open Cert.KernelIdeal Cert.KernelIdeal.Gen
open Idealize.ShloMosaic
open Idealize.ShloMosaic.TcCoe
open Idealize.ShloMosaic.ValueIdx

variable {F : FTy → Type} [FloatOps F]
variable (m : (ℓ : Loc nD τ sig) → Buf (Elt F) ℓ) (ρ : Dev nD → PrngReg)

omit [FloatOps F] in
theorem inX_eq (c : Dev nD) : inX m c = m ((c : Thread nD τ).loc main_arg0) := by
  funext i
  unfold inX
  refine congrArg (m ((c : Thread nD τ).loc main_arg0)) ?_
  funext a; apply Fin.ext
  match a with
  | ⟨0, _⟩ => show 0 * 2048 + 1 * (i 0).val = (i 0).val; omega
  | ⟨1, _⟩ => show 0 * 512 + 1 * (i 1).val = (i 1).val; omega
omit [FloatOps F] in
theorem inR_eq (c : Dev nD) : inR m c = m ((c : Thread nD τ).loc main_arg1) := by
  funext i
  unfold inR
  refine congrArg (m ((c : Thread nD τ).loc main_arg1)) ?_
  funext a; apply Fin.ext
  match a with
  | ⟨0, _⟩ => show 0 * 512 + 1 * (i 0).val = (i 0).val; omega
  | ⟨1, _⟩ => show 0 * 32 + 1 * (i 1).val = (i 1).val; omega
omit [FloatOps F] in
theorem inI_eq (c : Dev nD) : inI m c = m ((c : Thread nD τ).loc main_arg2) := by
  funext i
  unfold inI
  refine congrArg (m ((c : Thread nD τ).loc main_arg2)) ?_
  funext a; apply Fin.ext
  match a with
  | ⟨0, _⟩ => show 0 * 2048 + 1 * (i 0).val = (i 0).val; omega
  | ⟨1, _⟩ => show 0 * 2 + 1 * (i 1).val = (i 1).val; omega
omit [FloatOps F] in
theorem inW_eq (c : Dev nD) : inW m c = m ((c : Thread nD τ).loc main_arg3) := by
  funext i
  unfold inW
  refine congrArg (m ((c : Thread nD τ).loc main_arg3)) ?_
  funext a; apply Fin.ext
  match a with
  | ⟨0, _⟩ => show 0 * 8 + 1 * (i 0).val = (i 0).val; omega
  | ⟨1, _⟩ => show 0 * 512 + 1 * (i 1).val = (i 1).val; omega
  | ⟨2, _⟩ => show 0 * 1024 + 1 * (i 2).val = (i 2).val; omega

/-- The result's window lies over the whole array, place for place. -/
theorem read_out (c : Dev nD) (X : S2048x1024.Idx → Elt F .bf16) : ((cfg0.win (4 : Fin 5)).blk t₀).view.read (Elt F) X = X := by
  funext i
  refine congrArg X ?_
  funext a; apply Fin.ext
  match a with
  | ⟨0, _⟩ => show 0 * 2048 + 1 * (i 0).val = (i 0).val; omega
  | ⟨1, _⟩ => show 0 * 1024 + 1 * (i 1).val = (i 1).val; omega

theorem flushed_eq (c : Dev nD) (t : Fin cfg0.N) :
    (dats m ρ 0 c).flushed (4 : Fin 5) t = ((cfg0.win (4 : Fin 5)).blk t).view.read (Elt F) (outV m) := by
  obtain rfl := fin_N t
  rw [read_out c]
  unfold Pipeline.Dat.flushed
  rfl

theorem cover (i : S2048x1024.Idx) : ∃ t : Fin cfg0.N, (cfg0.win (4 : Fin 5)).flush t = true ∧ i ∈ ((cfg0.win (4 : Fin 5)).blk t).view.set := by
  refine ⟨t₀, flush0_4 _, ?_⟩
  show i ∈ ((View.whole main_v1).slice (win0_4.rect t₀)).set
  rw [View.set_slice_whole, Rect.mem_set_unit]
  intro a
  match a with
  | ⟨0, _⟩ => exact ⟨Nat.zero_le _, (i 0).isLt⟩
  | ⟨1, _⟩ => exact ⟨Nat.zero_le _, (i 1).isLt⟩

/-- The result array ends at the assembled blocks, the same on every device. -/
theorem final_4 (c : Dev nD) : finalA m ρ c (4 : Fin 5) = outV m :=
  (dats m ρ 0 c).arrAt_eq_of_cover (4 : Fin 5) (outV m) (fun t _ => flushed_eq m ρ c t) cover

end Cert.KernelIdeal.Moe

end
-- ==== Proof.Weights.lean ====
/-
# The arithmetic of the mixture

Per row: 32 scores give 32 positive probabilities; the two chosen ones, over their sum, weigh the two chosen experts.
The kernel cuts the weighted sum into 4 devices by 8 experts by 512 coordinates, each term carrying the weight inside;
the reference weighs two finished products. Weights are finite and not negative, so they pass in and out of a sum of
extended reals whatever the experts' entries are.
-/
module

public import Idealize.ShloMosaic.PureOps.Ideal.Laws
public import Idealize.ShloMosaic.Lib.IdealHost

@[expose] public section

noncomputable section

namespace Cert.Moe

open Idealize.ShloMosaic

/-! ## Finite sums of extended reals -/

theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A finite factor that is not negative goes inside a sum. -/
theorem coe_mul_sum {ι : Type} (s : Finset ι) {a : ℝ} (ha : 0 ≤ a) (f : ι → EReal) :
    (a : EReal) * ∑ i ∈ s, f i = ∑ i ∈ s, (a : EReal) * f i := by
  classical
  induction s using Finset.induction_on with
  | empty => simp
  | insert i s hi ih =>
    rw [Finset.sum_insert hi, Finset.sum_insert hi, ← ih]
    exact EReal.left_distrib_of_nonneg_of_ne_top (EReal.coe_nonneg.mpr ha) (EReal.coe_ne_top a) _ _

/-! ## The probabilities of a row -/

/-- The largest score. -/
def top (s : Fin 32 → EReal) : EReal := Finset.univ.fold max ⊥ s

/-- The probability of expert `e`. -/
def prob (s : Fin 32 → EReal) (e : Fin 32) : EReal :=
  Ideal.div (Ideal.exp (s e - top s)) (∑ j : Fin 32, Ideal.exp (s j - top s))

/-- The largest of finite scores is finite. -/
theorem top_coe (f : Fin 32 → ℝ) : ∃ t : ℝ, top (fun e => (f e : EReal)) = t := by
  have key : ∀ u : Finset (Fin 32), u.Nonempty → ∃ t : ℝ, u.fold max ⊥ (fun e => (f e : EReal)) = t := by
    intro u hu
    induction hu using Finset.Nonempty.cons_induction with
    | singleton a => exact ⟨f a, by simp⟩
    | cons a u ha hu ih =>
      obtain ⟨t, ht⟩ := ih
      refine ⟨max (f a) t, ?_⟩
      rw [Finset.fold_cons, ht]
      exact (EReal.coe_strictMono.monotone.map_max).symm
  exact key Finset.univ ⟨0, Finset.mem_univ _⟩

/-- Finite scores give positive finite probabilities. -/
theorem prob_coe (s : Fin 32 → EReal) (hs : ∀ e, ∃ r : ℝ, s e = r) : ∃ p : Fin 32 → ℝ, (∀ e, 0 < p e) ∧ ∀ e, prob s e = p e := by
  choose f hf using hs
  have hs' : s = fun e => (f e : EReal) := funext hf
  obtain ⟨t, ht⟩ := top_coe f
  have he : ∀ e, Ideal.exp (s e - top s) = ((Real.exp (f e - t) : ℝ) : EReal) := by
    intro e
    rw [hs', ht]
    show Ideal.exp ((f e : EReal) - (t : EReal)) = _
    rw [← EReal.coe_sub, Ideal.exp_coe]
  have hpos : 0 < ∑ j : Fin 32, Real.exp (f j - t) :=
    Finset.sum_pos (fun j _ => Real.exp_pos _) ⟨0, Finset.mem_univ _⟩
  refine ⟨fun e => Real.exp (f e - t) * (1 / ∑ j : Fin 32, Real.exp (f j - t)),
    fun e => mul_pos (Real.exp_pos _) (one_div_pos.mpr hpos), fun e => ?_⟩
  unfold prob
  rw [he e, Finset.sum_congr rfl (fun j _ => he j), ← coe_sum, Ideal.div_coe hpos.ne', ← EReal.coe_mul]

/-! ## The weights -/

/-- The share of an amount `g` in the sum `g + h`, as a real. -/
theorem share_coe {g h : ℝ} (hg : 0 < g) (hh : 0 < h) (a : ℝ) :
    Ideal.div (a : EReal) ((g : EReal) + (h : EReal)) = ((a / (g + h) : ℝ) : EReal) := by
  rw [← EReal.coe_add, Ideal.div_coe (by positivity), ← EReal.coe_mul]
  congr 1; ring

/-! ## The mixture -/

/-- Expert `j` of device `c`. -/
def expert (c : Fin 4) (j : Fin 8) : Fin 32 := ⟨8 * c.val + j.val, by omega⟩

/-- A sum over devices and their experts is a sum over the experts. -/
theorem sum_experts (f : Fin 32 → EReal) : ∑ c : Fin 4, ∑ j : Fin 8, f (expert c j) = ∑ e : Fin 32, f e := by
  rw [← Fintype.sum_prod_type' (fun (c : Fin 4) (j : Fin 8) => f (expert c j))]
  refine Fintype.sum_equiv (finProdFinEquiv (m := 4) (n := 8)) _ _ fun p => ?_
  congr 1
  apply Fin.ext
  simp [expert, finProdFinEquiv]
  omega

/-- The weighted sum over all the experts, the weight inside each term, is the sum of the two weighed products. -/
theorem mix {D : ℕ} (x : Fin D → EReal) (W : Fin 32 → Fin D → EReal) {a b : ℝ} (ha : 0 ≤ a) (hb : 0 ≤ b) (e₀ e₁ : Fin 32) :
    ∑ c : Fin 4, ∑ j : Fin 8, ∑ d : Fin D,
        (x d * (((if e₀ = expert c j then a else 0) + (if e₁ = expert c j then b else 0) : ℝ) : EReal)) * W (expert c j) d
      = (a : EReal) * (∑ d : Fin D, x d * W e₀ d) + (b : EReal) * ∑ d : Fin D, x d * W e₁ d := by
  rw [sum_experts (fun e => ∑ d : Fin D, (x d * (((if e₀ = e then a else 0) + (if e₁ = e then b else 0) : ℝ) : EReal)) * W e d)]
  have split : ∀ e d, (x d * (((if e₀ = e then a else 0) + (if e₁ = e then b else 0) : ℝ) : EReal)) * W e d
      = (if e₀ = e then (a : EReal) * (x d * W e d) else 0) + (if e₁ = e then (b : EReal) * (x d * W e d) else 0) := by
    intro e d
    rw [mul_comm (x d), mul_assoc, EReal.coe_add,
      EReal.right_distrib_of_nonneg (EReal.coe_nonneg.mpr (by split_ifs <;> simp [ha]))
        (EReal.coe_nonneg.mpr (by split_ifs <;> simp [hb]))]
    congr 1 <;> split_ifs <;> simp
  have pick : ∀ (e' : Fin 32) (r : ℝ), 0 ≤ r →
      ∑ e : Fin 32, ∑ d : Fin D, (if e' = e then (r : EReal) * (x d * W e d) else 0) = (r : EReal) * ∑ d : Fin D, x d * W e' d := by
    intro e' r hr
    rw [coe_mul_sum _ hr, Finset.sum_eq_single e']
    · exact Finset.sum_congr rfl fun d _ => if_pos rfl
    · intro e _ hne
      exact Finset.sum_eq_zero fun d _ => if_neg (Ne.symm hne)
    · exact fun h => absurd (Finset.mem_univ _) h
  rw [← pick e₀ a ha, ← pick e₁ b hb, ← Finset.sum_add_distrib]
  refine Finset.sum_congr rfl fun e _ => ?_
  rw [← Finset.sum_add_distrib]
  exact Finset.sum_congr rfl fun d _ => split e d

end Cert.Moe

end
-- ==== Proof.Rows.lean ====
/-
# The kernel's vectors, read at an element

Each vector the kernel's body computes is read at one row and one column over the extended reals: the probabilities, the
weights of a device's eight experts, the weighted copies of the row and their product with the device's experts.
-/
module

public import proofs.«01_k».proof.Proof.Final
public import proofs.«01_k».proof.Proof.Weights
public import Idealize.ShloMosaic.Lib.Pipeline.Value
public import Idealize.ShloMosaic.Lib.ValueIdx
public import Idealize.ShloMosaic.Lib.ValueIdxRank1
public import Idealize.ShloMosaic.Lib.ValueIdxCoords
public import Idealize.ShloMosaic.Lib.ValueLayout
public import Idealize.ShloMosaic.Lib.ValueLayoutCasts
public import Idealize.ShloMosaic.Lib.MatmulPlain

@[expose] public section

noncomputable section

namespace Cert.KernelIdeal.Moe

open Cert.KernelIdeal Cert.KernelIdeal.Gen Cert.Moe
open Idealize.ShloMosaic
open Idealize.ShloMosaic.ValueIdx

/-! ## Columns, rows and reductions -/

theorem bcast_col {α : Type} {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i 0) :=
  broadcastTo_apply _ _ _ _ fun ax => by
    match ax with
    | ⟨0, _⟩ =>
      show i.val = if a = 1 then 0 else i.val
      split_ifs with h1
      · have := i.isLt; omega
      · rfl
    | ⟨1, _⟩ => rfl

theorem ofBits_ninf_f32 : Ideal.ofBits .f32 0xFF800000#32 = ⊥ := by simp [Ideal.ofBits, Ideal.ieee]

theorem row_lift {a b : ℕ} (h : (⟨2, ![a, b]⟩ : Shape).Reduces [1] ⟨1, ![a]⟩) (i : Fin a) (k : Fin b) : h.lift (ix1 i) k = ix2 i k := by
  funext ax; apply Fin.ext
  refine (h.lift_val (ix1 i) k ax).trans ?_
  match ax with
  | ⟨0, _⟩ => rfl
  | ⟨1, _⟩ => rfl

/-- A row's sum, kept as a column. -/
theorem row_sum {a b : ℕ} (v : FVec Ideal ⟨2, ![a, b]⟩ .f32) (h : (⟨2, ![a, b]⟩ : Shape).Reduces [1] ⟨1, ![a]⟩) (hφ) (hacc)
    (i : Fin a) : multiReduction .add [1] ⟨1, ![a]⟩ v 0x00000000#32 h hφ hacc (ix1 i) = ∑ k : Fin b, v (ix2 i k) := by
  refine (Ideal.multiReduction_add_single v _ h hφ hacc (ix1 i)).trans ?_
  exact Finset.sum_congr rfl fun k _ => congrArg v (row_lift h i k)

/-- A row's largest entry. -/
theorem row_max {a : ℕ} (v : FVec Ideal ⟨2, ![a, 32]⟩ .f32) (h : (⟨2, ![a, 32]⟩ : Shape).Reduces [1] ⟨1, ![a]⟩) (hφ) (hacc)
    (i : Fin a) : multiReduction .maximumf [1] ⟨1, ![a]⟩ v 0xFF800000#32 h hφ hacc (ix1 i) = top fun k => v (ix2 i k) := by
  refine (Ideal.multiReduction_maximumf_single v _ h hφ hacc (ix1 i)).trans ?_
  have e : (v ∘ h.lift (ix1 i)) = fun k : Fin 32 => v (ix2 i k) := funext fun k => congrArg v (row_lift h i k)
  unfold top
  rw [e]
  show Finset.fold max (Ideal.ofBits .f32 0xFF800000#32) _ _ = _
  rw [ofBits_ninf_f32]
  rfl

/-! ## The probabilities -/

/-- A row's scores: its product with the router. -/
def scores (x : Vec Ideal S512x512 .bf16) (r : Vec Ideal S512x32 .bf16) (n : Fin 512) (e : Fin 32) : EReal :=
  ∑ d : Fin 512, x (ix2 n d) * r (ix2 d e)

theorem pay2_eq (x : Vec Ideal S512x512 .bf16) : k0_pay2 x = x := by unfold k0_pay2; exact shapeCast_self _ _

theorem score_apply (x : Vec Ideal S512x512 .bf16) (r : Vec Ideal S512x32 .bf16) (n : Fin 512) (e : Fin 32) :
    (matmul (φ₁ := .bf16) (φ₂ := .bf16) dot_S512x512_S512x32_S512x32_1_0_0_1_n_n none x r (constant (F := Ideal) S512x32 .f32 0x00000000#32)) (ix2 n e) = scores x r n e := by
  refine (Ideal.matmul_plain_apply none x r _ n e).trans ?_
  show Ideal.ofBits .f32 0x00000000#32 + _ = _
  rw [Ideal.ofBits_zero_f32, zero_add]; rfl

theorem pay3_apply (x : Vec Ideal S512x512 .bf16) (r : Vec Ideal S512x32 .bf16) (n : Fin 512) (e : Fin 32) :
    k0_pay3 x r (ix2 n e) = prob (scores x r n) e := by
  unfold k0_pay3
  rw [pay2_eq, shapeCast_self]
  dsimp only
  have hs : (fun k : Fin 32 => (matmul (φ₁ := .bf16) (φ₂ := .bf16) dot_S512x512_S512x32_S512x32_1_0_0_1_n_n none x r (constant (F := Ideal) S512x32 .f32 0x00000000#32)) (ix2 n k)) = scores x r n :=
    funext fun k => score_apply x r n k
  simp only [divf_apply, bcast_col, shapeCast_a_a1_apply]
  unfold prob
  have he : ∀ k : Fin 32, exp (F := Ideal) (subf (matmul (φ₁ := .bf16) (φ₂ := .bf16) dot_S512x512_S512x32_S512x32_1_0_0_1_n_n none x r (constant (F := Ideal) S512x32 .f32 0x00000000#32))
      (broadcastTo S512x32 (shapeCast S512x1 (multiReduction .maximumf [1] S512 (matmul (φ₁ := .bf16) (φ₂ := .bf16) dot_S512x512_S512x32_S512x32_1_0_0_1_n_n none x r (constant (F := Ideal) S512x32 .f32 0x00000000#32)) 0xFF800000#32 reduces_S512x32_S512 (.inl rfl) rfl) shapeCasts_S512_S512x1) broadcasts_S512x1_S512x32)) (ix2 n k)
      = Ideal.exp (scores x r n k - top (scores x r n)) := by
    intro k
    show Ideal.exp (_ - _) = _
    refine congrArg Ideal.exp (congrArg₂ (· - ·) (score_apply x r n k) ?_)
    rw [bcast_col, shapeCast_a_a1_apply]
    exact (row_max _ reduces_S512x32_S512 _ _ n).trans (congrArg top hs)
  exact congrArg₂ Ideal.div (he e) ((row_sum _ reduces_S512x32_S512 _ _ n).trans (Finset.sum_congr rfl fun k _ => he k))

/-! ## The weights of a device's experts -/

/-- A column of an index vector of two columns. -/
theorem pay5_apply (ix : Vec Ideal S512x2 .i32) (n : Fin 512) : k0_pay5 (F := Ideal) ix (ix2 n 0) = ix (ix2 n 0) := by
  unfold k0_pay5 k0_pay4
  rw [shapeCast_self]
  exact slice2_axis1_apply 0 ix _ n 0 0 rfl
theorem pay6_apply (ix : Vec Ideal S512x2 .i32) (n : Fin 512) : k0_pay6 (F := Ideal) ix (ix2 n 0) = ix (ix2 n 1) := by
  unfold k0_pay6 k0_pay4
  rw [shapeCast_self]
  exact slice2_axis1_apply 1 ix _ n 0 1 rfl

/-- A sum over the experts of what is chosen at one of them is the chosen entry. -/
theorem pick_sum (p : Fin 32 → EReal) (w : BitVec 32) (e : Fin 32) (hw : w = BitVec.ofNat 32 e.val) :
    ∑ k : Fin 32, Scalar.select (IntOp.cmpi .eq (BitVec.ofNat 32 k.val) w) (p k) (0 : EReal) = p e := by
  subst hw
  rw [Finset.sum_eq_single e]
  · rw [show IntOp.cmpi .eq (BitVec.ofNat 32 e.val) (BitVec.ofNat 32 e.val) = 1#1 by revert e; decide]; rfl
  · intro k _ hk
    rw [show IntOp.cmpi .eq (BitVec.ofNat 32 k.val) (BitVec.ofNat 32 e.val) = 0#1 by revert k e; decide +kernel]; rfl
  · exact fun h => absurd (Finset.mem_univ _) h

/-- The word an index is compared with on device `c` at its expert `j`. -/
theorem local_word (c : Fin 4) (j : Fin 8) (e : Fin 32) (a : EReal) :
    Scalar.select (IntOp.cmpi .eq (BitVec.ofNat 32 e.val) (IntOp.addi (Scalar.muli (BitVec.ofNat 32 c.val) 8#32) (BitVec.ofNat 32 j.val))) a 0
      = if e = expert c j then a else 0 := by
  have key : ∀ (c : Fin 4) (j : Fin 8) (e : Fin 32), IntOp.cmpi .eq (BitVec.ofNat 32 e.val) (IntOp.addi (Scalar.muli (BitVec.ofNat 32 c.val) 8#32) (BitVec.ofNat 32 j.val))
      = if e = expert c j then 1#1 else 0#1 := by decide +kernel
  rw [key]
  split_ifs <;> rfl

theorem iota_row (κ : Kind) (n : Fin 512) (e : Fin 32) (h) : iota κ S512x32 32 [1] h (ix2 n e) = BitVec.ofNat 32 e.val := by
  show BitVec.ofNat 32 (0 * 32 + e.val) = _
  rw [Nat.zero_mul, Nat.zero_add]
theorem iota_experts (κ : Kind) (j : Fin 8) (h) : iota κ S1x8 32 [1] h (ix2 0 j) = BitVec.ofNat 32 j.val := by
  show BitVec.ofNat 32 (0 * 8 + j.val) = _
  rw [Nat.zero_mul, Nat.zero_add]

/-- The weight device `c` gives its expert `j` in a row that chose `e₀` and `e₁`. -/
def weight (p : Fin 32 → EReal) (e₀ e₁ : Fin 32) (c : Fin 4) (j : Fin 8) : EReal :=
  Ideal.div ((if e₀ = expert c j then p e₀ else 0) + (if e₁ = expert c j then p e₁ else 0)) (p e₀ + p e₁)

theorem pay8_apply (c : Fin 4) (x : Vec Ideal S512x512 .bf16) (r : Vec Ideal S512x32 .bf16) (ix : Vec Ideal S512x2 .i32)
    (n : Fin 512) (e₀ e₁ : Fin 32) (h₀ : ix (ix2 n 0) = BitVec.ofNat 32 e₀.val) (h₁ : ix (ix2 n 1) = BitVec.ofNat 32 e₁.val) (j : Fin 8) :
    k0_pay8 (F := Ideal) (BitVec.ofNat 32 c.val) (k0_pay3 x r) (k0_pay5 (F := Ideal) ix) (k0_pay6 (F := Ideal) ix) (iota .tc S512x32 32 [1] iota_S512x32_d1_w32)
      (k0_pay7 x r ix) (ix2 n j) = weight (prob (scores x r n)) e₀ e₁ c j := by
  have g₀ : multiReduction .add [1] S512 (k0_pay7 x r ix) 0x00000000#32 reduces_S512x32_S512 (.inl rfl) rfl (ix1 n) = prob (scores x r n) e₀ := by
    refine (row_sum _ reduces_S512x32_S512 _ _ n).trans ?_
    refine Eq.trans ?_ (pick_sum (prob (scores x r n)) _ e₀ h₀)
    refine Finset.sum_congr rfl fun k _ => ?_
    unfold k0_pay7
    show Scalar.select (IntOp.cmpi .eq (iota .tc S512x32 32 [1] iota_S512x32_d1_w32 (ix2 n k)) (broadcastTo S512x32 (k0_pay5 (F := Ideal) ix) broadcasts_S512x1_S512x32 (ix2 n k)))
      (k0_pay3 x r (ix2 n k)) (Ideal.ofBits .f32 0x00000000#32) = _
    rw [iota_row, bcast_col, pay5_apply, pay3_apply, Ideal.ofBits_zero_f32]
  have g₁ : multiReduction .add [1] S512 (select (cmpi .eq (iota .tc S512x32 32 [1] iota_S512x32_d1_w32) (broadcastTo S512x32 (k0_pay6 (F := Ideal) ix) broadcasts_S512x1_S512x32))
      (k0_pay3 x r) (broadcast S512x32 (Scalar.ofBits (F := Ideal) .f32 0x00000000#32))) 0x00000000#32 reduces_S512x32_S512 (.inl rfl) rfl (ix1 n) = prob (scores x r n) e₁ := by
    refine (row_sum _ reduces_S512x32_S512 _ _ n).trans ?_
    refine Eq.trans ?_ (pick_sum (prob (scores x r n)) _ e₁ h₁)
    refine Finset.sum_congr rfl fun k _ => ?_
    show Scalar.select (IntOp.cmpi .eq (iota .tc S512x32 32 [1] iota_S512x32_d1_w32 (ix2 n k)) (broadcastTo S512x32 (k0_pay6 (F := Ideal) ix) broadcasts_S512x1_S512x32 (ix2 n k)))
      (k0_pay3 x r (ix2 n k)) (Ideal.ofBits .f32 0x00000000#32) = _
    rw [iota_row, bcast_col, pay6_apply, pay3_apply, Ideal.ofBits_zero_f32]
  unfold k0_pay8 weight
  dsimp only
  simp only [truncf_apply, divf_apply, bcast_col, addf_apply, shapeCast_a_a1_apply, select_apply, shapeCast_self, broadcast_apply]
  refine congrArg₂ Ideal.div (congrArg₂ (· + ·) ?_ ?_) (congrArg₂ (· + ·) g₀ g₁)
  · refine Eq.trans ?_ (local_word c j e₀ (prob (scores x r n) e₀))
    show Scalar.select (IntOp.cmpi .eq (broadcastTo S512x8 (k0_pay5 (F := Ideal) ix) broadcasts_S512x1_S512x8 (ix2 n j)) (broadcastTo S512x8 _ broadcasts_S1x8_S512x8 (ix2 n j))) _ (Ideal.ofBits .f32 0x00000000#32) = _
    rw [bcast_col, pay5_apply, h₀, broadcastTo_1b_ab_apply, Ideal.ofBits_zero_f32]
    show Scalar.select (IntOp.cmpi .eq _ (IntOp.addi _ (iota .tc S1x8 32 [1] iota_S1x8_d1_w32 (ix2 0 j)))) _ _ = _
    rw [iota_experts]
    exact congrArg (fun a => Scalar.select _ a (0 : EReal)) g₀
  · refine Eq.trans ?_ (local_word c j e₁ (prob (scores x r n) e₁))
    show Scalar.select (IntOp.cmpi .eq (broadcastTo S512x8 (k0_pay6 (F := Ideal) ix) broadcasts_S512x1_S512x8 (ix2 n j)) (broadcastTo S512x8 _ broadcasts_S1x8_S512x8 (ix2 n j))) _ (Ideal.ofBits .f32 0x00000000#32) = _
    rw [bcast_col, pay6_apply, h₁, broadcastTo_1b_ab_apply, Ideal.ofBits_zero_f32]
    show Scalar.select (IntOp.cmpi .eq _ (IntOp.addi _ (iota .tc S1x8 32 [1] iota_S1x8_d1_w32 (ix2 0 j)))) _ _ = _
    rw [iota_experts]
    exact congrArg (fun a => Scalar.select _ a (0 : EReal)) g₁

end Cert.KernelIdeal.Moe

end
-- ==== Proof.Products.lean ====
/-
# A device's own share, and the sum around the ring

The masked copies of a row side by side, times the device's experts stacked, is the sum over its experts of the weighted
products; a block that has gone around the ring is the sum of the four devices' shares.
-/
module

public import proofs.«01_k».proof.Proof.Rows

@[expose] public section

set_option maxRecDepth 20000

noncomputable section

namespace Cert.KernelIdeal.Moe

open Cert.KernelIdeal Cert.KernelIdeal.Gen Cert.Moe
open Idealize.ShloMosaic
open Idealize.ShloMosaic.ValueIdx

/-! ## The masked copies -/

/-- A block of rows scaled by column `j` of the weights. -/
theorem scaled_apply (x : FVec Ideal S512x512 .bf16) (w : FVec Ideal S512x8 .bf16) (j : Fin 8) (hs : S512x8.Slices ![0, j.val] S512x1)
    (hb : S512x1.Broadcasts S512x512) (n d : Fin 512) :
    mulf x (broadcastTo S512x512 (extractStridedSlice S512x1 ![0, j.val] w hs) hb) (ix2 n d) = x (ix2 n d) * w (ix2 n j) := by
  rw [mulf_apply, bcast_col]
  exact congrArg (x (ix2 n d) * ·) (slice2_axis1_apply j.val w hs n 0 j rfl)

/-- Column `d` of the `j`-th copy. -/
def at_ (j : Fin 8) (d : Fin 512) : Fin 4096 := ⟨512 * j.val + d.val, by omega⟩

theorem sum_at (f : Fin 4096 → EReal) : ∑ k, f k = ∑ j : Fin 8, ∑ d : Fin 512, f (at_ j d) := by
  rw [← Fintype.sum_prod_type' (fun (j : Fin 8) (d : Fin 512) => f (at_ j d))]
  refine (Fintype.sum_equiv (finProdFinEquiv (m := 8) (n := 512)) _ _ fun p => ?_).symm
  congr 1
  apply Fin.ext
  simp [at_, finProdFinEquiv]
  omega

/-- Of square blocks side by side, the one at position `j`, with `512 * j` columns before it. -/
theorem piece (xs : List ((s : Shape) × (s.Idx → EReal))) (h : Shape.Concatenates (xs.map (·.1)) S512x4096 1) (n d : Fin 512) (j : Fin 8)
    (y : S512x512.Idx → EReal) (hk : j.val < xs.length) (hx : xs[j.val] = ⟨S512x512, y⟩)
    (hpre : (((xs.take j.val).map (·.1)).map fun s => if h : s.rank = S512x4096.rank then s.size ((1 : Fin S512x4096.rank).cast h.symm) else 0).sum = 512 * j.val) :
    concatenate S512x4096 1 xs h (ix2 n (at_ j d)) = y (ix2 n d) := by
  refine concatenate_apply_piece (1 : Fin S512x4096.rank) xs h _ j.val hk S512x512 y hx rfl (512 * j.val) hpre (ix2 n d) ?_ rfl
  intro b hb
  match b with
  | ⟨0, _⟩ => rfl
  | ⟨1, _⟩ => exact absurd rfl hb

/-- Of eight square blocks side by side, the `j`-th. -/
theorem beside (y : Fin 8 → FVec Ideal S512x512 .bf16) (j : Fin 8) (n d : Fin 512) :
    k0_pay17 (F := Ideal) (y 0) (y 1) (y 2) (y 3) (y 4) (y 5) (y 6) (y 7) (ix2 n (at_ j d)) = y j (ix2 n d) := by
  unfold k0_pay17
  rw [shapeCast_self]
  let xs : List ((s : Shape) × (s.Idx → EReal)) :=
    [⟨S512x512, y 0⟩, ⟨S512x512, y 1⟩, ⟨S512x512, y 2⟩, ⟨S512x512, y 3⟩, ⟨S512x512, y 4⟩, ⟨S512x512, y 5⟩, ⟨S512x512, y 6⟩, ⟨S512x512, y 7⟩]
  show concatenate S512x4096 1 xs _ _ = _
  match j with
  | 0 => exact piece xs _ n d 0 (y 0) (show 0 < 8 by decide) rfl rfl
  | 1 => exact piece xs _ n d 1 (y 1) (show 1 < 8 by decide) rfl rfl
  | 2 => exact piece xs _ n d 2 (y 2) (show 2 < 8 by decide) rfl rfl
  | 3 => exact piece xs _ n d 3 (y 3) (show 3 < 8 by decide) rfl rfl
  | 4 => exact piece xs _ n d 4 (y 4) (show 4 < 8 by decide) rfl rfl
  | 5 => exact piece xs _ n d 5 (y 5) (show 5 < 8 by decide) rfl rfl
  | 6 => exact piece xs _ n d 6 (y 6) (show 6 < 8 by decide) rfl rfl
  | 7 => exact piece xs _ n d 7 (y 7) (show 7 < 8 by decide) rfl rfl

theorem catOf_apply (c : Fin 4) (x : Vec Ideal S512x512 .bf16) (r : Vec Ideal S512x32 .bf16) (ix : Vec Ideal S512x2 .i32)
    (n : Fin 512) (e₀ e₁ : Fin 32) (h₀ : ix (ix2 n 0) = BitVec.ofNat 32 e₀.val) (h₁ : ix (ix2 n 1) = BitVec.ofNat 32 e₁.val) (j : Fin 8) (d : Fin 512) :
    catOf (F := Ideal) (BitVec.ofNat 32 c.val) x r ix (ix2 n (at_ j d)) = x (ix2 n d) * weight (prob (scores x r n)) e₀ e₁ c j := by
  have key := pay8_apply c x r ix n e₀ e₁ h₀ h₁ j
  unfold catOf k0_pay9 k0_pay10 k0_pay11 k0_pay12 k0_pay13 k0_pay14 k0_pay15 k0_pay16
  rw [pay2_eq]
  generalize k0_pay8 (F := Ideal) (BitVec.ofNat 32 c.val) (k0_pay3 x r) (k0_pay5 (F := Ideal) ix) (k0_pay6 (F := Ideal) ix)
    (iota .tc S512x32 32 [1] iota_S512x32_d1_w32) (k0_pay7 x r ix) = w at key ⊢
  have hs : ∀ j : Fin 8, S512x8.Slices ![0, j.val] S512x1 := by decide
  rw [← key, ← scaled_apply x w j (hs j) broadcasts_S512x1_S512x512 n d]
  exact beside (fun j => mulf x (broadcastTo S512x512 (extractStridedSlice S512x1 ![0, j.val] w (hs j)) broadcasts_S512x1_S512x512)) j n d

/-! ## The product with the device's experts -/

theorem pay1_apply (W : Vec Ideal S8x512x1024 .bf16) (j : Fin 8) (d : Fin 512) (f : Fin 1024) :
    k0_pay1 (F := Ideal) W (ix2 (at_ j d) f) = W (ix3 j d f) := by
  unfold k0_pay1
  rw [shapeCast_self]
  refine shapeCast_apply _ _ _ _ ?_
  rw [Shape.rowMajor_val_three, Shape.rowMajor_val_two]
  show (j.val * 512 + d.val) * 1024 + f.val = (512 * j.val + d.val) * 1024 + f.val
  omega

/-- Column `f` of half `h` of a row of the result. -/
def half (h : Fin 2) (f : Fin 512) : Fin 1024 := ⟨512 * h.val + f.val, by omega⟩

theorem pay18_apply (W : Vec Ideal S8x512x1024 .bf16) (y : Vec Ideal S512x4096 .bf16) (n f : Fin 512) :
    k0_pay18 (F := Ideal) (k0_pay1 W) y (ix2 n f) = ∑ j : Fin 8, ∑ d : Fin 512, y (ix2 n (at_ j d)) * W (ix3 j d (half 0 f)) := by
  unfold k0_pay18
  rw [truncf_apply]
  refine (Ideal.matmul_plain_apply (M := 512) (K := 4096) (N := 512) none y _ _ n f).trans ?_
  rw [constant_apply, sum_at]
  refine (congrArg (· + _) Ideal.ofBits_zero_f32).trans ((zero_add _).trans ?_)
  refine Finset.sum_congr rfl fun j _ => Finset.sum_congr rfl fun d _ => congrArg (y (ix2 n (at_ j d)) * ·) ?_
  refine (slice2_axis1_apply 0 (k0_pay1 W) _ (at_ j d) f (half 0 f) (by show 512 * 0 + f.val = 0 + f.val; omega)).trans ?_
  exact pay1_apply W j d (half 0 f)
theorem pay19_apply (W : Vec Ideal S8x512x1024 .bf16) (y : Vec Ideal S512x4096 .bf16) (n f : Fin 512) :
    k0_pay19 (F := Ideal) (k0_pay1 W) y (ix2 n f) = ∑ j : Fin 8, ∑ d : Fin 512, y (ix2 n (at_ j d)) * W (ix3 j d (half 1 f)) := by
  unfold k0_pay19
  rw [truncf_apply]
  refine (Ideal.matmul_plain_apply (M := 512) (K := 4096) (N := 512) none y _ _ n f).trans ?_
  rw [constant_apply, sum_at]
  refine (congrArg (· + _) Ideal.ofBits_zero_f32).trans ((zero_add _).trans ?_)
  refine Finset.sum_congr rfl fun j _ => Finset.sum_congr rfl fun d _ => congrArg (y (ix2 n (at_ j d)) * ·) ?_
  refine (slice2_axis1_apply 512 (k0_pay1 W) _ (at_ j d) f (half 1 f) (by show 512 * 1 + f.val = 512 + f.val; omega)).trans ?_
  exact pay1_apply W j d (half 1 f)

/-! ## The rows of chunk `k` -/

variable (m : (ℓ : Loc nD τ sig) → Buf (Elt Ideal) ℓ)

/-- Row `n` of chunk `k`. -/
def row (k : Dev nD) (n : Fin 512) : Fin 2048 := ⟨512 * k.val + n.val, by have := k.isLt; have : nD = 4 := rfl; omega⟩

/-- The arguments on device `c` at their coordinates. -/
def xAt (c : Dev nD) (i : Fin 2048) (d : Fin 512) : EReal := inX m c (ix2 i d)
def rAt (c : Dev nD) (d : Fin 512) (e : Fin 32) : EReal := inR m c (ix2 d e)
def iAt (c : Dev nD) (i : Fin 2048) (b : Fin 2) : BitVec 32 := inI m c (ix2 i b)
def wAt (c : Dev nD) (j : Fin 8) (d : Fin 512) (f : Fin 1024) : EReal := inW m c (ix3 j d f)
/-- The scores of row `i` on device `c`. -/
def sAt (c : Dev nD) (i : Fin 2048) (e : Fin 32) : EReal := ∑ d : Fin 512, xAt m c i d * rAt m c d e

theorem rowX_apply (c k : Dev nD) (n d : Fin 512) : rowX m c k (ix2 n d) = xAt m c (row k n) d := by
  show inX m c _ = inX m c _
  refine congrArg (inX m c) ?_
  funext a; apply Fin.ext
  match a with
  | ⟨0, _⟩ => show 512 * k.val + 1 * n.val = 512 * k.val + n.val; omega
  | ⟨1, _⟩ => show 0 + 1 * d.val = d.val; omega
theorem rowI_apply (c k : Dev nD) (n : Fin 512) (i : Fin 2) : rowI m c k (ix2 n i) = iAt m c (row k n) i := by
  show inI m c _ = inI m c _
  refine congrArg (inI m c) ?_
  funext a; apply Fin.ext
  match a with
  | ⟨0, _⟩ => show 512 * k.val + 1 * n.val = 512 * k.val + n.val; omega
  | ⟨1, _⟩ => show 0 + 1 * i.val = i.val; omega

theorem devW_eq (c : Dev nD) : devW c = BitVec.ofNat 32 c.val := by
  revert c; decide

/-- Device `c`'s share at one element. -/
theorem part_apply (c : Dev nD) (h : Fin 2) (k : Dev nD) (n f : Fin 512) (e₀ e₁ : Fin 32)
    (h₀ : iAt m c (row k n) 0 = BitVec.ofNat 32 e₀.val) (h₁ : iAt m c (row k n) 1 = BitVec.ofNat 32 e₁.val) :
    part m c h k (ix2 n f) = ∑ j : Fin 8, ∑ d : Fin 512,
      (xAt m c (row k n) d * weight (prob (sAt m c (row k n))) e₀ e₁ c j) * wAt m c j d (half h f) := by
  have hc : ∀ j d, cat m c k (ix2 n (at_ j d)) = xAt m c (row k n) d * weight (prob (sAt m c (row k n))) e₀ e₁ c j := by
    intro j d
    unfold cat
    rw [devW_eq]
    refine (catOf_apply c (rowX m c k) (inR m c) (rowI m c k) n e₀ e₁ ((rowI_apply m c k n 0).trans h₀) ((rowI_apply m c k n 1).trans h₁) j d).trans ?_
    have hsc : scores (rowX m c k) (inR m c) n = sAt m c (row k n) :=
      funext fun e => Finset.sum_congr rfl fun d _ => congrArg (· * rAt m c d e) (rowX_apply m c k n d)
    rw [hsc, rowX_apply]
  unfold part
  match h with
  | 0 =>
    rw [if_pos rfl]
    refine (pay18_apply (inW m c) (cat m c k) n f).trans ?_
    exact Finset.sum_congr rfl fun j _ => Finset.sum_congr rfl fun d _ => congrArg (· * wAt m c j d (half 0 f)) (hc j d)
  | 1 =>
    rw [if_neg (by decide)]
    refine (pay19_apply (inW m c) (cat m c k) n f).trans ?_
    exact Finset.sum_congr rfl fun j _ => Finset.sum_congr rfl fun d _ => congrArg (· * wAt m c j d (half 1 f)) (hc j d)

/-! ## Around the ring -/

theorem add_apply (a b : Vec Ideal S512x512 .bf16) (n f : Fin 512) :
    k0_pay25 (F := Ideal) a (wide b) (ix2 n f) = (a (ix2 n f) + b (ix2 n f) : EReal) := by
  unfold k0_pay25
  rw [addf_apply, shapeCast_self]
  refine congrArg (a (ix2 n f) + ·) ?_
  refine (shapeCast_apply _ _ _ (ix4 0 0 n f) ?_).trans ?_
  · rw [Shape.rowMajor_val_four, Shape.rowMajor_val_two]
    show (((0 * 1 + 0) * 512 + n.val) * 512 + f.val) = n.val * 512 + f.val
    simp only [Nat.zero_mul, Nat.zero_add]
  · unfold wide
    refine congrArg b (Shape.reshapeEquiv_eq_of_rowMajor _ ?_)
    rw [Shape.rowMajor_val_four, Shape.rowMajor_val_two]
    show n.val * 512 + f.val = (((0 * 1 + 0) * 512 + n.val) * 512 + f.val)
    simp only [Nat.zero_mul, Nat.zero_add]

/-- The four devices a block visits are all of them. -/
theorem sum_ring (g : Fin 4 → EReal) (h : Fin 2) (k : Dev nD) :
    g (fw h k 3) + (g (fw h k 2) + (g (fw h k 1) + g (fw h k 0))) = ∑ c : Fin 4, g c := by
  have hperm : Function.Bijective fun i : Fin 4 => (fw h k i.val : Fin 4) := by
    revert h k; decide
  rw [← Function.Bijective.sum_comp hperm g, Fin.sum_univ_four]
  show _ = g (fw h k 0) + g (fw h k 1) + g (fw h k 2) + g (fw h k 3)
  simp only [add_assoc, add_comm, add_left_comm]

theorem fin_apply (h : Fin 2) (k : Dev nD) (n f : Fin 512) :
    fin m h k (ix2 n f) = ∑ c : Fin 4, part m c h k (ix2 n f) := by
  rw [← sum_ring (fun c => part m c h k (ix2 n f)) h k]
  unfold fin
  refine (add_apply (part m (fw h k 3) h k) (run m h k 2) n f).trans (congrArg (part m (fw h k 3) h k (ix2 n f) + ·) ?_)
  refine (add_apply (part m (fw h k 2) h k) (run m h k 1) n f).trans (congrArg (part m (fw h k 2) h k (ix2 n f) + ·) ?_)
  exact add_apply (part m (fw h k 1) h k) (run m h k 0) n f

/-- The result at one element of half `h` of chunk `k`. -/
theorem outV_apply (h : Fin 2) (k : Dev nD) (n f : Fin 512) :
    outV m (ix2 (row k n) (half h f)) = ∑ c : Fin 4, part m c h k (ix2 n f) := by
  refine Eq.trans ?_ (fin_apply m h k n f)
  unfold outV
  have e0 : ((ix2 (row k n) (half h f) : S2048x1024.Idx) 0).val = 512 * k.val + n.val := rfl
  have e1 : ((ix2 (row k n) (half h f) : S2048x1024.Idx) 1).val = 512 * h.val + f.val := rfl
  have a1 : (⟨((ix2 (row k n) (half h f) : S2048x1024.Idx) 1).val / 512, by rw [e1]; have := h.isLt; omega⟩ : Fin 2) = h :=
    Fin.ext (by show _ / 512 = _; rw [e1]; omega)
  have a2 : (⟨((ix2 (row k n) (half h f) : S2048x1024.Idx) 0).val / 512, by rw [e0]; have := k.isLt; show _ < 4; have : nD = 4 := rfl; omega⟩ : Dev nD) = k :=
    Fin.ext (by show _ / 512 = _; rw [e0]; omega)
  rw [a1, a2]
  refine congrArg (fin m h k) ?_
  funext a; apply Fin.ext
  match a with
  | ⟨0, _⟩ => show (_ : ℕ) % 512 = n.val; rw [e0]; omega
  | ⟨1, _⟩ => show (_ : ℕ) % 512 = f.val; rw [e1]; omega

end Cert.KernelIdeal.Moe

end
-- ==== Proof.Reference.lean ====
/-
# The reference's result, read at an element

The reference's composed term is cut into named steps and each is read at an index: the probabilities of a row, the two
picked by the row's indices, the product of the row with each picked expert, and their mixture.
-/
module

public import proofs.«01_k».proof.Proof.Gen.ReferenceIdeal.Run
public import proofs.«01_k».proof.Proof.Weights
public import Idealize.ShloMosaic.Lib.Pipeline.Value
public import Idealize.ShloMosaic.Lib.ValueIdx
public import Idealize.ShloMosaic.Lib.ValueIdxRank1
public import Idealize.ShloMosaic.Lib.ValueIdxCoords
public import Idealize.ShloMosaic.Lib.ValueLayout
public import Idealize.ShloMosaic.Lib.ValueLayoutCasts
public import Idealize.ShloMosaic.Lib.MatmulPlain
public import Idealize.ShloMosaic.Lib.StackMember
public import Idealize.ShloMosaic.Lib.IdealHost
public import Idealize.ShloMosaic.Lib.KernelVsHost

@[expose] public section

set_option maxRecDepth 20000

noncomputable section

namespace Cert.ReferenceIdeal.Moe

open Cert.ReferenceIdeal Cert.ReferenceIdeal.Gen Cert.Moe
open Idealize.ShloMosaic
open Idealize.ShloMosaic.ValueIdx

/-! ## The steps -/

variable (x : FVec Ideal S2048x512 .bf16) (r : FVec Ideal S512x32 .bf16) (ix : IVec S2048x2 32) (W : FVec Ideal S32x512x1024 .bf16)

def refScores : FVec Ideal S2048x32 .f32 :=
  Host.dotGeneral dot_S2048x512_S512x32_S2048x32_1_0_0_1_n_n none (extf .f32 x bitsLt_bf16_f32) (extf .f32 r bitsLt_bf16_f32)
def along (v : FVec Ideal S2048 .f32) : FVec Ideal S2048x32 .f32 :=
  broadcastInDim S2048x32 ![0, 1] bcast_S2048x1_S2048x32_0_1 (broadcastInDim S2048x1 ![0] bcast_S2048_S2048x1_0 v)
def refExp : FVec Ideal S2048x32 .f32 :=
  Host.exp (subf (refScores x r) (along (Host.reduce FloatOps.maximumf (refScores x r) (constant S_ .f32 0xFF800000#32) reducesTo_S2048x32_S2048_d1 h_S_)))
def refProbs : FVec Ideal S2048x32 .f32 :=
  Host.divf (refExp x r) (along (Host.reduceAdd (refExp x r) (constant S_ .f32 0x00000000#32) reducesTo_S2048x32_S2048_d1 h_S_))
def refPicks : IVec S2048x2x1 32 :=
  shapeCast _ (select (cmpi .slt ix (broadcastInDim S2048x2 ![] bcast_S_S2048x2 (constantI S_ 32 0#32)))
    (addi ix (broadcastInDim S2048x2 ![] bcast_S_S2048x2 (constantI S_ 32 32#32))) ix) shapeCasts_S2048x2_S2048x2x1
def refPicked : FVec Ideal S2048x2 .f32 := Host.gather gather_S2048x32_S2048x2x1_S2048x2_n_1_0_0_1_2_11 (refProbs x r) (refPicks ix)
def refCol0 : FVec Ideal S2048x1 .f32 := extractStridedSlice S2048x1 ![0, 0] (refPicked x r ix) slices_S2048x2_S2048x1_0_0
def refCol1 : FVec Ideal S2048x1 .f32 := extractStridedSlice S2048x1 ![0, 1] (refPicked x r ix) slices_S2048x2_S2048x1_0_1
def refWrap (e : IVec S2048 32) : IVec S2048 32 :=
  select (cmpi .slt e (broadcastInDim S2048 ![] bcast_S_S2048 (constantI S_ 32 0#32))) (addi e (broadcastInDim S2048 ![] bcast_S_S2048 (constantI S_ 32 32#32))) e
def refProd (e : IVec S2048 32) : FVec Ideal S2048x1024 .f32 :=
  Host.dotGeneral dot_S2048x512_S2048x512x1024_S2048x1024_1_1_n_2_0_0 none (extf .f32 x bitsLt_bf16_f32)
    (Host.gather gather_S32x512x1024_S2048x1_S2048x512x1024_12_0_n_n_0_1_15121024 (extf .f32 W bitsLt_bf16_f32)
      (broadcastInDim S2048x1 ![0] bcast_S2048_S2048x1_0 (refWrap e)))
def refIx0 : IVec S2048 32 := shapeCast _ (extractStridedSlice S2048x1 ![0, 0] ix slices_S2048x2_S2048x1_0_0) shapeCasts_S2048x1_S2048
def refIx1 : IVec S2048 32 := shapeCast _ (extractStridedSlice S2048x1 ![0, 1] ix slices_S2048x2_S2048x1_0_1) shapeCasts_S2048x1_S2048
def wideCol (v : FVec Ideal S2048x1 .f32) : FVec Ideal S2048x1024 .f32 := broadcastInDim S2048x1024 ![0, 1] bcast_S2048x1_S2048x1024_0_1 v
def refOut : FVec Ideal S2048x1024 .bf16 :=
  truncf .bf16 (addf (mulf (wideCol (Host.divf (refCol0 x r ix) (addf (refCol0 x r ix) (refCol1 x r ix)))) (refProd x W (refIx0 ix)))
    (mulf (wideCol (Host.divf (refCol1 x r ix) (addf (refCol0 x r ix) (refCol1 x r ix)))) (refProd x W (refIx1 ix)))) bitsLt_bf16_f32

theorem res_eq (m : (ℓ : Loc nD τ sig) → Buf (Elt Ideal) ℓ) (c : Dev nD) :
    Value.res_main_v44 m c = refOut (m ((c.tc : Thread nD τ).loc main_arg0)) (m ((c.tc : Thread nD τ).loc main_arg1))
      (m ((c.tc : Thread nD τ).loc main_arg2)) (m ((c.tc : Thread nD τ).loc main_arg3)) := rfl

/-! ## The probabilities -/

/-- The scores of row `i`. -/
def rowScores (i : Fin 2048) (e : Fin 32) : EReal := ∑ d : Fin 512, x (ix2 i d) * r (ix2 d e)

theorem refScores_apply (i : Fin 2048) (e : Fin 32) : refScores x r (ix2 i e) = rowScores x r i e := by
  unfold refScores
  exact StackMember.dotGeneral_plain_apply (m := 2048) (k := 512) (n := 32) none (extf .f32 x bitsLt_bf16_f32) (extf .f32 r bitsLt_bf16_f32) i e

theorem along_apply (v : FVec Ideal S2048 .f32) (i : Fin 2048) (e : Fin 32) : along v (ix2 i e) = v (ix1 i) := by
  unfold along
  refine (broadcastInDim_apply _ _ _ _ (ix2 i 0) ?_).trans (broadcastInDim_apply _ _ _ _ (ix1 i) ?_)
  · intro a
    match a with
    | ⟨0, _⟩ => rfl
    | ⟨1, _⟩ => rfl
  · intro a
    match a with
    | ⟨0, _⟩ => rfl

theorem reduces_rows : S2048x32.Reduces [1] S2048 := by decide

theorem lift_row (i : Fin 2048) (k : Fin 32) : reduces_rows.lift (ix1 i) k = ix2 i k := by
  funext ax; apply Fin.ext
  refine (reduces_rows.lift_val (ix1 i) k ax).trans ?_
  match ax with
  | ⟨0, _⟩ => rfl
  | ⟨1, _⟩ => rfl

theorem host_max (v : FVec Ideal S2048x32 .f32) (i : Fin 2048) :
    Host.reduce FloatOps.maximumf v (constant S_ .f32 0xFF800000#32) reducesTo_S2048x32_S2048_d1 h_S_ (ix1 i) = top fun k => v (ix2 i k) := by
  refine (congrFun (hostReduce_maximumf_eq_multiReduction v 0xFF800000#32 reducesTo_S2048x32_S2048_d1 h_S_ reduces_rows (.inl rfl) rfl) (ix1 i)).trans ?_
  refine (Ideal.multiReduction_maximumf_single v _ reduces_rows (.inl rfl) rfl (ix1 i)).trans ?_
  have e : (v ∘ reduces_rows.lift (ix1 i)) = fun k : Fin 32 => v (ix2 i k) := funext fun k => congrArg v (lift_row i k)
  unfold top
  rw [e]
  show Finset.fold max (Ideal.ofBits .f32 0xFF800000#32) _ _ = _
  rw [show Ideal.ofBits .f32 0xFF800000#32 = ⊥ by simp [Ideal.ofBits, Ideal.ieee]]
  rfl

theorem host_sum (v : FVec Ideal S2048x32 .f32) (i : Fin 2048) :
    Host.reduceAdd v (constant S_ .f32 0x00000000#32) reducesTo_S2048x32_S2048_d1 h_S_ (ix1 i) = ∑ k : Fin 32, v (ix2 i k) := by
  refine (Ideal.hostReduceAdd_single reducesTo_S2048x32_S2048_d1 reduces_rows v _ (ix1 i)).trans ?_
  refine (congrArg (· + _) Ideal.ofBits_zero_f32).trans ((zero_add _).trans ?_)
  exact Finset.sum_congr rfl fun k _ => congrArg v (lift_row i k)

theorem refExp_apply (i : Fin 2048) (e : Fin 32) : refExp x r (ix2 i e) = Ideal.exp (rowScores x r i e - top (rowScores x r i)) := by
  unfold refExp
  refine congrArg Ideal.exp (congrArg₂ (· - ·) (refScores_apply x r i e) ?_)
  rw [along_apply, host_max]
  exact congrArg top (funext fun k => refScores_apply x r i k)

theorem refProbs_apply (i : Fin 2048) (e : Fin 32) : refProbs x r (ix2 i e) = prob (rowScores x r i) e := by
  unfold refProbs prob
  refine congrArg₂ Ideal.div (refExp_apply x r i e) ?_
  rw [along_apply, host_sum]
  exact Finset.sum_congr rfl fun k _ => refExp_apply x r i k

/-! ## The two picks -/

theorem wrap_word (e : Fin 32) (a : BitVec 32) :
    Scalar.select (IntOp.cmpi .slt (BitVec.ofNat 32 e.val) 0#32) a (BitVec.ofNat 32 e.val) = BitVec.ofNat 32 e.val := by
  rw [show IntOp.cmpi .slt (BitVec.ofNat 32 e.val) 0#32 = 0#1 by revert e; decide]; rfl
theorem clamp_word (e : Fin 32) : min (BitVec.ofNat 32 e.val).toInt.toNat (32 - 1) = e.val := by
  revert e; decide

theorem refPicks_apply (i : Fin 2048) (b : Fin 2) (e : Fin 32) (h : ix (ix2 i b) = BitVec.ofNat 32 e.val) :
    refPicks ix (ix3 i b 0) = BitVec.ofNat 32 e.val := by
  unfold refPicks
  refine (shapeCast_apply _ _ _ (ix2 i b) ?_).trans ?_
  · rw [Shape.rowMajor_val_three, Shape.rowMajor_val_two]
    show i.val * 2 + b.val = (i.val * 2 + b.val) * 1 + 0
    omega
  · show Scalar.select (IntOp.cmpi .slt (ix (ix2 i b)) _) _ (ix (ix2 i b)) = _
    rw [h]
    exact wrap_word e _

/-- The entry of a row at its index. -/
theorem pick_apply (v : FVec Ideal S2048x32 .f32) (idx : IVec S2048x2x1 32) (i : Fin 2048) (b : Fin 2) (e : Fin 32)
    (h : idx (ix3 i b 0) = BitVec.ofNat 32 e.val) :
    Host.gather gather_S2048x32_S2048x2x1_S2048x2_n_1_0_0_1_2_11 v idx (ix2 i b) = v (ix2 i e) := by
  unfold Host.gather
  refine congrArg v ?_
  funext a
  refine Fin.ext ?_
  show GatherDims.start gather_S2048x32_S2048x2x1_S2048x2_n_1_0_0_1_2_11 (ix2 i b) idx a + GatherDims.batchCoord gather_S2048x32_S2048x2x1_S2048x2_n_1_0_0_1_2_11 (ix2 i b) a
    + GatherDims.offCoord gather_S2048x32_S2048x2x1_S2048x2_n_1_0_0_1_2_11 (ix2 i b) a = _
  have h01 : a = (0 : Fin 2) ∨ a = (1 : Fin 2) := by
    match a with
    | ⟨0, _⟩ => exact Or.inl rfl
    | ⟨1, _⟩ => exact Or.inr rfl
  rcases h01 with rfl | rfl
  · rw [GatherDims.start_batching _ _ _ _ (show (0 : Fin 2) ∈ gather_S2048x32_S2048x2x1_S2048x2_n_1_0_0_1_2_11.operandBatchingDims by decide),
      GatherDims.offCoord_eq_zero _ _ _ (show (0 : Fin 2) ∉ gather_S2048x32_S2048x2x1_S2048x2_n_1_0_0_1_2_11.sKept by decide)]
    unfold GatherDims.batchCoord
    rw [dif_pos (show (0 : Fin 2) ∈ gather_S2048x32_S2048x2x1_S2048x2_n_1_0_0_1_2_11.operandBatchingDims by decide)]
    show 0 + i.val + 0 = i.val
    omega
  · rw [GatherDims.batchCoord_eq_zero _ _ _ (show (1 : Fin 2) ∉ gather_S2048x32_S2048x2x1_S2048x2_n_1_0_0_1_2_11.operandBatchingDims by decide),
      GatherDims.offCoord_eq_zero _ _ _ (show (1 : Fin 2) ∉ gather_S2048x32_S2048x2x1_S2048x2_n_1_0_0_1_2_11.sKept by decide)]
    unfold GatherDims.start
    rw [dif_pos (show (1 : Fin 2) ∈ gather_S2048x32_S2048x2x1_S2048x2_n_1_0_0_1_2_11.startIndexMap by decide)]
    have hsi : GatherDims.siIdx gather_S2048x32_S2048x2x1_S2048x2_n_1_0_0_1_2_11 (ix2 i b) ⟨0, by decide⟩ = ix3 i b 0 := by
      funext q; refine Fin.ext ?_
      match q with
      | ⟨0, _⟩ => rfl
      | ⟨1, _⟩ => rfl
      | ⟨2, _⟩ => rfl
    refine (congrArg (fun w : BitVec 32 => min w.toInt.toNat (32 - 1) + 0 + 0) ((congrArg idx hsi).trans h)).trans ?_
    exact clamp_word e

theorem refPicked_apply (i : Fin 2048) (b : Fin 2) (e : Fin 32) (h : ix (ix2 i b) = BitVec.ofNat 32 e.val) :
    refPicked x r ix (ix2 i b) = prob (rowScores x r i) e :=
  (pick_apply (refProbs x r) (refPicks ix) i b e (refPicks_apply ix i b e h)).trans (refProbs_apply x r i e)
theorem refCol0_apply (i : Fin 2048) (e : Fin 32) (h : ix (ix2 i 0) = BitVec.ofNat 32 e.val) : refCol0 x r ix (ix2 i 0) = prob (rowScores x r i) e :=
  (slice2_axis1_apply 0 (refPicked x r ix) _ i 0 0 rfl).trans (refPicked_apply x r ix i 0 e h)
theorem refCol1_apply (i : Fin 2048) (e : Fin 32) (h : ix (ix2 i 1) = BitVec.ofNat 32 e.val) : refCol1 x r ix (ix2 i 0) = prob (rowScores x r i) e :=
  (slice2_axis1_apply 1 (refPicked x r ix) _ i 0 1 rfl).trans (refPicked_apply x r ix i 1 e h)

/-! ## The product with a picked expert -/

theorem expert_apply (V : FVec Ideal S32x512x1024 .f32) (idx : IVec S2048x1 32) (i : Fin 2048) (d : Fin 512) (f : Fin 1024) (e : Fin 32)
    (h : idx (ix2 i 0) = BitVec.ofNat 32 e.val) :
    Host.gather gather_S32x512x1024_S2048x1_S2048x512x1024_12_0_n_n_0_1_15121024 V idx (ix3 i d f) = V (ix3 e d f) := by
  unfold Host.gather
  refine congrArg V ?_
  funext a
  refine Fin.ext ?_
  show GatherDims.start gather_S32x512x1024_S2048x1_S2048x512x1024_12_0_n_n_0_1_15121024 (ix3 i d f) idx a
    + GatherDims.batchCoord gather_S32x512x1024_S2048x1_S2048x512x1024_12_0_n_n_0_1_15121024 (ix3 i d f) a
    + GatherDims.offCoord gather_S32x512x1024_S2048x1_S2048x512x1024_12_0_n_n_0_1_15121024 (ix3 i d f) a = _
  rw [GatherDims.batchCoord_eq_zero _ _ _ (show a ∉ gather_S32x512x1024_S2048x1_S2048x512x1024_12_0_n_n_0_1_15121024.operandBatchingDims from List.not_mem_nil)]
  have h012 : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (show (0 : Fin 3) ∉ gather_S32x512x1024_S2048x1_S2048x512x1024_12_0_n_n_0_1_15121024.sKept by decide)]
    unfold GatherDims.start
    rw [dif_pos (show (0 : Fin 3) ∈ gather_S32x512x1024_S2048x1_S2048x512x1024_12_0_n_n_0_1_15121024.startIndexMap by decide)]
    have hsi : GatherDims.siIdx gather_S32x512x1024_S2048x1_S2048x512x1024_12_0_n_n_0_1_15121024 (ix3 i d f) ⟨0, by decide⟩ = ix2 i 0 := by
      funext q; refine Fin.ext ?_
      match q with
      | ⟨0, _⟩ => rfl
      | ⟨1, _⟩ => rfl
    refine (congrArg (fun w : BitVec 32 => min w.toInt.toNat (32 - 1) + 0 + 0) ((congrArg idx hsi).trans h)).trans ?_
    exact clamp_word e
  · unfold GatherDims.start
    rw [dif_neg (show (1 : Fin 3) ∉ gather_S32x512x1024_S2048x1_S2048x512x1024_12_0_n_n_0_1_15121024.startIndexMap by decide)]
    unfold GatherDims.offCoord
    rw [dif_pos (show (1 : Fin 3) ∈ gather_S32x512x1024_S2048x1_S2048x512x1024_12_0_n_n_0_1_15121024.sKept by decide)]
    show 0 + 0 + d.val = d.val
    omega
  · unfold GatherDims.start
    rw [dif_neg (show (2 : Fin 3) ∉ gather_S32x512x1024_S2048x1_S2048x512x1024_12_0_n_n_0_1_15121024.startIndexMap by decide)]
    unfold GatherDims.offCoord
    rw [dif_pos (show (2 : Fin 3) ∈ gather_S32x512x1024_S2048x1_S2048x512x1024_12_0_n_n_0_1_15121024.sKept by decide)]
    show 0 + 0 + f.val = f.val
    omega

theorem rows_dot (A : FVec Ideal S2048x512 .f32) (B : FVec Ideal S2048x512x1024 .f32) (i : Fin 2048) (f : Fin 1024) :
    Host.dotGeneral dot_S2048x512_S2048x512x1024_S2048x1024_1_1_n_2_0_0 none A B (ix2 i f) = ∑ d : Fin 512, A (ix2 i d) * B (ix3 i d f) := by
  show FloatOps.dotGeneral _ none _ A B (ix2 i f) = _
  rw [Ideal.dotGeneral_apply, ← Equiv.sum_comp (contrEquiv1 dot_S2048x512_S2048x512x1024_S2048x1024_1_1_n_2_0_0 512 rfl rfl).symm]
  refine Finset.sum_congr rfl fun d _ => ?_
  have hd := contrEquiv1_symm_val dot_S2048x512_S2048x512x1024_S2048x1024_1_1_n_2_0_0 512 rfl rfl d
  refine congrArg₂ (· * ·) (congrArg A ?_) (congrArg B ?_)
  · funext a; apply Fin.ext
    match a with
    | ⟨0, _⟩ => rfl
    | ⟨1, _⟩ => exact hd
  · funext a; apply Fin.ext
    match a with
    | ⟨0, _⟩ => rfl
    | ⟨1, _⟩ => exact hd
    | ⟨2, _⟩ => rfl

theorem refProd_apply (e : IVec S2048 32) (i : Fin 2048) (f : Fin 1024) (k : Fin 32) (h : e (ix1 i) = BitVec.ofNat 32 k.val) :
    refProd x W e (ix2 i f) = ∑ d : Fin 512, x (ix2 i d) * W (ix3 k d f) := by
  unfold refProd
  refine (rows_dot _ _ i f).trans ?_
  refine Finset.sum_congr rfl fun d _ => congrArg (x (ix2 i d) * ·) ?_
  refine expert_apply (extf .f32 W bitsLt_bf16_f32) _ i d f k ?_
  refine (broadcastInDim_apply _ _ _ _ (ix1 i) ?_).trans ?_
  · intro a
    match a with
    | ⟨0, _⟩ => rfl
  · show Scalar.select (IntOp.cmpi .slt (e (ix1 i)) _) _ (e (ix1 i)) = _
    rw [h]
    exact wrap_word k _

theorem refIx0_apply (i : Fin 2048) : refIx0 ix (ix1 i) = ix (ix2 i 0) := by
  unfold refIx0
  refine (shapeCast_apply _ _ _ (ix2 i 0) ?_).trans (slice2_axis1_apply 0 ix _ i 0 0 rfl)
  rw [Shape.rowMajor_val_one, Shape.rowMajor_val_two]
  show i.val * 1 + 0 = i.val
  omega
theorem refIx1_apply (i : Fin 2048) : refIx1 ix (ix1 i) = ix (ix2 i 1) := by
  unfold refIx1
  refine (shapeCast_apply _ _ _ (ix2 i 0) ?_).trans (slice2_axis1_apply 1 ix _ i 0 1 rfl)
  rw [Shape.rowMajor_val_one, Shape.rowMajor_val_two]
  show i.val * 1 + 0 = i.val
  omega

theorem wideCol_apply (v : FVec Ideal S2048x1 .f32) (i : Fin 2048) (f : Fin 1024) : wideCol v (ix2 i f) = v (ix2 i 0) := by
  unfold wideCol
  refine broadcastInDim_apply _ _ _ _ (ix2 i 0) ?_
  intro a
  match a with
  | ⟨0, _⟩ => rfl
  | ⟨1, _⟩ => rfl

/-- The reference at one element: the two picked experts' products of the row, mixed by their shares. -/
theorem refOut_apply (i : Fin 2048) (f : Fin 1024) (e₀ e₁ : Fin 32) (h₀ : ix (ix2 i 0) = BitVec.ofNat 32 e₀.val) (h₁ : ix (ix2 i 1) = BitVec.ofNat 32 e₁.val) :
    refOut x r ix W (ix2 i f)
      = Ideal.div (prob (rowScores x r i) e₀) (prob (rowScores x r i) e₀ + prob (rowScores x r i) e₁) * (∑ d : Fin 512, x (ix2 i d) * W (ix3 e₀ d f))
        + Ideal.div (prob (rowScores x r i) e₁) (prob (rowScores x r i) e₀ + prob (rowScores x r i) e₁) * ∑ d : Fin 512, x (ix2 i d) * W (ix3 e₁ d f) := by
  unfold refOut
  refine congrArg₂ (fun a b : EReal => a + b) (congrArg₂ (fun a b : EReal => a * b) ?_ ?_) (congrArg₂ (fun a b : EReal => a * b) ?_ ?_)
  · refine (wideCol_apply _ i f).trans (congrArg₂ Ideal.div (refCol0_apply x r ix i e₀ h₀) ?_)
    exact congrArg₂ (fun a b : EReal => a + b) (refCol0_apply x r ix i e₀ h₀) (refCol1_apply x r ix i e₁ h₁)
  · exact refProd_apply x W _ i f e₀ ((refIx0_apply ix i).trans h₀)
  · refine (wideCol_apply _ i f).trans (congrArg₂ Ideal.div (refCol1_apply x r ix i e₁ h₁) ?_)
    exact congrArg₂ (fun a b : EReal => a + b) (refCol0_apply x r ix i e₀ h₀) (refCol1_apply x r ix i e₁ h₁)
  · exact refProd_apply x W _ i f e₁ ((refIx1_apply ix i).trans h₁)

end Cert.ReferenceIdeal.Moe

end
-- ==== Proof.Routed.lean ====
/-
# Reading the precondition

Where the precondition holds of one device's arguments, every entry of the rows and of the router is a real number and
every index names one of the thirty-two experts.
-/
module

public import proofs.«01_k».proof.Defs
public import Idealize.ShloMosaic.Lib.ReduceAll
public import Idealize.ShloMosaic.Lib.Affine
public import Idealize.ShloMosaic.Lib.ValueIdx
public import Idealize.ShloMosaic.PureOps.Ideal.Laws

@[expose] public section

noncomputable section

namespace Cert.Moe

open Idealize.ShloMosaic

/-- The shapes the precondition's operations take. -/
theorem routed_kernel : Cert.Pre_routed_KernelIdeal.Facts where
  bcast_S_S2048x512 := by decide
  reducesTo_S2048x512_S_d0_1 := by decide
  h_S_ := by decide
  bcast_S_S512x32 := by decide
  reducesTo_S512x32_S_d0_1 := by decide
  bcast_S_S2048x2 := by decide
  reducesTo_S2048x2_S_d0_1 := by decide
theorem routed_reference : Cert.Pre_routed_ReferenceIdeal.Facts where
  bcast_S_S2048x512 := by decide
  reducesTo_S2048x512_S_d0_1 := by decide
  h_S_ := by decide
  bcast_S_S512x32 := by decide
  reducesTo_S512x32_S_d0_1 := by decide
  bcast_S_S2048x2 := by decide
  reducesTo_S2048x2_S_d0_1 := by decide

/-- What lies below the largest value in size is a real number. -/
theorem real_of_below (a : EReal) (h : Ideal.cmp .olt (max a (-a)) (Ideal.ofBits .bf16 0x7F80#16) = 1#1) : ∃ q : ℝ, a = q := by
  have top_eq : Ideal.ofBits .bf16 0x7F80#16 = ⊤ := by simp [Ideal.ofBits, Ideal.ieee]
  rw [top_eq] at h
  have hlt : max a (-a) < ⊤ := by
    by_contra hn
    simp [Ideal.cmp, hn] at h
  induction a using EReal.rec with
  | bot => simp at hlt
  | top => simp at hlt
  | coe q => exact ⟨q, rfl⟩

/-- A word from zero to below thirty-two is an expert's number. -/
theorem expert_of_word (w : BitVec 32) (h₀ : IntOp.cmpi .sge w 0#32 = 1#1) (h₁ : IntOp.cmpi .slt w 32#32 = 1#1) :
    ∃ e : Fin 32, w = BitVec.ofNat 32 e.val := by
  have ones : ∀ b : Bool, BitVec.ofBool b = 1#1 → b = true := by decide
  have a₀ : (0#32).toInt ≤ w.toInt := by
    have : (0#32).sle w = true := ones _ h₀
    rwa [BitVec.sle_eq_decide, decide_eq_true_eq] at this
  have a₁ : w.toInt < (32#32).toInt := by
    have : w.slt 32#32 = true := ones _ h₁
    rwa [BitVec.slt_eq_decide, decide_eq_true_eq] at this
  have z₀ : (0#32).toInt = 0 := by decide
  have z₁ : (32#32).toInt = 32 := by decide
  rw [z₀] at a₀; rw [z₁] at a₁
  have hw := w.isLt
  rw [BitVec.toInt_eq_toNat_cond] at a₀ a₁
  have hb : w.toNat < 32 := by
    split_ifs at a₀ a₁ <;> omega
  exact ⟨⟨w.toNat, hb⟩, by simp⟩

instance : Subsingleton Cert.Pre_routed_KernelIdeal.S_.Idx := ⟨fun _ _ => funext fun k => k.elim0⟩

open Cert.Pre_routed_KernelIdeal in
theorem routed_read [Cert.Pre_routed_KernelIdeal.Facts] (x : FVec Ideal S2048x512 .bf16) (r : FVec Ideal S512x32 .bf16) (ix : IVec S2048x2 32)
    (W : FVec Ideal S8x512x1024 .bf16) (h : Cert.Pre_routed_KernelIdeal.fn (F := Ideal) x r ix W = fun _ => 1#1) :
    (∀ i, ∃ q : ℝ, x i = (q : EReal)) ∧ (∀ i, ∃ q : ℝ, r i = (q : EReal)) ∧ ∀ i, ∃ e : Fin 32, ix i = BitVec.ofNat 32 e.val := by
  have h0 := congrFun h ValueIdx.ix0
  obtain ⟨h12, h3⟩ := IntOp.andi_eq_one.1 h0
  obtain ⟨h1, h2⟩ := IntOp.andi_eq_one.1 h12
  refine ⟨fun i => ?_, fun i => ?_, fun i => ?_⟩
  · exact real_of_below (x i) (Host.reduce_andi_all _ _ _ _ _ h1 i)
  · exact real_of_below (r i) (Host.reduce_andi_all _ _ _ _ _ h2 i)
  · obtain ⟨a, b⟩ := IntOp.andi_eq_one.1 (Host.reduce_andi_all _ _ _ _ _ h3 i)
    exact expert_of_word (ix i) a b

end Cert.Moe

end
-- ==== Proof.Frames.lean ====
/-
# The three frames

Each program runs to the end with its arguments unchanged and every counter at zero.  The kernel as written and the kernel
read in exact arithmetic are one text, so the one run serves both.
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.Moe

open Idealize.ShloMosaic Idealize.SL.Sem
open Cert.KernelIdeal.Moe

attribute [local instance] Cert.Kernel.Gen.facts Cert.KernelIdeal.Gen.facts Cert.ReferenceIdeal.Gen.facts

/-- The kernel's arguments end as they began. -/
theorem kept {F : FTy → Type} [FloatOps F] (m : (ℓ : Loc Cert.KernelIdeal.nD Cert.KernelIdeal.τ Cert.KernelIdeal.sig) → Buf (Elt F) ℓ)
    (ρ : Dev Cert.KernelIdeal.nD → PrngReg) (r : PUnit × MemSt Cert.KernelIdeal.nD Cert.KernelIdeal.τ Cert.KernelIdeal.sig (Elt F)) (h : QC m ρ r) (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
    ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
    ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
    ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3) :=
  ⟨(h c (0 : Fin 5)).trans (final_0 m ρ c), (h c (1 : Fin 5)).trans (final_1 m ρ c), (h c (2 : Fin 5)).trans (final_2 m ρ c),
    (h c (3 : Fin 5)).trans (final_3 m ρ c)⟩

theorem run_kept {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono (fun r h => ⟨kept m ρ r h.1, h.2⟩) (run_main m ρ)

set_option maxRecDepth 60000

/-- The two readings have one body. -/
theorem body_eq : @Cert.Kernel.cc0_body Bits _ _ = @Cert.KernelIdeal.cc0_body Bits _ _ := by
  delta Cert.Kernel.cc0_body Cert.KernelIdeal.cc0_body
  rfl

/-- The two readings give the body's label one meaning. -/
theorem labels_eq : Cert.Kernel.defs₀ (F := Bits) = Cert.KernelIdeal.defs₀ (F := Bits) := by
  delta Cert.Kernel.defs₀ Cert.KernelIdeal.defs₀
  refine congrArg Defs.onTc ?_
  funext l a
  match l, a with
  | 0, (t, s) =>
    exact congrFun (congrFun (congrFun (congrFun (congrFun (congrFun (congrFun (congrFun (congrFun (congrFun (congrFun (congrFun
      (congrFun (congrFun (congrFun (congrFun (congrFun body_eq _) _) _) _) _) _) _) _) _) _) _) _) _) _) _) _) _
  | ⟨_ + 1, h⟩, _ => exact absurd h (Nat.not_lt.2 (Nat.le_add_left _ _))

theorem defs_eq : Cert.Kernel.defs (F := Bits) = Cert.KernelIdeal.defs (F := Bits) :=
  congrArg (Pipeline.defs (Cert.KernelIdeal.pcfgs (F := Bits))) labels_eq

theorem frame_kernel : Cert.quiescent_Kernel := fun m ρ _ => by
  have h := run_kept (F := Bits) m ρ
  rw [← defs_eq] at h
  exact h

theorem frame_ideal : Cert.quiescent_KernelIdeal := fun m ρ _ => run_kept (F := Ideal) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Moe

end
-- ==== Proof.Agree.lean ====
/-
# The kernel's result is the reference's

Of finite rows and a finite router, and indices that name experts, the sum of the four devices' shares is the reference's
mixture of the two picked experts, element by element.
-/
module

public import proofs.«01_k».proof.Proof.Products
public import proofs.«01_k».proof.Proof.Reference
public import proofs.«01_k».proof.Proof.Routed
public import proofs.«01_k».proof.Proof.Frames

@[expose] public section

set_option maxRecDepth 20000

noncomputable section

namespace Cert.Moe

open Idealize.ShloMosaic Idealize.SL.Sem
open Idealize.ShloMosaic.ValueIdx
open Cert.KernelIdeal.Moe Cert.ReferenceIdeal.Moe

attribute [local instance] Cert.Kernel.Gen.facts Cert.KernelIdeal.Gen.facts Cert.ReferenceIdeal.Gen.facts routed_kernel routed_reference

/-- A device's weight, of positive probabilities, is a real number. -/
theorem weight_coe (p : Fin 32 → ℝ) (hp : ∀ e, 0 < p e) (e₀ e₁ : Fin 32) (c : Fin 4) (j : Fin 8) :
    weight (fun e => (p e : EReal)) e₀ e₁ c j
      = (((if e₀ = expert c j then p e₀ / (p e₀ + p e₁) else 0) + (if e₁ = expert c j then p e₁ / (p e₀ + p e₁) else 0) : ℝ) : EReal) := by
  unfold weight
  have num : ((if e₀ = expert c j then (p e₀ : EReal) else 0) + (if e₁ = expert c j then (p e₁ : EReal) else 0))
      = (((if e₀ = expert c j then p e₀ else 0) + (if e₁ = expert c j then p e₁ else 0) : ℝ) : EReal) := by
    split_ifs <;> simp
  rw [num, share_coe (hp e₀) (hp e₁)]
  congr 1
  split_ifs <;> simp [add_div]

section Element

variable (m : (ℓ : Loc Cert.KernelIdeal.nD Cert.KernelIdeal.τ Cert.KernelIdeal.sig) → Buf (Elt Ideal) ℓ)
  (x : FVec Ideal Cert.ReferenceIdeal.S2048x512 .bf16) (r : FVec Ideal Cert.ReferenceIdeal.S512x32 .bf16)
  (ix : IVec Cert.ReferenceIdeal.S2048x2 32) (W : FVec Ideal Cert.ReferenceIdeal.S32x512x1024 .bf16)

/-- One element of the kernel's result. -/
theorem out_element
    (hx : ∀ c i d, xAt m c i d = x (ix2 i d)) (hr : ∀ c d e, rAt m c d e = r (ix2 d e)) (hi : ∀ c i b, iAt m c i b = ix (ix2 i b))
    (hW : ∀ c j d f, wAt m c j d f = W (ix3 (expert c j) d f))
    (fx : ∀ i, ∃ q : ℝ, x i = (q : EReal)) (fr : ∀ i, ∃ q : ℝ, r i = (q : EReal))
    (k : Fin 4) (n : Fin 512) (h : Fin 2) (f : Fin 512) (e₀ e₁ : Fin 32)
    (h₀ : ix (ix2 (row k n) 0) = BitVec.ofNat 32 e₀.val) (h₁ : ix (ix2 (row k n) 1) = BitVec.ofNat 32 e₁.val) :
    outV m (ix2 (row k n) (half h f)) = refOut x r ix W (ix2 (row k n) (half h f)) := by
  have hs : ∀ c, sAt m c (row k n) = rowScores x r (row k n) := fun c =>
    funext fun e => Finset.sum_congr rfl fun d _ => congrArg₂ (fun a b : EReal => a * b) (hx c (row k n) d) (hr c d e)
  have fs : ∀ e, ∃ q : ℝ, rowScores x r (row k n) e = q := by
    intro e
    choose a ha using fun d : Fin 512 => fx (ix2 (row k n) d)
    choose b hb using fun d : Fin 512 => fr (ix2 d e)
    refine ⟨∑ d, a d * b d, ?_⟩
    rw [coe_sum]
    exact Finset.sum_congr rfl fun d _ => by rw [ha, hb, EReal.coe_mul]
  obtain ⟨p, hp, pe⟩ := prob_coe _ fs
  have hpr : prob (rowScores x r (row k n)) = fun e => (p e : EReal) := funext pe
  have share_nonneg : ∀ e, 0 ≤ p e / (p e₀ + p e₁) := fun e => (div_pos (hp e) (add_pos (hp e₀) (hp e₁))).le
  rw [refOut_apply x r ix W (row k n) (half h f) e₀ e₁ h₀ h₁, hpr]
  dsimp only
  rw [share_coe (hp e₀) (hp e₁), share_coe (hp e₀) (hp e₁)]
  rw [← mix (fun d => x (ix2 (row k n) d)) (fun e d => W (ix3 e d (half h f))) (share_nonneg e₀) (share_nonneg e₁) e₀ e₁]
  refine (outV_apply m h k n f).trans (Finset.sum_congr rfl fun c _ => ?_)
  refine (part_apply m c h k n f e₀ e₁ ((hi c _ 0).trans h₀) ((hi c _ 1).trans h₁)).trans ?_
  refine Finset.sum_congr rfl fun j _ => Finset.sum_congr rfl fun d _ => ?_
  rw [hx, hW, hs, hpr, weight_coe p hp]

theorem out_eq
    (hx : ∀ c i d, xAt m c i d = x (ix2 i d)) (hr : ∀ c d e, rAt m c d e = r (ix2 d e)) (hi : ∀ c i b, iAt m c i b = ix (ix2 i b))
    (hW : ∀ c j d f, wAt m c j d f = W (ix3 (expert c j) d f))
    (fx : ∀ i, ∃ q : ℝ, x i = (q : EReal)) (fr : ∀ i, ∃ q : ℝ, r i = (q : EReal)) (fi : ∀ i, ∃ e : Fin 32, ix i = BitVec.ofNat 32 e.val) :
    outV m = refOut x r ix W := by
  funext y
  obtain ⟨i, f, rfl⟩ : ∃ (i : Fin 2048) (f : Fin 1024), y = ix2 i f := ⟨y 0, y 1, eq_ix2 y⟩
  obtain ⟨k, n, rfl⟩ : ∃ (k : Fin 4) (n : Fin 512), i = row k n :=
    ⟨⟨i.val / 512, by omega⟩, ⟨i.val % 512, by omega⟩, Fin.ext (by show i.val = 512 * (i.val / 512) + i.val % 512; omega)⟩
  obtain ⟨h, g, rfl⟩ : ∃ (h : Fin 2) (g : Fin 512), f = half h g :=
    ⟨⟨f.val / 512, by omega⟩, ⟨f.val % 512, by omega⟩, Fin.ext (by show f.val = 512 * (f.val / 512) + f.val % 512; omega)⟩
  obtain ⟨e₀, h₀⟩ := fi (ix2 (row k n) 0)
  obtain ⟨e₁, h₁⟩ := fi (ix2 (row k n) 1)
  exact out_element m x r ix W hx hr hi hW fx fr k n h g e₀ e₁ h₀ h₁

end Element

/-- Device `c`'s experts are those numbered from `8 * c`. -/
theorem block_at (W : FVec Ideal Cert.ReferenceIdeal.S32x512x1024 .bf16) (c : Fin 4) (j : Fin 8) (d : Fin 512) (f : Fin 1024) :
    Layout.block ⟨3, ![8, 512, 1024]⟩ ⟨3, ![32, 512, 1024]⟩ 0 4 c W (by decide) (ix3 j d f) = W (ix3 (expert c j) d f) := by
  rw [Layout.block_apply]
  refine congrArg W ?_
  funext a; apply Fin.ext
  match a with
  | ⟨0, _⟩ => show c.val * 8 + j.val = 8 * c.val + j.val; omega
  | ⟨1, _⟩ => rfl
  | ⟨2, _⟩ => rfl

/-- The kernel, in exact arithmetic, computes the reference on every device. -/
theorem agree : Cert.algebraic_KernelIdeal_ReferenceIdeal_pre_routed_KernelIdeal := by
  intro m g m' g' hpre hargs
  obtain ⟨fx, fr, fi⟩ := routed_read _ _ _ _ (hpre 0)
  have e0 := (hargs 0).1
  have e1 := (hargs 0).2.1
  have e2 := (hargs 0).2.2.1
  refine ⟨Cert.ReferenceIdeal.Value.res_main_v44 m' 0, ?_, ?_⟩
  · refine (θ_run Cert.KernelIdeal.defs _ _).mono (fun q h c => ⟨?_, kept m g q h.1 c⟩) (run_main m g)
    refine (h.1 c (4 : Fin 5)).trans ((final_4 m g c).trans ?_)
    rw [res_eq]
    refine out_eq m _ _ _ _ ?_ ?_ ?_ ?_ ?_ ?_ ?_
    · exact fun c i d => congrFun ((inX_eq m c).trans (hargs c).1) (ix2 i d)
    · exact fun c d e => congrFun ((inR_eq m c).trans (hargs c).2.1) (ix2 d e)
    · exact fun c i b => congrFun ((inI_eq m c).trans (hargs c).2.2.1) (ix2 i b)
    · exact fun c j d f => (congrFun ((inW_eq m c).trans (hargs c).2.2.2) (ix3 j d f)).trans (block_at _ c j d f)
    · rw [e0] at fx; exact fx
    · rw [e1] at fr; exact fr
    · rw [e2] at fi; exact fi
  · exact (θ_run Cert.ReferenceIdeal.defs _ _).mono (fun q h => h 0) (Cert.ReferenceIdeal.Value.run (F := Ideal) m' g')

end Cert.Moe

end
-- ==== Proof.lean ====
/-
# The claim

The witnesses of the programs' stated facts, then the claims in their order.  A frame under the precondition follows from
the frame without it.
-/
module

public import proofs.«01_k».proof.Defs
public import proofs.«01_k».proof.Proof.Agree

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Moe.routed_kernel, Cert.Moe.routed_reference,
  Cert.Moe.frame_kernel, Cert.Moe.frame_ideal, fun m ρ _ => Cert.Moe.frame_ideal m ρ trivial,
  Cert.Moe.frame_reference, fun m ρ _ => Cert.Moe.frame_reference m ρ trivial, trivial, Cert.Moe.agree⟩

end Cert.Proof

end
